-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v26) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)) (v4 : (c : Dev Cert.Kernel7Ideal.nD) → Buf (Elt Ideal) ((c.tc : Thread Cert.Kernel7Ideal.nD Cert.Kernel7Ideal.τ).loc Cert.Kernel7Ideal.main_v14_4)) (v5 : (c : Dev Cert.Kernel7Ideal.nD) → Buf (Elt Ideal) ((c.tc : Thread Cert.Kernel7Ideal.nD Cert.Kernel7Ideal.τ).loc Cert.Kernel7Ideal.main_v14_5)) (v6 : (c : Dev Cert.Kernel7Ideal.nD) → Buf (Elt Ideal) ((c.tc : Thread Cert.Kernel7Ideal.nD Cert.Kernel7Ideal.τ).loc Cert.Kernel7Ideal.main_v14_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_v14_4) = v4 c
          ∧ r.2.mem ((c.tc : Thread Cert.Kernel7Ideal.nD Cert.Kernel7Ideal.τ).loc Cert.Kernel7Ideal.main_v14_5) = v5 c
          ∧ r.2.mem ((c.tc : Thread Cert.Kernel7Ideal.nD Cert.Kernel7Ideal.τ).loc Cert.Kernel7Ideal.main_v14_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_v18) = v3 c
          ∧ r.2.mem ((c.tc : Thread Cert.Reference7Ideal.nD Cert.Reference7Ideal.τ).loc Cert.Reference7Ideal.main_v19) = v4 c
          ∧ r.2.mem ((c.tc : Thread Cert.Reference7Ideal.nD Cert.Reference7Ideal.τ).loc Cert.Reference7Ideal.main_v20) = v5 c
          ∧ r.2.mem ((c.tc : Thread Cert.Reference7Ideal.nD Cert.Reference7Ideal.τ).loc Cert.Reference7Ideal.main_v24) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v78_0)) (v1 : (c : Dev Cert.Kernel8Ideal.nD) → Buf (Elt Ideal) ((c.tc : Thread Cert.Kernel8Ideal.nD Cert.Kernel8Ideal.τ).loc Cert.Kernel8Ideal.main_v78_1)) (v2 : (c : Dev Cert.Kernel8Ideal.nD) → Buf (Elt Ideal) ((c.tc : Thread Cert.Kernel8Ideal.nD Cert.Kernel8Ideal.τ).loc Cert.Kernel8Ideal.main_v78_2)) (v3 : (c : Dev Cert.Kernel8Ideal.nD) → Buf (Elt Ideal) ((c.tc : Thread Cert.Kernel8Ideal.nD Cert.Kernel8Ideal.τ).loc Cert.Kernel8Ideal.main_v78_3)) (v4 : (c : Dev Cert.Kernel8Ideal.nD) → Buf (Elt Ideal) ((c.tc : Thread Cert.Kernel8Ideal.nD Cert.Kernel8Ideal.τ).loc Cert.Kernel8Ideal.main_v78_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v78_0) = v0 c
          ∧ r.2.mem ((c.tc : Thread Cert.Kernel8Ideal.nD Cert.Kernel8Ideal.τ).loc Cert.Kernel8Ideal.main_v78_1) = v1 c
          ∧ r.2.mem ((c.tc : Thread Cert.Kernel8Ideal.nD Cert.Kernel8Ideal.τ).loc Cert.Kernel8Ideal.main_v78_2) = v2 c
          ∧ r.2.mem ((c.tc : Thread Cert.Kernel8Ideal.nD Cert.Kernel8Ideal.τ).loc Cert.Kernel8Ideal.main_v78_3) = v3 c
          ∧ r.2.mem ((c.tc : Thread Cert.Kernel8Ideal.nD Cert.Kernel8Ideal.τ).loc Cert.Kernel8Ideal.main_v78_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v92) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v98) = v2 c
          ∧ r.2.mem ((c.tc : Thread Cert.Reference8Ideal.nD Cert.Reference8Ideal.τ).loc Cert.Reference8Ideal.main_v103) = v3 c
          ∧ r.2.mem ((c.tc : Thread Cert.Reference8Ideal.nD Cert.Reference8Ideal.τ).loc Cert.Reference8Ideal.main_v107) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v50) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)) (v2 : (c : Dev Cert.Kernel10Ideal.nD) → Buf (Elt Ideal) ((c.tc : Thread Cert.Kernel10Ideal.nD Cert.Kernel10Ideal.τ).loc Cert.Kernel10Ideal.main_v13_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_v13_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v65) = v0 c
          ∧ r.2.mem ((c.tc : Thread Cert.Reference10Ideal.nD Cert.Reference10Ideal.τ).loc Cert.Reference10Ideal.main_v66) = v1 c
          ∧ r.2.mem ((c.tc : Thread Cert.Reference10Ideal.nD Cert.Reference10Ideal.τ).loc Cert.Reference10Ideal.main_v67) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_qk.lean ====
abbrev S16512x1024 : Shape := ⟨2, ![16512, 1024]⟩
abbrev S_ : Shape := ⟨0, ![]⟩

class Facts : Prop where
  bcast_S_S16512x1024 : S_.BroadcastsInDim S16512x1024 (![] : Fin 0 → Fin S16512x1024.rank)
  bitsLt_bf16_f32 : FTy.bits .bf16 < FTy.bits .f32

variable [Facts]

def fn {F : FTy → Type} [FloatOps F] (main_arg0 : FVec F S16512x1024 .f32) (main_arg1 : FVec F S16512x1024 .bf16) (main_arg2 : FVec F S16512x1024 .bf16) : IVec S16512x1024 1 :=
  let main_v0 : FVec F S16512x1024 .f32 := Host.absf main_arg0
  let main_cst : FVec F S_ .f32 := constant S_ .f32 0x7F800000#32
  let main_v1 : FVec F S16512x1024 .f32 := broadcastInDim S16512x1024 ![] bcast_S_S16512x1024 main_cst
  let main_v2 : IVec S16512x1024 1 := cmpf .olt main_v0 main_v1
  let main_v3 : FVec F S16512x1024 .f32 := (extf .f32 · bitsLt_bf16_f32) main_arg1
  let main_v4 : FVec F S16512x1024 .f32 := Host.absf main_v3
  let main_cst_0 : FVec F S_ .f32 := constant S_ .f32 0x7F800000#32
  let main_v5 : FVec F S16512x1024 .f32 := broadcastInDim S16512x1024 ![] bcast_S_S16512x1024 main_cst_0
  let main_v6 : IVec S16512x1024 1 := cmpf .olt main_v4 main_v5
  let main_v7 : IVec S16512x1024 1 := andi main_v2 main_v6
  main_v7
-- ==== Kernel.lean ====
abbrev S16512x1024 : Shape := ⟨2, ![16512, 1024]⟩
abbrev S16384x512 : Shape := ⟨2, ![16384, 512]⟩
abbrev S256x1024 : Shape := ⟨2, ![256, 1024]⟩
abbrev S2048x1024 : Shape := ⟨2, ![2048, 1024]⟩
abbrev S256x512 : Shape := ⟨2, ![256, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16512x1024, .f32⟩
  | .hbm, ⟨1, _⟩ => ⟨S16512x1024, .bf16⟩
  | .hbm, ⟨2, _⟩ => ⟨S16512x1024, .bf16⟩
  | .hbm, ⟨3, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x512, .f32⟩
  | .local _ .vmem, ⟨7, _⟩ => ⟨S256x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_40 : BitVec 32 := 1#32
  ⟨c0_i32, v66, c1_i32_40⟩
def k0_mult1 (i : grid0.Coords) (k0_t1 : Fin (k0_t1_loop i).trips) : BitVec 32 :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  v97
def k0_off1 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v104 : Index := Scalar.indexCast v98
  let c0_55 : Index := 0#32
  ![v104.toNat, 0]
def k0_off2 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v109 : Index := Scalar.indexCast v98
  let c128_58 : Index := 128#32
  ![v109.toNat, 128]
def k0_off3 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v114 : Index := Scalar.indexCast v98
  let c256_61 : Index := 256#32
  ![v114.toNat, 256]
def k0_off4 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v119 : Index := Scalar.indexCast v98
  let c384_64 : Index := 384#32
  ![v119.toNat, 384]
def k0_off5 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v124 : Index := Scalar.indexCast v98
  let c512_67 : Index := 512#32
  ![v124.toNat, 512]
def k0_off6 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v129 : Index := Scalar.indexCast v98
  let c640_70 : Index := 640#32
  ![v129.toNat, 640]
def k0_off7 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v134 : Index := Scalar.indexCast v98
  let c768_73 : Index := 768#32
  ![v134.toNat, 768]
def k0_off8 (i : grid0.Coords) (k0_t1 : Fin (k0_t1_loop i).trips) : Fin 2 → Nat :=
  let c0_i32 : BitVec 32 := 0#32
  let c1_i32_40 : BitVec 32 := 1#32
  let arg6 : BitVec 32 := Scf.iv c0_i32 c1_i32_40 k0_t1
  let c256_i32 : BitVec 32 := 256#32
  let v97 : BitVec 32 := Scalar.muli arg6 c256_i32
  let v98 : BitVec 32 := v97
  let v139 : Index := Scalar.indexCast v98
  let c896_76 : Index := 896#32
  ![v139.toNat, 896]
@[reducible] def k0_t2_loop (i : grid0.Coords) : Scf.Loop 32 :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let v63 : BitVec 32 := Scalar.addi c0_i32 v62
  let c1_i32_41 : BitVec 32 := 1#32
  ⟨v66, v63, c1_i32_41⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  v97
def k0_off9 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v104 : Index := Scalar.indexCast v98
  let c0_55 : Index := 0#32
  ![v104.toNat, 0]
def k0_off10 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v109 : Index := Scalar.indexCast v98
  let c128_58 : Index := 128#32
  ![v109.toNat, 128]
def k0_off11 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v114 : Index := Scalar.indexCast v98
  let c256_61 : Index := 256#32
  ![v114.toNat, 256]
def k0_off12 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v119 : Index := Scalar.indexCast v98
  let c384_64 : Index := 384#32
  ![v119.toNat, 384]
def k0_off13 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v124 : Index := Scalar.indexCast v98
  let c512_67 : Index := 512#32
  ![v124.toNat, 512]
def k0_off14 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v129 : Index := Scalar.indexCast v98
  let c640_70 : Index := 640#32
  ![v129.toNat, 640]
def k0_off15 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v134 : Index := Scalar.indexCast v98
  let c768_73 : Index := 768#32
  ![v134.toNat, 768]
def k0_off16 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v61 : BitVec 32 := Scalar.addi arg1 c1_i32
  let v62 : BitVec 32 := Scalar.subi v61 c0_i32
  let c1_i32_39 : BitVec 32 := 1#32
  let v64 : BitVec 32 := Scalar.divsi v62 c1_i32_39
  let v65 : BitVec 32 := Scalar.muli v64 c1_i32_39
  let v66 : BitVec 32 := Scalar.addi c0_i32 v65
  let c1_i32_41 : BitVec 32 := 1#32
  let arg6 : BitVec 32 := Scf.iv v66 c1_i32_41 k0_t2
  let c256_i32 : BitVec 32 := 256#32
  let v97 : BitVec 32 := Scalar.muli arg6 c256_i32
  let v98 : BitVec 32 := v97
  let v139 : Index := Scalar.indexCast v98
  let c896_76 : Index := 896#32
  ![v139.toNat, 896]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16512x1024 : Shape := ⟨2, ![16512, 1024]⟩
abbrev S16384x1024 : Shape := ⟨2, ![16384, 1024]⟩
abbrev S8x2048x8x128 : Shape := ⟨4, ![8, 2048, 8, 128]⟩
abbrev S8x2048x8x64 : Shape := ⟨4, ![8, 2048, 8, 64]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .bf16⟩
  | .hbm, ⟨2, _⟩ => ⟨S16512x1024, .bf16⟩
  | .hbm, ⟨3, _⟩ => ⟨S16384x1024, .f32⟩
  | .hbm, ⟨4, _⟩ => ⟨S8x2048x8x128, .f32⟩
  | .hbm, ⟨5, _⟩ => ⟨S16384x1024, .bf16⟩
  | .hbm, ⟨6, _⟩ => ⟨S16384x1024, .f32⟩
  | .hbm, ⟨7, _⟩ => ⟨S8x2048x8x128, .f32⟩
  | .hbm, ⟨8, _⟩ => ⟨S16384x1024, .bf16⟩
  | .hbm, ⟨9, _⟩ => ⟨S16384x1024, .f32⟩
  | .hbm, ⟨10, _⟩ => ⟨S8x2048x8x128, .f32⟩
  | .hbm, ⟨11, _⟩ => ⟨S8x2048x8x64, .f32⟩
  | .hbm, ⟨12, _⟩ => ⟨S2048, .i32⟩
  | .hbm, ⟨13, _⟩ => ⟨S8x8x2048x2048, .f32⟩
  | .hbm, ⟨14, _⟩ => ⟨S_, .f32⟩
  | .hbm, ⟨15, _⟩ => ⟨S8x8x2048x2048, .f32⟩
  | .hbm, ⟨16, _⟩ => ⟨S8x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x64x2048, .f32⟩
  | .hbm, ⟨42, _⟩ => ⟨S8x2048x8x64, .f32⟩
  | .hbm, ⟨43, _⟩ => ⟨S16384x512, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel2.lean ====
abbrev S16512x1024 : Shape := ⟨2, ![16512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024x256 : Shape := ⟨2, ![1024, 256]⟩
abbrev S384x256 : Shape := ⟨2, ![384, 256]⟩
abbrev S256x1024 : Shape := ⟨2, ![256, 1024]⟩

abbrev nBuf : Space → Nat
  | .hbm => 11
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16512x1024 : Shape := ⟨2, ![16512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16512x2816 : Shape := ⟨2, ![16512, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x2816, .f32⟩
  | .hbm, ⟨22, _⟩ => ⟨S16512x2816, .f32⟩
  | .hbm, ⟨23, _⟩ => ⟨S16512x2816, .f32⟩
  | .hbm, ⟨24, _⟩ => ⟨S_, .f32⟩
  | .hbm, ⟨25, _⟩ => ⟨S16512x2816, .f32⟩
  | .hbm, ⟨26, _⟩ => ⟨S16512x2816, .f32⟩
  | .hbm, ⟨27, _⟩ => ⟨S_, .f32⟩
  | .hbm, ⟨28, _⟩ => ⟨S16512x2816, .f32⟩
  | .hbm, ⟨29, _⟩ => ⟨S16512x2816, .f32⟩
  | .hbm, ⟨30, _⟩ => ⟨S16512x2816, .f32⟩
  | .hbm, ⟨31, _⟩ => ⟨S16512x2816, .f32⟩
  | .hbm, ⟨32, _⟩ => ⟨S16512x2816, .f32⟩
  | .hbm, ⟨33, _⟩ => ⟨S16512x1024, .f32⟩
  | .hbm, ⟨34, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S16512x1024 : Shape := ⟨2, ![16512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024x256 : Shape := ⟨2, ![1024, 256]⟩
abbrev S384x256 : Shape := ⟨2, ![384, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16512x1024 : Shape := ⟨2, ![16512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16512x2816 : Shape := ⟨2, ![16512, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16512x1024, .f32⟩
  | .hbm, ⟨7, _⟩ => ⟨S_, .f32⟩
  | .hbm, ⟨8, _⟩ => ⟨S16512, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S16512x1, .f32⟩
  | .hbm, ⟨17, _⟩ => ⟨S16512x1024, .f32⟩
  | .hbm, ⟨18, _⟩ => ⟨S16512x1024, .f32⟩
  | .hbm, ⟨19, _⟩ => ⟨S1x1024, .f32⟩
  | .hbm, ⟨20, _⟩ => ⟨S16512x1024, .f32⟩
  | .hbm, ⟨21, _⟩ => ⟨S16512x1024, .f32⟩
  | .hbm, ⟨22, _⟩ => ⟨S16512x2816, .f32⟩
  | .hbm, ⟨23, _⟩ => ⟨S16512x2816, .f32⟩
  | .hbm, ⟨24, _⟩ => ⟨S16512x2816, .f32⟩
  | .hbm, ⟨25, _⟩ => ⟨S_, .f32⟩
  | .hbm, ⟨26, _⟩ => ⟨S16512x2816, .f32⟩
  | .hbm, ⟨27, _⟩ => ⟨S16512x2816, .f32⟩
  | .hbm, ⟨28, _⟩ => ⟨S_, .f32⟩
  | .hbm, ⟨29, _⟩ => ⟨S16512x2816, .f32⟩
  | .hbm, ⟨30, _⟩ => ⟨S16512x2816, .f32⟩
  | .hbm, ⟨31, _⟩ => ⟨S16512x2816, .f32⟩
  | .hbm, ⟨32, _⟩ => ⟨S16512x2816, .f32⟩
  | .hbm, ⟨33, _⟩ => ⟨S16512x2816, .f32⟩
  | .hbm, ⟨34, _⟩ => ⟨S16512x1024, .f32⟩
  | .hbm, ⟨35, _⟩ => ⟨S16512x1024, .f32⟩
  | .hbm, ⟨36, _⟩ => ⟨S16512x1024, .f32⟩
  | .hbm, ⟨37, _⟩ => ⟨S_, .f32⟩
  | .hbm, ⟨38, _⟩ => ⟨S16512, .f32⟩
  | .hbm, ⟨39, _⟩ => ⟨S16512x1, .f32⟩
  | .hbm, ⟨40, _⟩ => ⟨S_, .f32⟩
  | .hbm, ⟨41, _⟩ => ⟨S16512x1, .f32⟩
  | .hbm, ⟨42, _⟩ => ⟨S16512x1, .f32⟩
  | .hbm, ⟨43, _⟩ => ⟨S_, .f32⟩
  | .hbm, ⟨44, _⟩ => ⟨S16512x1, .f32⟩
  | .hbm, ⟨45, _⟩ => ⟨S16512x1, .f32⟩
  | .hbm, ⟨46, _⟩ => ⟨S16512x1, .f32⟩
  | .hbm, ⟨47, _⟩ => ⟨S16512x1024, .f32⟩
  | .hbm, ⟨48, _⟩ => ⟨S16512x1024, .f32⟩
  | .hbm, ⟨49, _⟩ => ⟨S1x1024, .f32⟩
  | .hbm, ⟨50, _⟩ => ⟨S16512x1024, .f32⟩
  | .hbm, ⟨51, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel4.lean ====
abbrev S8x2048x1024 : Shape := ⟨3, ![8, 2048, 1024]⟩
abbrev S128x1x1024 : Shape := ⟨3, ![128, 1, 1024]⟩
abbrev S1x1024 : Shape := ⟨2, ![1, 1024]⟩
abbrev S1x1024x4416 : Shape := ⟨3, ![1, 1024, 4416]⟩
abbrev S16384x1024 : Shape := ⟨2, ![16384, 1024]⟩
abbrev S128x1024 : Shape := ⟨2, ![128, 1024]⟩
abbrev S16512x1024 : Shape := ⟨2, ![16512, 1024]⟩
abbrev S1024x4416 : Shape := ⟨2, ![1024, 4416]⟩
abbrev S1024x1024 : Shape := ⟨2, ![1024, 1024]⟩
abbrev S1024x1536 : Shape := ⟨2, ![1024, 1536]⟩
abbrev S1024x16 : Shape := ⟨2, ![1024, 16]⟩
abbrev S1024x768 : Shape := ⟨2, ![1024, 768]⟩
abbrev S1024x48 : Shape := ⟨2, ![1024, 48]⟩
abbrev S_ : Shape := ⟨0, ![]⟩
abbrev S1024x64 : Shape := ⟨2, ![1024, 64]⟩
abbrev S1024x4480 : Shape := ⟨2, ![1024, 4480]⟩
abbrev S1024 : Shape := ⟨1, ![1024]⟩
abbrev S16512x1536 : Shape := ⟨2, ![16512, 1536]⟩
abbrev S16512x768 : Shape := ⟨2, ![16512, 768]⟩
abbrev S16512x128 : Shape := ⟨2, ![16512, 128]⟩
abbrev S384x1024 : Shape := ⟨2, ![384, 1024]⟩
abbrev S384x1536 : Shape := ⟨2, ![384, 1536]⟩
abbrev S384x768 : Shape := ⟨2, ![384, 768]⟩
abbrev S384x128 : Shape := ⟨2, ![384, 128]⟩
abbrev S384 : Shape := ⟨1, ![384]⟩
abbrev S384x1 : Shape := ⟨2, ![384, 1]⟩
abbrev S1024x512 : Shape := ⟨2, ![1024, 512]⟩
abbrev S384x512 : Shape := ⟨2, ![384, 512]⟩
abbrev S1024x256 : Shape := ⟨2, ![1024, 256]⟩
abbrev S384x256 : Shape := ⟨2, ![384, 256]⟩
abbrev S1024x128 : Shape := ⟨2, ![1024, 128]⟩

abbrev nBuf : Space → Nat
  | .hbm => 25
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S128x1x1024, .f32⟩
  | .hbm, ⟨2, _⟩ => ⟨S1x1024, .f32⟩
  | .hbm, ⟨3, _⟩ => ⟨S1x1024x4416, .f32⟩
  | .hbm, ⟨4, _⟩ => ⟨S16384x1024, .f32⟩
  | .hbm, ⟨5, _⟩ => ⟨S128x1024, .f32⟩
  | .hbm, ⟨6, _⟩ => ⟨S16512x1024, .f32⟩
  | .hbm, ⟨7, _⟩ => ⟨S1024x4416, .f32⟩
  | .hbm, ⟨8, _⟩ => ⟨S1024x1024, .f32⟩
  | .hbm, ⟨9, _⟩ => ⟨S1024x1536, .f32⟩
  | .hbm, ⟨10, _⟩ => ⟨S1024x16, .f32⟩
  | .hbm, ⟨11, _⟩ => ⟨S1024x1024, .f32⟩
  | .hbm, ⟨12, _⟩ => ⟨S1024x768, .f32⟩
  | .hbm, ⟨13, _⟩ => ⟨S1024x48, .f32⟩
  | .hbm, ⟨14, _⟩ => ⟨S_, .f32⟩
  | .hbm, ⟨15, _⟩ => ⟨S1024x64, .f32⟩
  | .hbm, ⟨16, _⟩ => ⟨S1024x4480, .f32⟩
  | .hbm, ⟨17, _⟩ => ⟨S1024, .f32⟩
  | .hbm, ⟨18, _⟩ => ⟨S1x1024, .f32⟩
  | .hbm, ⟨19, _⟩ => ⟨S1024x4480, .bf16⟩
  | .hbm, ⟨20, _⟩ => ⟨S16512x1024, .f32⟩
  | .hbm, ⟨21, _⟩ => ⟨S16512x1536, .f32⟩
  | .hbm, ⟨22, _⟩ => ⟨S16512x1024, .f32⟩
  | .hbm, ⟨23, _⟩ => ⟨S16512x768, .f32⟩
  | .hbm, ⟨24, _⟩ => ⟨S16512x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x4480, .bf16⟩
  | .local _ .vmem, ⟨4, _⟩ => ⟨S384x1024, .f32⟩
  | .local _ .vmem, ⟨5, _⟩ => ⟨S384x1024, .f32⟩
  | .local _ .vmem, ⟨6, _⟩ => ⟨S384x1536, .f32⟩
  | .local _ .vmem, ⟨7, _⟩ => ⟨S384x1536, .f32⟩
  | .local _ .vmem, ⟨8, _⟩ => ⟨S384x1024, .f32⟩
  | .local _ .vmem, ⟨9, _⟩ => ⟨S384x1024, .f32⟩
  | .local _ .vmem, ⟨10, _⟩ => ⟨S384x768, .f32⟩
  | .local _ .vmem, ⟨11, _⟩ => ⟨S384x768, .f32⟩
  | .local _ .vmem, ⟨12, _⟩ => ⟨S384x128, .f32⟩
  | .local _ .vmem, ⟨13, _⟩ => ⟨S384x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x2048x1024 : Shape := ⟨3, ![8, 2048, 1024]⟩
abbrev S128x1x1024 : Shape := ⟨3, ![128, 1, 1024]⟩
abbrev S1x1024 : Shape := ⟨2, ![1, 1024]⟩
abbrev S1x1024x4416 : Shape := ⟨3, ![1, 1024, 4416]⟩
abbrev S16384x1024 : Shape := ⟨2, ![16384, 1024]⟩
abbrev S128x1024 : Shape := ⟨2, ![128, 1024]⟩
abbrev S16512x1024 : Shape := ⟨2, ![16512, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1024x4416 : Shape := ⟨2, ![1024, 4416]⟩
abbrev S16512x4416 : Shape := ⟨2, ![16512, 4416]⟩
abbrev S16512x1536 : Shape := ⟨2, ![16512, 1536]⟩
abbrev S16512x16 : Shape := ⟨2, ![16512, 16]⟩
abbrev S16512x768 : Shape := ⟨2, ![16512, 768]⟩
abbrev S16512x48 : Shape := ⟨2, ![16512, 48]⟩
abbrev S16512x64 : Shape := ⟨2, ![16512, 64]⟩
abbrev S16512x128 : Shape := ⟨2, ![16512, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x1x1024, .f32⟩
  | .hbm, ⟨2, _⟩ => ⟨S1x1024, .f32⟩
  | .hbm, ⟨3, _⟩ => ⟨S1x1024x4416, .f32⟩
  | .hbm, ⟨4, _⟩ => ⟨S16384x1024, .f32⟩
  | .hbm, ⟨5, _⟩ => ⟨S128x1024, .f32⟩
  | .hbm, ⟨6, _⟩ => ⟨S16512x1024, .f32⟩
  | .hbm, ⟨7, _⟩ => ⟨S1024, .f32⟩
  | .hbm, ⟨8, _⟩ => ⟨S16512x1024, .f32⟩
  | .hbm, ⟨9, _⟩ => ⟨S_, .f32⟩
  | .hbm, ⟨10, _⟩ => ⟨S16512, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S16512x1024, .f32⟩
  | .hbm, ⟨20, _⟩ => ⟨S16512x1024, .f32⟩
  | .hbm, ⟨21, _⟩ => ⟨S1x1024, .f32⟩
  | .hbm, ⟨22, _⟩ => ⟨S16512x1024, .f32⟩
  | .hbm, ⟨23, _⟩ => ⟨S16512x1024, .f32⟩
  | .hbm, ⟨24, _⟩ => ⟨S1024x4416, .f32⟩
  | .hbm, ⟨25, _⟩ => ⟨S16512x4416, .f32⟩
  | .hbm, ⟨26, _⟩ => ⟨S16512x1024, .f32⟩
  | .hbm, ⟨27, _⟩ => ⟨S16512x1536, .f32⟩
  | .hbm, ⟨28, _⟩ => ⟨S16512x16, .f32⟩
  | .hbm, ⟨29, _⟩ => ⟨S16512x1024, .f32⟩
  | .hbm, ⟨30, _⟩ => ⟨S16512x768, .f32⟩
  | .hbm, ⟨31, _⟩ => ⟨S16512x48, .f32⟩
  | .hbm, ⟨32, _⟩ => ⟨S_, .f32⟩
  | .hbm, ⟨33, _⟩ => ⟨S16512x64, .f32⟩
  | .hbm, ⟨34, _⟩ => ⟨S16512x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S16512x2048 : Shape := ⟨2, ![16512, 2048]⟩
abbrev S2048x1024 : Shape := ⟨2, ![2048, 1024]⟩
abbrev S16512x1024 : Shape := ⟨2, ![16512, 1024]⟩
abbrev S384x2048 : Shape := ⟨2, ![384, 2048]⟩
abbrev S384x1024 : Shape := ⟨2, ![384, 1024]⟩
abbrev S2048x512 : Shape := ⟨2, ![2048, 512]⟩
abbrev S384x512 : Shape := ⟨2, ![384, 512]⟩

abbrev nBuf : Space → Nat
  | .hbm => 5
  | .vmem => 7
  | .smem => 0
  | _ => 0

abbrev bufTy : (tb : Table) → Fin (tcTables nBuf tb) → BufTy
  | .hbm, ⟨0, _⟩ => ⟨S16512x2048, .f32⟩
  | .hbm, ⟨1, _⟩ => ⟨S2048x1024, .f32⟩
  | .hbm, ⟨2, _⟩ => ⟨S16512x1024, .f32⟩
  | .hbm, ⟨3, _⟩ => ⟨S2048x1024, .bf16⟩
  | .hbm, ⟨4, _⟩ => ⟨S16512x1024, .f32⟩
  | .local _ .vmem, ⟨0, _⟩ => ⟨S384x2048, .f32⟩
  | .local _ .vmem, ⟨1, _⟩ => ⟨S384x2048, .f32⟩
  | .local _ .vmem, ⟨2, _⟩ => ⟨S2048x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel5Ideal.lean ====
abbrev S16512x2048 : Shape := ⟨2, ![16512, 2048]⟩
abbrev S2048x1024 : Shape := ⟨2, ![2048, 1024]⟩
abbrev S16512x1024 : Shape := ⟨2, ![16512, 1024]⟩
abbrev S384x2048 : Shape := ⟨2, ![384, 2048]⟩
abbrev S384x1024 : Shape := ⟨2, ![384, 1024]⟩
abbrev S2048x512 : Shape := ⟨2, ![2048, 512]⟩
abbrev S384x512 : Shape := ⟨2, ![384, 512]⟩

abbrev nBuf : Space → Nat
  | .hbm => 5
  | .vmem => 7
  | .smem => 0
  | _ => 0

abbrev bufTy : (tb : Table) → Fin (tcTables nBuf tb) → BufTy
  | .hbm, ⟨0, _⟩ => ⟨S16512x2048, .f32⟩
  | .hbm, ⟨1, _⟩ => ⟨S2048x1024, .f32⟩
  | .hbm, ⟨2, _⟩ => ⟨S16512x1024, .f32⟩
  | .hbm, ⟨3, _⟩ => ⟨S2048x1024, .bf16⟩
  | .hbm, ⟨4, _⟩ => ⟨S16512x1024, .f32⟩
  | .local _ .vmem, ⟨0, _⟩ => ⟨S384x2048, .f32⟩
  | .local _ .vmem, ⟨1, _⟩ => ⟨S384x2048, .f32⟩
  | .local _ .vmem, ⟨2, _⟩ => ⟨S2048x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16512x2048 : Shape := ⟨2, ![16512, 2048]⟩
abbrev S2048x1024 : Shape := ⟨2, ![2048, 1024]⟩
abbrev S16512x1024 : Shape := ⟨2, ![16512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048x1024, .f32⟩
  | .hbm, ⟨2, _⟩ => ⟨S16512x1024, .f32⟩
  | .hbm, ⟨3, _⟩ => ⟨S16512x1024, .f32⟩
  | .hbm, ⟨4, _⟩ => ⟨S16512x1024, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S16512x1536 : Shape := ⟨2, ![16512, 1536]⟩
abbrev S1536x1024 : Shape := ⟨2, ![1536, 1024]⟩
abbrev S16512x1024 : Shape := ⟨2, ![16512, 1024]⟩
abbrev S384x1536 : Shape := ⟨2, ![384, 1536]⟩
abbrev S384x1024 : Shape := ⟨2, ![384, 1024]⟩
abbrev S1536x512 : Shape := ⟨2, ![1536, 512]⟩
abbrev S384x512 : Shape := ⟨2, ![384, 512]⟩

abbrev nBuf : Space → Nat
  | .hbm => 5
  | .vmem => 7
  | .smem => 0
  | _ => 0

abbrev bufTy : (tb : Table) → Fin (tcTables nBuf tb) → BufTy
  | .hbm, ⟨0, _⟩ => ⟨S16512x1536, .f32⟩
  | .hbm, ⟨1, _⟩ => ⟨S1536x1024, .f32⟩
  | .hbm, ⟨2, _⟩ => ⟨S16512x1024, .f32⟩
  | .hbm, ⟨3, _⟩ => ⟨S1536x1024, .bf16⟩
  | .hbm, ⟨4, _⟩ => ⟨S16512x1024, .f32⟩
  | .local _ .vmem, ⟨0, _⟩ => ⟨S384x1536, .f32⟩
  | .local _ .vmem, ⟨1, _⟩ => ⟨S384x1536, .f32⟩
  | .local _ .vmem, ⟨2, _⟩ => ⟨S1536x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S16512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16512x1536 : Shape := ⟨2, ![16512, 1536]⟩
abbrev S1536x1024 : Shape := ⟨2, ![1536, 1024]⟩
abbrev S16512x1024 : Shape := ⟨2, ![16512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16512x1536, .f32⟩
  | .hbm, ⟨1, _⟩ => ⟨S1536x1024, .f32⟩
  | .hbm, ⟨2, _⟩ => ⟨S16512x1024, .f32⟩
  | .hbm, ⟨3, _⟩ => ⟨S16512x1024, .f32⟩
  | .hbm, ⟨4, _⟩ => ⟨S16512x1024, .f32⟩
  | _, _ => ⟨S16512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S16512x1024 : Shape := ⟨2, ![16512, 1024]⟩
abbrev S1024 : Shape := ⟨1, ![1024]⟩
abbrev S1024x3760 : Shape := ⟨2, ![1024, 3760]⟩
abbrev S1024x512 : Shape := ⟨2, ![1024, 512]⟩
abbrev S1024x1024 : Shape := ⟨2, ![1024, 1024]⟩
abbrev S1024x16 : Shape := ⟨2, ![1024, 16]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x48 : Shape := ⟨2, ![1024, 48]⟩
abbrev S1024x128 : Shape := ⟨2, ![1024, 128]⟩
abbrev S1024x3840 : Shape := ⟨2, ![1024, 3840]⟩
abbrev S1x1024 : Shape := ⟨2, ![1, 1024]⟩
abbrev S16512x512 : Shape := ⟨2, ![16512, 512]⟩
abbrev S16512x384 : Shape := ⟨2, ![16512, 384]⟩
abbrev S16512x256 : Shape := ⟨2, ![16512, 256]⟩
abbrev S16512x128 : Shape := ⟨2, ![16512, 128]⟩
abbrev S384x1024 : Shape := ⟨2, ![384, 1024]⟩
abbrev S384x512 : Shape := ⟨2, ![384, 512]⟩
abbrev S384x384 : Shape := ⟨2, ![384, 384]⟩
abbrev S384x256 : Shape := ⟨2, ![384, 256]⟩
abbrev S384x128 : Shape := ⟨2, ![384, 128]⟩
abbrev S384 : Shape := ⟨1, ![384]⟩
abbrev S384x1 : Shape := ⟨2, ![384, 1]⟩

abbrev nBuf : Space → Nat
  | .hbm => 26
  | .vmem => 18
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x3760, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S1024x16, .f32⟩
  | .hbm, ⟨7, _⟩ => ⟨S1024x1024, .f32⟩
  | .hbm, ⟨8, _⟩ => ⟨S1024x384, .f32⟩
  | .hbm, ⟨9, _⟩ => ⟨S1024x256, .f32⟩
  | .hbm, ⟨10, _⟩ => ⟨S1024x32, .f32⟩
  | .hbm, ⟨11, _⟩ => ⟨S_, .f32⟩
  | .hbm, ⟨12, _⟩ => ⟨S1024x48, .f32⟩
  | .hbm, ⟨13, _⟩ => ⟨S_, .f32⟩
  | .hbm, ⟨14, _⟩ => ⟨S1024x32, .f32⟩
  | .hbm, ⟨15, _⟩ => ⟨S1024x128, .f32⟩
  | .hbm, ⟨16, _⟩ => ⟨S1024x3840, .f32⟩
  | .hbm, ⟨17, _⟩ => ⟨S1x1024, .f32⟩
  | .hbm, ⟨18, _⟩ => ⟨S1024x3840, .bf16⟩
  | .hbm, ⟨19, _⟩ => ⟨S16512x512, .f32⟩
  | .hbm, ⟨20, _⟩ => ⟨S16512x512, .f32⟩
  | .hbm, ⟨21, _⟩ => ⟨S16512x1024, .f32⟩
  | .hbm, ⟨22, _⟩ => ⟨S16512x1024, .f32⟩
  | .hbm, ⟨23, _⟩ => ⟨S16512x384, .f32⟩
  | .hbm, ⟨24, _⟩ => ⟨S16512x256, .f32⟩
  | .hbm, ⟨25, _⟩ => ⟨S16512x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x3840, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x384, .f32⟩
  | .local _ .vmem, ⟨13, _⟩ => ⟨S384x384, .f32⟩
  | .local _ .vmem, ⟨14, _⟩ => ⟨S384x256, .f32⟩
  | .local _ .vmem, ⟨15, _⟩ => ⟨S384x256, .f32⟩
  | .local _ .vmem, ⟨16, _⟩ => ⟨S384x128, .f32⟩
  | .local _ .vmem, ⟨17, _⟩ => ⟨S384x128, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v14_5 : Ref sig .tc := ⟨.hbm, 24, rfl⟩
abbrev main_v14_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16512x1024 : Shape := ⟨2, ![16512, 1024]⟩
abbrev S1024 : Shape := ⟨1, ![1024]⟩
abbrev S1024x3760 : Shape := ⟨2, ![1024, 3760]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16512x3760 : Shape := ⟨2, ![16512, 3760]⟩
abbrev S16512x512 : Shape := ⟨2, ![16512, 512]⟩
abbrev S16512x16 : Shape := ⟨2, ![16512, 16]⟩
abbrev S16512x384 : Shape := ⟨2, ![16512, 384]⟩
abbrev S16512x256 : Shape := ⟨2, ![16512, 256]⟩
abbrev S16512x32 : Shape := ⟨2, ![16512, 32]⟩
abbrev S16512x48 : Shape := ⟨2, ![16512, 48]⟩
abbrev S16512x128 : Shape := ⟨2, ![16512, 128]⟩

abbrev nBuf : Space → Nat
  | .hbm => 33
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x3760, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S16512x3760, .f32⟩
  | .hbm, ⟨20, _⟩ => ⟨S16512x512, .f32⟩
  | .hbm, ⟨21, _⟩ => ⟨S16512x512, .f32⟩
  | .hbm, ⟨22, _⟩ => ⟨S16512x1024, .f32⟩
  | .hbm, ⟨23, _⟩ => ⟨S16512x16, .f32⟩
  | .hbm, ⟨24, _⟩ => ⟨S16512x1024, .f32⟩
  | .hbm, ⟨25, _⟩ => ⟨S16512x384, .f32⟩
  | .hbm, ⟨26, _⟩ => ⟨S16512x256, .f32⟩
  | .hbm, ⟨27, _⟩ => ⟨S16512x32, .f32⟩
  | .hbm, ⟨28, _⟩ => ⟨S_, .f32⟩
  | .hbm, ⟨29, _⟩ => ⟨S16512x48, .f32⟩
  | .hbm, ⟨30, _⟩ => ⟨S_, .f32⟩
  | .hbm, ⟨31, _⟩ => ⟨S16512x32, .f32⟩
  | .hbm, ⟨32, _⟩ => ⟨S16512x128, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel8.lean ====
abbrev S16512x384 : Shape := ⟨2, ![16512, 384]⟩
abbrev S16512x256 : Shape := ⟨2, ![16512, 256]⟩
abbrev S16512x128 : Shape := ⟨2, ![16512, 128]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S1 : Shape := ⟨1, ![1]⟩
abbrev S1x1 : Shape := ⟨2, ![1, 1]⟩
abbrev S128x1 : Shape := ⟨2, ![128, 1]⟩
abbrev S128 : Shape := ⟨1, ![128]⟩
abbrev S128x16 : Shape := ⟨2, ![128, 16]⟩
abbrev S128x64 : Shape := ⟨2, ![128, 64]⟩
abbrev S128x32 : Shape := ⟨2, ![128, 32]⟩
abbrev S128x128 : Shape := ⟨2, ![128, 128]⟩
abbrev S2176x128 : Shape := ⟨2, ![2176, 128]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S1x384 : Shape := ⟨2, ![1, 384]⟩
abbrev S1x256 : Shape := ⟨2, ![1, 256]⟩
abbrev S16512x1024 : Shape := ⟨2, ![16512, 1024]⟩
abbrev S128x384 : Shape := ⟨2, ![128, 384]⟩
abbrev S128x256 : Shape := ⟨2, ![128, 256]⟩
abbrev S128x1024 : Shape := ⟨2, ![128, 1024]⟩

abbrev nBuf : Space → Nat
  | .hbm => 117
  | .vmem => 27
  | .smem => 0
  | _ => 0

abbrev bufTy : (tb : Table) → Fin (tcTables nBuf tb) → BufTy
  | .hbm, ⟨0, _⟩ => ⟨S16512x384, .f32⟩
  | .hbm, ⟨1, _⟩ => ⟨S16512x256, .f32⟩
  | .hbm, ⟨2, _⟩ => ⟨S16512x128, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S2048, .i32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2048, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S_, .f32⟩
  | .hbm, ⟨25, _⟩ => ⟨S2048x64, .f32⟩
  | .hbm, ⟨26, _⟩ => ⟨S_, .f32⟩
  | .hbm, ⟨27, _⟩ => ⟨S2048x32, .f32⟩
  | .hbm, ⟨28, _⟩ => ⟨S2048x128, .f32⟩
  | .hbm, ⟨29, _⟩ => ⟨S_, .f32⟩
  | .hbm, ⟨30, _⟩ => ⟨S2048x64, .f32⟩
  | .hbm, ⟨31, _⟩ => ⟨S2048x16, .f32⟩
  | .hbm, ⟨32, _⟩ => ⟨S_, .f32⟩
  | .hbm, ⟨33, _⟩ => ⟨S2048x16, .f32⟩
  | .hbm, ⟨34, _⟩ => ⟨S_, .f32⟩
  | .hbm, ⟨35, _⟩ => ⟨S2048x32, .f32⟩
  | .hbm, ⟨36, _⟩ => ⟨S2048x128, .f32⟩
  | .hbm, ⟨37, _⟩ => ⟨S_, .f32⟩
  | .hbm, ⟨38, _⟩ => ⟨S2048x64, .f32⟩
  | .hbm, ⟨39, _⟩ => ⟨S_, .f32⟩
  | .hbm, ⟨40, _⟩ => ⟨S2048x16, .f32⟩
  | .hbm, ⟨41, _⟩ => ⟨S_, .f32⟩
  | .hbm, ⟨42, _⟩ => ⟨S2048x32, .f32⟩
  | .hbm, ⟨43, _⟩ => ⟨S2048x128, .f32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1x1, .i32⟩
  | .hbm, ⟨49, _⟩ => ⟨S128x1, .i32⟩
  | .hbm, ⟨50, _⟩ => ⟨S128, .i32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S128, .f32⟩
  | .hbm, ⟨60, _⟩ => ⟨S128x1, .f32⟩
  | .hbm, ⟨61, _⟩ => ⟨S1x16, .f32⟩
  | .hbm, ⟨62, _⟩ => ⟨S128x16, .f32⟩
  | .hbm, ⟨63, _⟩ => ⟨S128x16, .f32⟩
  | .hbm, ⟨64, _⟩ => ⟨S128x16, .f32⟩
  | .hbm, ⟨65, _⟩ => ⟨S128x16, .f32⟩
  | .hbm, ⟨66, _⟩ => ⟨S128x16, .f32⟩
  | .hbm, ⟨67, _⟩ => ⟨S_, .f32⟩
  | .hbm, ⟨68, _⟩ => ⟨S128x64, .f32⟩
  | .hbm, ⟨69, _⟩ => ⟨S_, .f32⟩
  | .hbm, ⟨70, _⟩ => ⟨S128x32, .f32⟩
  | .hbm, ⟨71, _⟩ => ⟨S128x128, .f32⟩
  | .hbm, ⟨72, _⟩ => ⟨S_, .f32⟩
  | .hbm, ⟨73, _⟩ => ⟨S128x64, .f32⟩
  | .hbm, ⟨74, _⟩ => ⟨S128x16, .f32⟩
  | .hbm, ⟨75, _⟩ => ⟨S_, .f32⟩
  | .hbm, ⟨76, _⟩ => ⟨S128x16, .f32⟩
  | .hbm, ⟨77, _⟩ => ⟨S_, .f32⟩
  | .hbm, ⟨78, _⟩ => ⟨S128x32, .f32⟩
  | .hbm, ⟨79, _⟩ => ⟨S128x128, .f32⟩
  | .hbm, ⟨80, _⟩ => ⟨S_, .f32⟩
  | .hbm, ⟨81, _⟩ => ⟨S128x64, .f32⟩
  | .hbm, ⟨82, _⟩ => ⟨S_, .f32⟩
  | .hbm, ⟨83, _⟩ => ⟨S128x16, .f32⟩
  | .hbm, ⟨84, _⟩ => ⟨S_, .f32⟩
  | .hbm, ⟨85, _⟩ => ⟨S128x32, .f32⟩
  | .hbm, ⟨86, _⟩ => ⟨S128x128, .f32⟩
  | .hbm, ⟨87, _⟩ => ⟨S2176x128, .f32⟩
  | .hbm, ⟨88, _⟩ => ⟨S2176x128, .f32⟩
  | .hbm, ⟨89, _⟩ => ⟨S2176x128, .f32⟩
  | .hbm, ⟨90, _⟩ => ⟨S384x8x96, .f32⟩
  | .hbm, ⟨91, _⟩ => ⟨S_, .i32⟩
  | .hbm, ⟨92, _⟩ => ⟨S_, .f32⟩
  | .hbm, ⟨93, _⟩ => ⟨S384x8x128, .f32⟩
  | .hbm, ⟨94, _⟩ => ⟨S384x1024, .f32⟩
  | .hbm, ⟨95, _⟩ => ⟨S384x1024, .bf16⟩
  | .hbm, ⟨96, _⟩ => ⟨S256x8x128, .f32⟩
  | .hbm, ⟨97, _⟩ => ⟨S256x8x64, .f32⟩
  | .hbm, ⟨98, _⟩ => ⟨S_, .i32⟩
  | .hbm, ⟨99, _⟩ => ⟨S_, .f32⟩
  | .hbm, ⟨100, _⟩ => ⟨S256x8x128, .f32⟩
  | .hbm, ⟨101, _⟩ => ⟨S256x1024, .f32⟩
  | .hbm, ⟨102, _⟩ => ⟨S256x1024, .bf16⟩
  | .hbm, ⟨103, _⟩ => ⟨S256x8x128, .f32⟩
  | .hbm, ⟨104, _⟩ => ⟨S256x8x64, .f32⟩
  | .hbm, ⟨105, _⟩ => ⟨S_, .i32⟩
  | .hbm, ⟨106, _⟩ => ⟨S_, .f32⟩
  | .hbm, ⟨107, _⟩ => ⟨S256x8x128, .f32⟩
  | .hbm, ⟨108, _⟩ => ⟨S256x1024, .f32⟩
  | .hbm, ⟨109, _⟩ => ⟨S256x1024, .bf16⟩
  | .hbm, ⟨110, _⟩ => ⟨S1x384, .f32⟩
  | .hbm, ⟨111, _⟩ => ⟨S1x256, .f32⟩
  | .hbm, ⟨112, _⟩ => ⟨S16512x1024, .f32⟩
  | .hbm, ⟨113, _⟩ => ⟨S16512x256, .f32⟩
  | .hbm, ⟨114, _⟩ => ⟨S16512x1024, .bf16⟩
  | .hbm, ⟨115, _⟩ => ⟨S16512x1024, .bf16⟩
  | .hbm, ⟨116, _⟩ => ⟨S16512x128, .f32⟩
  | .local _ .vmem, ⟨0, _⟩ => ⟨S128x384, .f32⟩
  | .local _ .vmem, ⟨1, _⟩ => ⟨S128x384, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1x384, .f32⟩
  | .local _ .vmem, ⟨7, _⟩ => ⟨S1x256, .f32⟩
  | .local _ .vmem, ⟨8, _⟩ => ⟨S384x1024, .bf16⟩
  | .local _ .vmem, ⟨9, _⟩ => ⟨S256x1024, .bf16⟩
  | .local _ .vmem, ⟨10, _⟩ => ⟨S256x1024, .bf16⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x1024, .f32⟩
  | .local _ .vmem, ⟨18, _⟩ => ⟨S128x1024, .f32⟩
  | .local _ .vmem, ⟨19, _⟩ => ⟨S128x256, .f32⟩
  | .local _ .vmem, ⟨20, _⟩ => ⟨S128x256, .f32⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x128, .f32⟩
  | .local _ .vmem, ⟨26, _⟩ => ⟨S128x128, .f32⟩
  | _, _ => ⟨S16512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_cst_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_19 : Ref sig .tc := ⟨.hbm, 91, rfl⟩
abbrev main_call0_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_20 : Ref sig .tc := ⟨.hbm, 98, rfl⟩
abbrev main_call1_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_21 : Ref sig .tc := ⟨.hbm, 105, rfl⟩
abbrev main_call2_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v78_3 : Ref sig .tc := ⟨.hbm, 115, rfl⟩
abbrev main_v78_4 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S16512x384 : Shape := ⟨2, ![16512, 384]⟩
abbrev S16512x256 : Shape := ⟨2, ![16512, 256]⟩
abbrev S16512x128 : Shape := ⟨2, ![16512, 128]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048 : Shape := ⟨1, ![2048]⟩
abbrev S8x2048 : Shape := ⟨2, ![8, 2048]⟩
abbrev S16384 : Shape := ⟨1, ![16384]⟩
abbrev S_ : Shape := ⟨0, ![]⟩
abbrev S128 : Shape := ⟨1, ![128]⟩
abbrev S16512 : Shape := ⟨1, ![16512]⟩
abbrev S16512x1 : Shape := ⟨2, ![16512, 1]⟩
abbrev S1x384 : Shape := ⟨2, ![1, 384]⟩
abbrev S16512x768 : Shape := ⟨2, ![16512, 768]⟩
abbrev S16512x8x96 : Shape := ⟨3, ![16512, 8, 96]⟩
abbrev S1x256 : Shape := ⟨2, ![1, 256]⟩
abbrev S16512x1024 : Shape := ⟨2, ![16512, 1024]⟩
abbrev S16512x8x128 : Shape := ⟨3, ![16512, 8, 128]⟩
abbrev S16512x32 : Shape := ⟨2, ![16512, 32]⟩
abbrev S16512x1x32 : Shape := ⟨3, ![16512, 1, 32]⟩
abbrev S16 : Shape := ⟨1, ![16]⟩
abbrev S16512x1x1 : Shape := ⟨3, ![16512, 1, 1]⟩
abbrev S1x1x16 : Shape := ⟨3, ![1, 1, 16]⟩
abbrev S16512x1x16 : Shape := ⟨3, ![16512, 1, 16]⟩
abbrev S16512x8x64 : Shape := ⟨3, ![16512, 8, 64]⟩
abbrev S16512x8x32 : Shape := ⟨3, ![16512, 8, 32]⟩
abbrev S16512x8x16 : Shape := ⟨3, ![16512, 8, 16]⟩
abbrev S16512x1x64 : Shape := ⟨3, ![16512, 1, 64]⟩
abbrev S16512x1x128 : Shape := ⟨3, ![16512, 1, 128]⟩

abbrev nBuf : Space → Nat
  | .hbm => 131
  | .vmem => 0
  | .smem => 0
  | _ => 0

abbrev hbmTy0_0 (i : Nat) : BufTy := match i % 128 with
  | 0 => ⟨S16512x384, .f32⟩
  | 1 => ⟨S16512x256, .f32⟩
  | 2 => ⟨S16512x128, .f32⟩
  | 3 => ⟨S384, .f32⟩
  | 4 => ⟨S384x768, .f32⟩
  | 5 => ⟨S256, .f32⟩
  | 6 => ⟨S256x1024, .f32⟩
  | 7 => ⟨S2048, .i32⟩
  | 8 => ⟨S8x2048, .i32⟩
  | 9 => ⟨S16384, .i32⟩
  | 10 => ⟨S_, .i32⟩
  | 11 => ⟨S128, .i32⟩
  | 12 => ⟨S128, .i32⟩
  | 13 => ⟨S16512, .i32⟩
  | 14 => ⟨S16512x384, .f32⟩
  | 15 => ⟨S_, .f32⟩
  | 16 => ⟨S16512, .f32⟩
  | 17 => ⟨S16512x1, .f32⟩
  | 18 => ⟨S_, .f32⟩
  | 19 => ⟨S16512x1, .f32⟩
  | 20 => ⟨S16512x1, .f32⟩
  | 21 => ⟨S_, .f32⟩
  | 22 => ⟨S16512x1, .f32⟩
  | 23 => ⟨S16512x1, .f32⟩
  | 24 => ⟨S16512x1, .f32⟩
  | 25 => ⟨S16512x384, .f32⟩
  | 26 => ⟨S16512x384, .f32⟩
  | 27 => ⟨S1x384, .f32⟩
  | 28 => ⟨S16512x384, .f32⟩
  | 29 => ⟨S16512x384, .f32⟩
  | 30 => ⟨S16512x768, .f32⟩
  | 31 => ⟨S16512x8x96, .f32⟩
  | 32 => ⟨S16512x256, .f32⟩
  | 33 => ⟨S_, .f32⟩
  | 34 => ⟨S16512, .f32⟩
  | 35 => ⟨S16512x1, .f32⟩
  | 36 => ⟨S_, .f32⟩
  | 37 => ⟨S16512x1, .f32⟩
  | 38 => ⟨S16512x1, .f32⟩
  | 39 => ⟨S_, .f32⟩
  | 40 => ⟨S16512x1, .f32⟩
  | 41 => ⟨S16512x1, .f32⟩
  | 42 => ⟨S16512x1, .f32⟩
  | 43 => ⟨S16512x256, .f32⟩
  | 44 => ⟨S16512x256, .f32⟩
  | 45 => ⟨S1x256, .f32⟩
  | 46 => ⟨S16512x256, .f32⟩
  | 47 => ⟨S16512x256, .f32⟩
  | 48 => ⟨S16512x1024, .f32⟩
  | 49 => ⟨S16512x8x128, .f32⟩
  | 50 => ⟨S16512x32, .f32⟩
  | 51 => ⟨S16512x1x32, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S16512, .f32⟩
  | 61 => ⟨S16512x1x1, .f32⟩
  | 62 => ⟨S1x1x16, .f32⟩
  | 63 => ⟨S16512x1x16, .f32⟩
  | 64 => ⟨S16512x1x16, .f32⟩
  | 65 => ⟨S16512x1x16, .f32⟩
  | 66 => ⟨S16512x1x16, .f32⟩
  | 67 => ⟨S16512x1x16, .f32⟩
  | 68 => ⟨S16512x1x16, .f32⟩
  | 69 => ⟨S16512x1x16, .f32⟩
  | 70 => ⟨S16512x1x16, .f32⟩
  | 71 => ⟨S16512x1x16, .f32⟩
  | 72 => ⟨S16512x1x16, .f32⟩
  | 73 => ⟨S16512x1x16, .f32⟩
  | 74 => ⟨S16512x1x16, .f32⟩
  | 75 => ⟨S16512x1x16, .f32⟩
  | 76 => ⟨S16512x1x32, .f32⟩
  | 77 => ⟨S16512x8x64, .f32⟩
  | 78 => ⟨S16512x8x32, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16512, .f32⟩
  | 88 => ⟨S16512x1x1, .f32⟩
  | 89 => ⟨S1x1x16, .f32⟩
  | 90 => ⟨S16512x1x16, .f32⟩
  | 91 => ⟨S16512x1x16, .f32⟩
  | 92 => ⟨S16512x1x16, .f32⟩
  | 93 => ⟨S16512x1x16, .f32⟩
  | 94 => ⟨S16512x1x16, .f32⟩
  | 95 => ⟨S16512x8x16, .f32⟩
  | 96 => ⟨S16512x8x16, .f32⟩
  | 97 => ⟨S16512x8x16, .f32⟩
  | 98 => ⟨S16512x8x16, .f32⟩
  | 99 => ⟨S16512x8x16, .f32⟩
  | 100 => ⟨S16512x8x16, .f32⟩
  | 101 => ⟨S16512x8x16, .f32⟩
  | 102 => ⟨S16512x8x16, .f32⟩
  | 103 => ⟨S16512x8x16, .f32⟩
  | 104 => ⟨S16512x8x16, .f32⟩
  | 105 => ⟨S16512x8x16, .f32⟩
  | 106 => ⟨S16512x8x16, .f32⟩
  | 107 => ⟨S16512x8x32, .f32⟩
  | 108 => ⟨S_, .f32⟩
  | 109 => ⟨S16512x8x32, .f32⟩
  | 110 => ⟨S16512x8x128, .f32⟩
  | 111 => ⟨S16512x1024, .f32⟩
  | 112 => ⟨S16512x8x64, .f32⟩
  | 113 => ⟨S16512x8x32, .f32⟩
  | 114 => ⟨S_, .f32⟩
  | 115 => ⟨S16512x8x32, .f32⟩
  | 116 => ⟨S16512x8x128, .f32⟩
  | 117 => ⟨S16512x1024, .f32⟩
  | 118 => ⟨S16512x1024, .bf16⟩
  | 119 => ⟨S16512x8x64, .f32⟩
  | 120 => ⟨S_, .f32⟩
  | 121 => ⟨S16512x8x64, .f32⟩
  | 122 => ⟨S16512x8x128, .f32⟩
  | 123 => ⟨S16512x1024, .f32⟩
  | 124 => ⟨S16512x1024, .bf16⟩
  | 125 => ⟨S_, .f32⟩
  | 126 => ⟨S16512x1x64, .f32⟩
  | 127 => ⟨S_, .f32⟩
  | _ => ⟨S16512x384, .f32⟩

abbrev hbmTy0_1 (i : Nat) : BufTy := match i % 128 with
  | 0 => ⟨S16512x1x32, .f32⟩
  | 1 => ⟨S16512x1x128, .f32⟩
  | 2 => ⟨S16512x128, .f32⟩
  | _ => ⟨S16512x384, .f32⟩

abbrev hbmTy (i : Nat) : BufTy := match i / 128 with
  | 0 => hbmTy0_0 i
  | 1 => hbmTy0_1 i
  | _ => ⟨S16512x384, .f32⟩

abbrev bufTy : (tb : Table) → Fin (tcTables nBuf tb) → BufTy
  | .hbm, ⟨i, _⟩ => hbmTy i
  | _, _ => ⟨S16512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_9 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_10 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_11 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_12 : Ref sig .tc := ⟨.hbm, 125, rfl⟩
abbrev main_v104 : Ref sig .tc := ⟨.hbm, 126, rfl⟩
abbrev main_cst_13 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]
-- ==== Kernel9.lean ====
abbrev S128x512 : Shape := ⟨2, ![128, 512]⟩
abbrev S128x1024 : Shape := ⟨2, ![128, 1024]⟩
abbrev S128x128 : Shape := ⟨2, ![128, 128]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S_ : Shape := ⟨0, ![]⟩
abbrev S1x512 : Shape := ⟨2, ![1, 512]⟩
abbrev S1x256 : Shape := ⟨2, ![1, 256]⟩
abbrev S4x256 : Shape := ⟨2, ![4, 256]⟩
abbrev S1024 : Shape := ⟨1, ![1024]⟩
abbrev S1x1024 : Shape := ⟨2, ![1, 1024]⟩
abbrev S128x1x512 : Shape := ⟨3, ![128, 1, 512]⟩
abbrev S128x1x1024 : Shape := ⟨3, ![128, 1, 1024]⟩
abbrev S128x1x128 : Shape := ⟨3, ![128, 1, 128]⟩
abbrev S1x1x512 : Shape := ⟨3, ![1, 1, 512]⟩
abbrev S1x1x1024 : Shape := ⟨3, ![1, 1, 1024]⟩
abbrev S1x1x128 : Shape := ⟨3, ![1, 1, 128]⟩
abbrev S1x4x128x256 : Shape := ⟨4, ![1, 4, 128, 256]⟩
abbrev S1x128 : Shape := ⟨2, ![1, 128]⟩
abbrev S8x128 : Shape := ⟨2, ![8, 128]⟩
abbrev S8x512 : Shape := ⟨2, ![8, 512]⟩
abbrev S1x1x256 : Shape := ⟨3, ![1, 1, 256]⟩
abbrev S1 : Shape := ⟨1, ![1]⟩
abbrev S1x1 : Shape := ⟨2, ![1, 1]⟩
abbrev S1x1x128x256 : Shape := ⟨4, ![1, 1, 128, 256]⟩
abbrev S128x256 : Shape := ⟨2, ![128, 256]⟩
abbrev S8x256 : Shape := ⟨2, ![8, 256]⟩
abbrev S128x1 : Shape := ⟨2, ![128, 1]⟩

abbrev nBuf : Space → Nat
  | .hbm => 25
  | .vmem => 19
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S128x4x128x256, .f32⟩
  | .hbm, ⟨6, _⟩ => ⟨S16x512, .f32⟩
  | .hbm, ⟨7, _⟩ => ⟨S512, .f32⟩
  | .hbm, ⟨8, _⟩ => ⟨S256, .f32⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S128x512, .bf16⟩
  | .hbm, ⟨13, _⟩ => ⟨S1x512, .f32⟩
  | .hbm, ⟨14, _⟩ => ⟨S1x256, .f32⟩
  | .hbm, ⟨15, _⟩ => ⟨S4x256, .f32⟩
  | .hbm, ⟨16, _⟩ => ⟨S1024, .f32⟩
  | .hbm, ⟨17, _⟩ => ⟨S1x1024, .f32⟩
  | .hbm, ⟨18, _⟩ => ⟨S128x1x512, .f32⟩
  | .hbm, ⟨19, _⟩ => ⟨S128x1x512, .f32⟩
  | .hbm, ⟨20, _⟩ => ⟨S128x1x1024, .f32⟩
  | .hbm, ⟨21, _⟩ => ⟨S128x1x1024, .f32⟩
  | .hbm, ⟨22, _⟩ => ⟨S128x1x128, .f32⟩
  | .hbm, ⟨23, _⟩ => ⟨S128x1x1024, .f32⟩
  | .hbm, ⟨24, _⟩ => ⟨S128x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x128, .f32⟩
  | .local _ .vmem, ⟨9, _⟩ => ⟨S1x1x128, .f32⟩
  | .local _ .vmem, ⟨10, _⟩ => ⟨S1x4x128x256, .f32⟩
  | .local _ .vmem, ⟨11, _⟩ => ⟨S1x4x128x256, .f32⟩
  | .local _ .vmem, ⟨12, _⟩ => ⟨S128x512, .bf16⟩
  | .local _ .vmem, ⟨13, _⟩ => ⟨S1x512, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x4x128x256, .f32⟩
  | .local _ .vmem, ⟨18, _⟩ => ⟨S1x4x128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S128x512 : Shape := ⟨2, ![128, 512]⟩
abbrev S128x1024 : Shape := ⟨2, ![128, 1024]⟩
abbrev S128x128 : Shape := ⟨2, ![128, 128]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S128x16 : Shape := ⟨2, ![128, 16]⟩
abbrev S1x512 : Shape := ⟨2, ![1, 512]⟩
abbrev S_ : Shape := ⟨0, ![]⟩
abbrev S128x4x128 : Shape := ⟨3, ![128, 4, 128]⟩
abbrev S128x4x256 : Shape := ⟨3, ![128, 4, 256]⟩
abbrev S128x4 : Shape := ⟨2, ![128, 4]⟩
abbrev S128x4x1 : Shape := ⟨3, ![128, 4, 1]⟩
abbrev S1x1x256 : Shape := ⟨3, ![1, 1, 256]⟩
abbrev S128x1x1024 : Shape := ⟨3, ![128, 1, 1024]⟩
abbrev S128x4x128x1 : Shape := ⟨4, ![128, 4, 128, 1]⟩
abbrev S128x4x1x256 : Shape := ⟨4, ![128, 4, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S128x4x128x256, .f32⟩
  | .hbm, ⟨6, _⟩ => ⟨S16x512, .f32⟩
  | .hbm, ⟨7, _⟩ => ⟨S512, .f32⟩
  | .hbm, ⟨8, _⟩ => ⟨S256, .f32⟩
  | .hbm, ⟨9, _⟩ => ⟨S128x16, .f32⟩
  | .hbm, ⟨10, _⟩ => ⟨S128x512, .f32⟩
  | .hbm, ⟨11, _⟩ => ⟨S1x512, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .i1⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x4x128, .f32⟩
  | .hbm, ⟨34, _⟩ => ⟨S128x4x128, .f32⟩
  | .hbm, ⟨35, _⟩ => ⟨S_, .f32⟩
  | .hbm, ⟨36, _⟩ => ⟨S128x4x128, .f32⟩
  | .hbm, ⟨37, _⟩ => ⟨S128x4x128, .f32⟩
  | .hbm, ⟨38, _⟩ => ⟨S128x4x128, .f32⟩
  | .hbm, ⟨39, _⟩ => ⟨S128x4x256, .f32⟩
  | .hbm, ⟨40, _⟩ => ⟨S128x4x128, .f32⟩
  | .hbm, ⟨41, _⟩ => ⟨S128x4x128, .f32⟩
  | .hbm, ⟨42, _⟩ => ⟨S128x4x128, .f32⟩
  | .hbm, ⟨43, _⟩ => ⟨S128x4x128, .f32⟩
  | .hbm, ⟨44, _⟩ => ⟨S128x4x128, .f32⟩
  | .hbm, ⟨45, _⟩ => ⟨S128x4, .f32⟩
  | .hbm, ⟨46, _⟩ => ⟨S128x4x1, .f32⟩
  | .hbm, ⟨47, _⟩ => ⟨S128x4x256, .f32⟩
  | .hbm, ⟨48, _⟩ => ⟨S128x4x256, .f32⟩
  | .hbm, ⟨49, _⟩ => ⟨S128x4x256, .f32⟩
  | .hbm, ⟨50, _⟩ => ⟨S128x4x256, .f32⟩
  | .hbm, ⟨51, _⟩ => ⟨S128x4x256, .f32⟩
  | .hbm, ⟨52, _⟩ => ⟨S_, .f32⟩
  | .hbm, ⟨53, _⟩ => ⟨S128x4, .f32⟩
  | .hbm, ⟨54, _⟩ => ⟨S128x4x1, .f32⟩
  | .hbm, ⟨55, _⟩ => ⟨S_, .f32⟩
  | .hbm, ⟨56, _⟩ => ⟨S128x4x1, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S128x4x1, .f32⟩
  | .hbm, ⟨62, _⟩ => ⟨S128x4x256, .f32⟩
  | .hbm, ⟨63, _⟩ => ⟨S128x4x256, .f32⟩
  | .hbm, ⟨64, _⟩ => ⟨S1x1x256, .f32⟩
  | .hbm, ⟨65, _⟩ => ⟨S128x4x256, .f32⟩
  | .hbm, ⟨66, _⟩ => ⟨S128x4x256, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S_, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S128x1x1024, .f32⟩
  | .hbm, ⟨79, _⟩ => ⟨S128x4x128x1, .f32⟩
  | .hbm, ⟨80, _⟩ => ⟨S128x4x128x256, .f32⟩
  | .hbm, ⟨81, _⟩ => ⟨S128x4x128x256, .f32⟩
  | .hbm, ⟨82, _⟩ => ⟨S128x4x128x1, .f32⟩
  | .hbm, ⟨83, _⟩ => ⟨S128x4x1x256, .f32⟩
  | .hbm, ⟨84, _⟩ => ⟨S128x4x128x256, .f32⟩
  | .hbm, ⟨85, _⟩ => ⟨S128x4x128x256, .f32⟩
  | .hbm, ⟨86, _⟩ => ⟨S128x4x128x256, .f32⟩
  | .hbm, ⟨87, _⟩ => ⟨S128x4x128x256, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]
-- ==== Kernel10.lean ====
abbrev S128x1024 : Shape := ⟨2, ![128, 1024]⟩
abbrev S128x1536 : Shape := ⟨2, ![128, 1536]⟩
abbrev S128x128 : Shape := ⟨2, ![128, 128]⟩
abbrev S128x3x1536 : Shape := ⟨3, ![128, 3, 1536]⟩
abbrev S128x16x64x128 : Shape := ⟨4, ![128, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x1x1024 : Shape := ⟨3, ![128, 1, 1024]⟩
abbrev S128x1x1536 : Shape := ⟨3, ![128, 1, 1536]⟩
abbrev S128x1x128 : Shape := ⟨3, ![128, 1, 128]⟩
abbrev S128x8x128x128 : Shape := ⟨4, ![128, 8, 128, 128]⟩
abbrev S1x1x1024 : Shape := ⟨3, ![1, 1, 1024]⟩
abbrev S1x1x1536 : Shape := ⟨3, ![1, 1, 1536]⟩
abbrev S1x1x128 : Shape := ⟨3, ![1, 1, 128]⟩
abbrev S1x3x1536 : Shape := ⟨3, ![1, 3, 1536]⟩
abbrev S1x8x128x128 : Shape := ⟨4, ![1, 8, 128, 128]⟩
abbrev S3x1536 : Shape := ⟨2, ![3, 1536]⟩
abbrev S2x1536 : Shape := ⟨2, ![2, 1536]⟩
abbrev S1x256 : Shape := ⟨2, ![1, 256]⟩
abbrev S8x128 : Shape := ⟨2, ![8, 128]⟩
abbrev S8x1024 : Shape := ⟨2, ![8, 1024]⟩
abbrev S1x1x128x128 : Shape := ⟨4, ![1, 1, 128, 128]⟩
abbrev S1x512 : Shape := ⟨2, ![1, 512]⟩
abbrev S1 : Shape := ⟨1, ![1]⟩
abbrev S1x1 : Shape := ⟨2, ![1, 1]⟩

abbrev nBuf : Space → Nat
  | .hbm => 32
  | .vmem => 23
  | .smem => 0
  | _ => 0

abbrev bufTy : (tb : Table) → Fin (tcTables nBuf tb) → BufTy
  | .hbm, ⟨0, _⟩ => ⟨S128x1024, .f32⟩
  | .hbm, ⟨1, _⟩ => ⟨S128x1536, .f32⟩
  | .hbm, ⟨2, _⟩ => ⟨S128x128, .f32⟩
  | .hbm, ⟨3, _⟩ => ⟨S128x3x1536, .f32⟩
  | .hbm, ⟨4, _⟩ => ⟨S128x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S128x1024, .f32⟩
  | .hbm, ⟨12, _⟩ => ⟨S1x1536, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S128x1x1024, .f32⟩
  | .hbm, ⟨26, _⟩ => ⟨S128x1x1536, .f32⟩
  | .hbm, ⟨27, _⟩ => ⟨S128x1x128, .f32⟩
  | .hbm, ⟨28, _⟩ => ⟨S128x8x128x128, .f32⟩
  | .hbm, ⟨29, _⟩ => ⟨S128x1x1024, .f32⟩
  | .hbm, ⟨30, _⟩ => ⟨S128x8x128x128, .f32⟩
  | .hbm, ⟨31, _⟩ => ⟨S128x3x1536, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1536, .f32⟩
  | .local _ .vmem, ⟨3, _⟩ => ⟨S1x1x1536, .f32⟩
  | .local _ .vmem, ⟨4, _⟩ => ⟨S1x1x128, .f32⟩
  | .local _ .vmem, ⟨5, _⟩ => ⟨S1x1x128, .f32⟩
  | .local _ .vmem, ⟨6, _⟩ => ⟨S1x3x1536, .f32⟩
  | .local _ .vmem, ⟨7, _⟩ => ⟨S1x3x1536, .f32⟩
  | .local _ .vmem, ⟨8, _⟩ => ⟨S1x8x128x128, .f32⟩
  | .local _ .vmem, ⟨9, _⟩ => ⟨S1x8x128x128, .f32⟩
  | .local _ .vmem, ⟨10, _⟩ => ⟨S4x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x8x128x128, .f32⟩
  | .local _ .vmem, ⟨20, _⟩ => ⟨S1x8x128x128, .f32⟩
  | .local _ .vmem, ⟨21, _⟩ => ⟨S1x3x1536, .f32⟩
  | .local _ .vmem, ⟨22, _⟩ => ⟨S1x3x1536, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference10Ideal.lean ====
abbrev S128x1024 : Shape := ⟨2, ![128, 1024]⟩
abbrev S128x1536 : Shape := ⟨2, ![128, 1536]⟩
abbrev S128x128 : Shape := ⟨2, ![128, 128]⟩
abbrev S128x3x1536 : Shape := ⟨3, ![128, 3, 1536]⟩
abbrev S128x16x64x128 : Shape := ⟨4, ![128, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x1x1536 : Shape := ⟨3, ![128, 1, 1536]⟩
abbrev S128x4x1536 : Shape := ⟨3, ![128, 4, 1536]⟩
abbrev S1536x128 : Shape := ⟨2, ![1536, 128]⟩
abbrev S1x1536 : Shape := ⟨2, ![1, 1536]⟩
abbrev S_ : Shape := ⟨0, ![]⟩
abbrev S128x256 : Shape := ⟨2, ![128, 256]⟩
abbrev S128x16x64 : Shape := ⟨3, ![128, 16, 64]⟩
abbrev S128x16 : Shape := ⟨2, ![128, 16]⟩
abbrev S1x16 : Shape := ⟨2, ![1, 16]⟩
abbrev S128x16x1x1 : Shape := ⟨4, ![128, 16, 1, 1]⟩
abbrev S128x16x1 : Shape := ⟨3, ![128, 16, 1]⟩
abbrev S128x16x64x1 : Shape := ⟨4, ![128, 16, 64, 1]⟩
abbrev S128x2x128 : Shape := ⟨3, ![128, 2, 128]⟩
abbrev S128x2x8x128 : Shape := ⟨4, ![128, 2, 8, 128]⟩
abbrev S128x16x128 : Shape := ⟨3, ![128, 16, 128]⟩
abbrev S128x16x1x128 : Shape := ⟨4, ![128, 16, 1, 128]⟩
abbrev S16x1 : Shape := ⟨2, ![16, 1]⟩
abbrev S1x16x1 : Shape := ⟨3, ![1, 16, 1]⟩
abbrev S128x2x512 : Shape := ⟨3, ![128, 2, 512]⟩
abbrev S2x512 : Shape := ⟨2, ![2, 512]⟩
abbrev S128x2 : Shape := ⟨2, ![128, 2]⟩
abbrev S128x2x1 : Shape := ⟨3, ![128, 2, 1]⟩
abbrev S1x2x512 : Shape := ⟨3, ![1, 2, 512]⟩
abbrev S128x1x1024 : Shape := ⟨3, ![128, 1, 1024]⟩
abbrev S128x8x128x128 : Shape := ⟨4, ![128, 8, 128, 128]⟩

abbrev nBuf : Space → Nat
  | .hbm => 111
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1536, .f32⟩
  | .hbm, ⟨2, _⟩ => ⟨S128x128, .f32⟩
  | .hbm, ⟨3, _⟩ => ⟨S128x3x1536, .f32⟩
  | .hbm, ⟨4, _⟩ => ⟨S128x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S128x1x1536, .f32⟩
  | .hbm, ⟨12, _⟩ => ⟨S128x4x1536, .f32⟩
  | .hbm, ⟨13, _⟩ => ⟨S1536x128, .f32⟩
  | .hbm, ⟨14, _⟩ => ⟨S128x1536, .f32⟩
  | .hbm, ⟨15, _⟩ => ⟨S1x1536, .f32⟩
  | .hbm, ⟨16, _⟩ => ⟨S128x1536, .f32⟩
  | .hbm, ⟨17, _⟩ => ⟨S128x1536, .f32⟩
  | .hbm, ⟨18, _⟩ => ⟨S128x1536, .f32⟩
  | .hbm, ⟨19, _⟩ => ⟨S128x1536, .f32⟩
  | .hbm, ⟨20, _⟩ => ⟨S_, .f32⟩
  | .hbm, ⟨21, _⟩ => ⟨S128x1536, .f32⟩
  | .hbm, ⟨22, _⟩ => ⟨S128x1536, .f32⟩
  | .hbm, ⟨23, _⟩ => ⟨S_, .f32⟩
  | .hbm, ⟨24, _⟩ => ⟨S128x1536, .f32⟩
  | .hbm, ⟨25, _⟩ => ⟨S128x1536, .f32⟩
  | .hbm, ⟨26, _⟩ => ⟨S128x1536, .f32⟩
  | .hbm, ⟨27, _⟩ => ⟨S128x1024, .f32⟩
  | .hbm, ⟨28, _⟩ => ⟨S128x256, .f32⟩
  | .hbm, ⟨29, _⟩ => ⟨S128x256, .f32⟩
  | .hbm, ⟨30, _⟩ => ⟨S128x16x64, .f32⟩
  | .hbm, ⟨31, _⟩ => ⟨S128x16, .f32⟩
  | .hbm, ⟨32, _⟩ => ⟨S1x16, .f32⟩
  | .hbm, ⟨33, _⟩ => ⟨S128x16, .f32⟩
  | .hbm, ⟨34, _⟩ => ⟨S128x16, .f32⟩
  | .hbm, ⟨35, _⟩ => ⟨S_, .f32⟩
  | .hbm, ⟨36, _⟩ => ⟨S128x16, .f32⟩
  | .hbm, ⟨37, _⟩ => ⟨S128x16, .f32⟩
  | .hbm, ⟨38, _⟩ => ⟨S128x16, .f32⟩
  | .hbm, ⟨39, _⟩ => ⟨S128x16, .f32⟩
  | .hbm, ⟨40, _⟩ => ⟨S128x16, .i1⟩
  | .hbm, ⟨41, _⟩ => ⟨S128x16, .f32⟩
  | .hbm, ⟨42, _⟩ => ⟨S128x16, .f32⟩
  | .hbm, ⟨43, _⟩ => ⟨S128x16, .f32⟩
  | .hbm, ⟨44, _⟩ => ⟨S128x16, .f32⟩
  | .hbm, ⟨45, _⟩ => ⟨S128x16, .f32⟩
  | .hbm, ⟨46, _⟩ => ⟨S128x16, .f32⟩
  | .hbm, ⟨47, _⟩ => ⟨S128x16, .f32⟩
  | .hbm, ⟨48, _⟩ => ⟨S128x16, .f32⟩
  | .hbm, ⟨49, _⟩ => ⟨S16, .f32⟩
  | .hbm, ⟨50, _⟩ => ⟨S16, .f32⟩
  | .hbm, ⟨51, _⟩ => ⟨S1x16, .f32⟩
  | .hbm, ⟨52, _⟩ => ⟨S128x16, .f32⟩
  | .hbm, ⟨53, _⟩ => ⟨S128x16, .f32⟩
  | .hbm, ⟨54, _⟩ => ⟨S128x16, .f32⟩
  | .hbm, ⟨55, _⟩ => ⟨S128x16x1x1, .f32⟩
  | .hbm, ⟨56, _⟩ => ⟨S128x16x64x128, .f32⟩
  | .hbm, ⟨57, _⟩ => ⟨S128x16x64x128, .f32⟩
  | .hbm, ⟨58, _⟩ => ⟨S128x16x1, .f32⟩
  | .hbm, ⟨59, _⟩ => ⟨S128x16x64, .f32⟩
  | .hbm, ⟨60, _⟩ => ⟨S128x16x64, .f32⟩
  | .hbm, ⟨61, _⟩ => ⟨S128x16x64x1, .f32⟩
  | .hbm, ⟨62, _⟩ => ⟨S128x2x128, .f32⟩
  | .hbm, ⟨63, _⟩ => ⟨S128x2x8x128, .f32⟩
  | .hbm, ⟨64, _⟩ => ⟨S128x16x128, .f32⟩
  | .hbm, ⟨65, _⟩ => ⟨S128x16x1x128, .f32⟩
  | .hbm, ⟨66, _⟩ => ⟨S128x16x64x128, .f32⟩
  | .hbm, ⟨67, _⟩ => ⟨S128x16x64x128, .f32⟩
  | .hbm, ⟨68, _⟩ => ⟨S128x16x64x128, .f32⟩
  | .hbm, ⟨69, _⟩ => ⟨S128x16x64x128, .f32⟩
  | .hbm, ⟨70, _⟩ => ⟨S128x2x128, .f32⟩
  | .hbm, ⟨71, _⟩ => ⟨S128x2x8x128, .f32⟩
  | .hbm, ⟨72, _⟩ => ⟨S128x16x128, .f32⟩
  | .hbm, ⟨73, _⟩ => ⟨S128x16x64, .f32⟩
  | .hbm, ⟨74, _⟩ => ⟨S16x1, .f32⟩
  | .hbm, ⟨75, _⟩ => ⟨S1x16x1, .f32⟩
  | .hbm, ⟨76, _⟩ => ⟨S128x16x64, .f32⟩
  | .hbm, ⟨77, _⟩ => ⟨S128x16x64, .f32⟩
  | .hbm, ⟨78, _⟩ => ⟨S128x16x64, .f32⟩
  | .hbm, ⟨79, _⟩ => ⟨S128x1024, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S128x2x512, .f32⟩
  | .hbm, ⟨91, _⟩ => ⟨S2x512, .f32⟩
  | .hbm, ⟨92, _⟩ => ⟨S128x2x512, .f32⟩
  | .hbm, ⟨93, _⟩ => ⟨S_, .f32⟩
  | .hbm, ⟨94, _⟩ => ⟨S128x2, .f32⟩
  | .hbm, ⟨95, _⟩ => ⟨S128x2x1, .f32⟩
  | .hbm, ⟨96, _⟩ => ⟨S_, .f32⟩
  | .hbm, ⟨97, _⟩ => ⟨S128x2x1, .f32⟩
  | .hbm, ⟨98, _⟩ => ⟨S128x2x1, .f32⟩
  | .hbm, ⟨99, _⟩ => ⟨S_, .f32⟩
  | .hbm, ⟨100, _⟩ => ⟨S128x2x1, .f32⟩
  | .hbm, ⟨101, _⟩ => ⟨S128x2x1, .f32⟩
  | .hbm, ⟨102, _⟩ => ⟨S128x2x1, .f32⟩
  | .hbm, ⟨103, _⟩ => ⟨S128x2x512, .f32⟩
  | .hbm, ⟨104, _⟩ => ⟨S128x2x512, .f32⟩
  | .hbm, ⟨105, _⟩ => ⟨S1x2x512, .f32⟩
  | .hbm, ⟨106, _⟩ => ⟨S128x2x512, .f32⟩
  | .hbm, ⟨107, _⟩ => ⟨S128x2x512, .f32⟩
  | .hbm, ⟨108, _⟩ => ⟨S128x1x1024, .f32⟩
  | .hbm, ⟨109, _⟩ => ⟨S128x8x128x128, .f32⟩
  | .hbm, ⟨110, _⟩ => ⟨S128x3x1536, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst : Ref sig .tc := ⟨.hbm, 93, rfl⟩
abbrev main_v53 : Ref sig .tc := ⟨.hbm, 94, rfl⟩
abbrev main_v54 : Ref sig .tc := ⟨.hbm, 95, rfl⟩
abbrev main_cst_0 : Ref sig .tc := ⟨.hbm, 96, rfl⟩
abbrev main_v55 : Ref sig .tc := ⟨.hbm, 97, rfl⟩
abbrev main_v56 : Ref sig .tc := ⟨.hbm, 98, rfl⟩
abbrev main_cst_1 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩

abbrev nD : Nat := 1
abbrev τ : Topo := Topo.v7x

variable {F : FTy → Type} [FloatOps F]
-- ==== Proof.Online.lean ====
module

public import Idealize.ShloMosaic.PureOps.Ideal
public import Mathlib.Data.EReal.Operations
public import Mathlib.Algebra.BigOperators.Fin

@[expose] public section

open Idealize.ShloMosaic

namespace Cert.Work

noncomputable section

/-- The largest of the 256 scores of key block `k`. -/
def blockMax (s : ℕ → EReal) (k : ℕ) : EReal := Finset.univ.fold max ⊥ fun j : Fin 256 => s (256 * k + j.val)

/-- The running maximum after `k` key blocks. -/
def runM (s : ℕ → EReal) : ℕ → EReal
  | 0 => ⊥
  | k + 1 => max (runM s k) (blockMax s k)

/-- The running denominator after `k` key blocks. -/
def runL (s : ℕ → EReal) : ℕ → EReal
  | 0 => 0
  | k + 1 => Ideal.exp (runM s k - runM s (k + 1)) * runL s k + ∑ j : Fin 256, Ideal.exp (s (256 * k + j.val) - runM s (k + 1))

/-- The running weighted sum after `k` key blocks. -/
def runA (s v : ℕ → EReal) : ℕ → EReal
  | 0 => 0
  | k + 1 => Ideal.exp (runM s k - runM s (k + 1)) * runA s v k
      + ∑ j : Fin 256, Ideal.exp (s (256 * k + j.val) - runM s (k + 1)) * v (256 * k + j.val)

theorem blockMax_eq (s : ℕ → EReal) (k : ℕ) : blockMax s k = Finset.univ.sup fun j : Fin 256 => s (256 * k + j.val) := rfl

/-- The running maximum is the maximum of all scores read so far. -/
theorem runM_eq (s : ℕ → EReal) (k : ℕ) : runM s k = (Finset.range (256 * k)).sup s := by
  induction k with
  | zero => simp [runM]
  | succ k ih =>
    rw [runM, ih, blockMax_eq]
    apply le_antisymm
    · refine max_le (Finset.sup_mono (Finset.range_mono (by omega))) (Finset.sup_le fun j _ => ?_)
      exact Finset.le_sup (f := s) (Finset.mem_range.mpr (by omega))
    · refine Finset.sup_le fun j hj => ?_
      rw [Finset.mem_range] at hj
      by_cases h : j < 256 * k
      · exact le_max_of_le_left (Finset.le_sup (f := s) (Finset.mem_range.mpr h))
      · refine le_max_of_le_right ?_
        have := Finset.le_sup (f := fun j : Fin 256 => s (256 * k + j.val)) (Finset.mem_univ (⟨j - 256 * k, by omega⟩ : Fin 256))
        simpa [show 256 * k + (j - 256 * k) = j by omega] using this

variable {s : ℕ → EReal} (hs : ∀ j, s j ≠ ⊤) (h0 : s 0 ≠ ⊥)

include hs in
theorem sup_ne_top (S : Finset ℕ) : S.sup s ≠ ⊤ := by
  have : S.sup s < ⊤ := (Finset.sup_lt_iff bot_lt_top).mpr fun j _ => lt_top_iff_ne_top.mpr (hs j)
  exact this.ne

include h0 in
theorem sup_ne_bot (n : ℕ) (hn : 0 < n) : (Finset.range n).sup s ≠ ⊥ := by
  intro h
  have := Finset.le_sup (f := s) (Finset.mem_range.mpr hn)
  rw [h] at this
  exact h0 (le_bot_iff.mp this)

include hs h0 in
/-- Once a block has been read the running maximum is a real number. -/
theorem sup_real (n : ℕ) (hn : 0 < n) : ∃ r : ℝ, (Finset.range n).sup s = (r : EReal) :=
  ⟨((Finset.range n).sup s).toReal, (EReal.coe_toReal (sup_ne_top hs _) (sup_ne_bot h0 n hn)).symm⟩

/-- A score that is not `⊤`, shifted by a real number, has a nonnegative real exponential. -/
theorem exp_shift_real (x : EReal) (hx : x ≠ ⊤) (m : ℝ) :
    ∃ r : ℝ, 0 ≤ r ∧ Ideal.exp (x - (m : EReal)) = (r : EReal) ∧ (x ≠ ⊥ → 0 < r) := by
  induction x using EReal.rec with
  | bot => exact ⟨0, le_rfl, by simp, by simp⟩
  | top => exact absurd rfl hx
  | coe x =>
    refine ⟨Real.exp (x - m), (Real.exp_pos _).le, ?_, fun _ => Real.exp_pos _⟩
    rw [← EReal.coe_sub, Ideal.exp_coe]

/-- Changing the shift of an exponential multiplies it by the exponential of the difference of the shifts. -/
theorem exp_reshift (x : EReal) (hx : x ≠ ⊤) (m m' : ℝ) :
    Ideal.exp ((m : EReal) - (m' : EReal)) * Ideal.exp (x - (m : EReal)) = Ideal.exp (x - (m' : EReal)) := by
  induction x using EReal.rec with
  | bot => simp
  | top => exact absurd rfl hx
  | coe x =>
    rw [← EReal.coe_sub, ← EReal.coe_sub, ← EReal.coe_sub, Ideal.exp_coe, Ideal.exp_coe, Ideal.exp_coe, ← EReal.coe_mul, ← Real.exp_add]
    congr 2
    ring

/-- Multiplication by a nonnegative real number distributes over a finite sum of extended reals. -/
theorem coe_mul_sum {ι : Type} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

theorem coe_sum_real {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

include hs h0 in
/-- The rescaling step of the running sums, for any weights. -/
theorem rescale (k : ℕ) (v : ℕ → EReal) :
    Ideal.exp (runM s k - runM s (k + 1)) * ∑ j ∈ Finset.range (256 * k), Ideal.exp (s j - runM s k) * v j
      = ∑ j ∈ Finset.range (256 * k), Ideal.exp (s j - runM s (k + 1)) * v j := by
  rcases Nat.eq_zero_or_pos k with rfl | hk
  · simp
  obtain ⟨a, ha⟩ := sup_real hs h0 (256 * k) (by omega)
  obtain ⟨b, hb⟩ := sup_real hs h0 (256 * (k + 1)) (by omega)
  rw [runM_eq, runM_eq, ha, hb]
  obtain ⟨r, hr, he, -⟩ := exp_shift_real (a : EReal) (EReal.coe_ne_top a) b
  rw [he, coe_mul_sum _ r hr]
  refine Finset.sum_congr rfl fun j _ => ?_
  rw [← mul_assoc, ← he, exp_reshift _ (hs j)]

theorem split_block (g : ℕ → EReal) (k : ℕ) :
    ∑ j ∈ Finset.range (256 * (k + 1)), g j = ∑ j ∈ Finset.range (256 * k), g j + ∑ j : Fin 256, g (256 * k + j.val) := by
  rw [show 256 * (k + 1) = 256 * k + 256 by ring, Finset.sum_range_add, Finset.sum_range (fun x => g (256 * k + x))]

include hs h0 in
/-- The running weighted sum is the weighted sum over all keys read, at the current maximum. -/
theorem runA_eq (v : ℕ → EReal) (k : ℕ) :
    runA s v k = ∑ j ∈ Finset.range (256 * k), Ideal.exp (s j - runM s k) * v j := by
  induction k with
  | zero => simp [runA]
  | succ k ih => rw [runA, ih, rescale hs h0, split_block]

include hs h0 in
/-- The running denominator is the sum of the exponentials over all keys read, at the current maximum. -/
theorem runL_eq (k : ℕ) : runL s k = ∑ j ∈ Finset.range (256 * k), Ideal.exp (s j - runM s k) := by
  induction k with
  | zero => simp [runL]
  | succ k ih =>
    have h := rescale hs h0 k fun _ => 1
    simp only [mul_one] at h
    rw [runL, ih, h, split_block]

include hs h0 in
/-- The blockwise attention row is the softmax row: after the `n` key blocks that hold every visible key, the weighted sum
    over the denominator is the sum over all 2048 keys of the softmax weights times the values. -/
theorem online_softmax (v : ℕ → EReal) (n : ℕ) (hn : 0 < n) (hn8 : n ≤ 8) (ht : ∀ j, 256 * n ≤ j → s j = ⊥) :
    Ideal.div (runA s v n) (runL s n)
      = ∑ j : Fin 2048, v j.val * Ideal.div (Ideal.exp (s j.val - (Finset.range 2048).sup s))
          (∑ i : Fin 2048, Ideal.exp (s i.val - (Finset.range 2048).sup s)) := by
  have hM : (Finset.range 2048).sup s = runM s n := by
    rw [runM_eq]
    refine le_antisymm (Finset.sup_le fun j _ => ?_) (Finset.sup_mono (Finset.range_mono (by omega)))
    by_cases h : j < 256 * n
    · exact Finset.le_sup (f := s) (Finset.mem_range.mpr h)
    · rw [ht j (by omega)]; exact bot_le
  obtain ⟨a, ha⟩ := sup_real hs h0 (256 * n) (by omega)
  have hMa : runM s n = (a : EReal) := by rw [runM_eq, ha]
  have cut (g : ℕ → EReal) (hg : ∀ j, 256 * n ≤ j → g j = 0) : ∑ j : Fin 2048, g j.val = ∑ j ∈ Finset.range (256 * n), g j := by
    rw [← Finset.sum_range (fun j => g j)]
    refine (Finset.sum_subset (Finset.range_mono (by omega)) fun j _ hj => hg j ?_).symm
    simpa using hj
  have tail (j : ℕ) (hj : 256 * n ≤ j) : Ideal.exp (s j - (a : EReal)) = 0 := by rw [ht j hj]; simp
  rw [hM, runA_eq hs h0, runL_eq hs h0, hMa, cut (fun i => Ideal.exp (s i - (a : EReal))) tail]
  choose e he0 he hep using fun j => exp_shift_real (s j) (hs j) a
  have hL : ∑ j ∈ Finset.range (256 * n), Ideal.exp (s j - (a : EReal)) = ((∑ j ∈ Finset.range (256 * n), e j : ℝ) : EReal) := by
    rw [coe_sum_real]; exact Finset.sum_congr rfl fun j _ => he j
  have hpos : 0 < ∑ j ∈ Finset.range (256 * n), e j :=
    Finset.sum_pos' (fun j _ => he0 j) ⟨0, Finset.mem_range.mpr (by omega), hep 0 h0⟩
  rw [hL]
  simp only [Ideal.div_coe hpos.ne']
  rw [cut (fun j => v j * (Ideal.exp (s j - (a : EReal)) * ((1 / (∑ j ∈ Finset.range (256 * n), e j) : ℝ) : EReal))) fun j hj => by simp [tail j hj],
    mul_comm, coe_mul_sum _ _ (by positivity)]
  refine Finset.sum_congr rfl fun j _ => ?_
  rw [← mul_assoc, mul_comm (v j), mul_comm (Ideal.exp _)]

end

end Cert.Work

end
-- ==== Proof.AttnTrip.lean ====
module

public import proofs.«01_k».proof.Proof.Gen.KernelIdeal.Value
public import Idealize.ShloMosaic.Lib.Pipeline.ValueKit
public import proofs.«01_k».proof.Proof.Online

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The masked scores of one head against one key block. -/
def score (q : FVec Ideal S256x128 .bf16) (vis : IVec S256x256 1) (kb : FVec Ideal S256x128 .bf16) : FVec Ideal S256x256 .f32 :=
  k0_pay25 q vis kb

/-- The running maximum of one head after one more key block. -/
def newM (q : FVec Ideal S256x128 .bf16) (vis : IVec S256x256 1) (kb : FVec Ideal S256x128 .bf16) (m : FVec Ideal S256x1 .f32) :
    FVec Ideal S256x1 .f32 := k0_pay26 m (score q vis kb)

/-- The exponentials of the scores of one key block, at the new maximum. -/
def newP (q : FVec Ideal S256x128 .bf16) (vis : IVec S256x256 1) (kb : FVec Ideal S256x128 .bf16) (m : FVec Ideal S256x1 .f32) :
    FVec Ideal S256x256 .f32 := k0_pay42 (score q vis kb) (newM q vis kb m)

/-- The running denominator of one head after one more key block. -/
def newL (q : FVec Ideal S256x128 .bf16) (vis : IVec S256x256 1) (kb : FVec Ideal S256x128 .bf16) (m l : FVec Ideal S256x1 .f32) :
    FVec Ideal S256x1 .f32 := k0_pay50 l (score q vis kb) (newM q vis kb m) (k0_pay34 m (score q vis kb))

/-- The running weighted sum of one head after one more key block. -/
def newA (q : FVec Ideal S256x128 .bf16) (vis : IVec S256x256 1) (kb vb : FVec Ideal S256x128 .bf16) (m : FVec Ideal S256x1 .f32)
    (a : FVec Ideal S256x128 .f32) : FVec Ideal S256x128 .f32 :=
  k0_pay1 a (k0_pay34 m (score q vis kb))
    (matmul dot_S256x256_S256x128_S256x128_1_0_0_1_n_n none (truncf .bf16 (newP q vis kb m)) vb (constant S256x128 .f32 0x00000000#32))

/-- One trip of the key-block loop updates the eight heads, each from its own three carried values. -/
theorem trip_eq (𝒱 : Variants) (c : Dev nD) (bd : Option 𝒱.V) (i : grid0.Coords) (arg2 : Memref sig .tc .vmem S256x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x512 .f32) (harg5 : arg5.IsWhole) (arg1 : BitVec 32) (v0 : IVec S256x256 32) (v1 : IVec S256x256 32) (v8 : FVec Ideal S256x128 .bf16) (v12 : FVec Ideal S256x128 .bf16) (v16 : FVec Ideal S256x128 .bf16) (v20 : FVec Ideal S256x128 .bf16) (v24 : FVec Ideal S256x128 .bf16) (v28 : FVec Ideal S256x128 .bf16) (v32 : FVec Ideal S256x128 .bf16) (v36 : FVec Ideal S256x128 .bf16) (c0_i32 : BitVec 32) (X_arg3 : BufTy.Contents (Elt Ideal) arg3.view.ty) (X_arg4 : BufTy.Contents (Elt Ideal) arg4.view.ty) (k : Fin (k0_t1_loop i).trips) (acc : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32) :
    (trip_k0_t1 (F := Ideal) 𝒱 c bd i arg2 harg2 arg3 harg3 arg4 harg4 arg5 harg5 arg1 v0 v1 v8 v12 v16 v20 v24 v28 v32 v36 c0_i32 X_arg3 X_arg4 k).1 acc
      = (newM v8 (k0_pay17 i arg1 v0 v1 c0_i32 1#32 k) (View.readAt (Elt Ideal) arg3.view (Rect.unit (s := S2048x1024) (k0_off1 i k) S256x128.size (k0_off1_inb i k)).toLoadRect X_arg3) acc.1,
        newL v8 (k0_pay17 i arg1 v0 v1 c0_i32 1#32 k) (View.readAt (Elt Ideal) arg3.view (Rect.unit (s := S2048x1024) (k0_off1 i k) S256x128.size (k0_off1_inb i k)).toLoadRect X_arg3) acc.1 acc.2.1,
        newA v8 (k0_pay17 i arg1 v0 v1 c0_i32 1#32 k) (View.readAt (Elt Ideal) arg3.view (Rect.unit (s := S2048x1024) (k0_off1 i k) S256x128.size (k0_off1_inb i k)).toLoadRect X_arg3) (View.readAt (Elt Ideal) arg4.view (Rect.unit (s := S2048x1024) (k0_off1 i k) S256x128.size (k0_off1_inb i k)).toLoadRect X_arg4) acc.1 acc.2.2.1,
        newM v12 (k0_pay17 i arg1 v0 v1 c0_i32 1#32 k) (View.readAt (Elt Ideal) arg3.view (Rect.unit (s := S2048x1024) (k0_off2 i k) S256x128.size (k0_off2_inb i k)).toLoadRect X_arg3) acc.2.2.2.1,
        newL v12 (k0_pay17 i arg1 v0 v1 c0_i32 1#32 k) (View.readAt (Elt Ideal) arg3.view (Rect.unit (s := S2048x1024) (k0_off2 i k) S256x128.size (k0_off2_inb i k)).toLoadRect X_arg3) acc.2.2.2.1 acc.2.2.2.2.1,
        newA v12 (k0_pay17 i arg1 v0 v1 c0_i32 1#32 k) (View.readAt (Elt Ideal) arg3.view (Rect.unit (s := S2048x1024) (k0_off2 i k) S256x128.size (k0_off2_inb i k)).toLoadRect X_arg3) (View.readAt (Elt Ideal) arg4.view (Rect.unit (s := S2048x1024) (k0_off2 i k) S256x128.size (k0_off2_inb i k)).toLoadRect X_arg4) acc.2.2.2.1 acc.2.2.2.2.2.1,
        newM v16 (k0_pay17 i arg1 v0 v1 c0_i32 1#32 k) (View.readAt (Elt Ideal) arg3.view (Rect.unit (s := S2048x1024) (k0_off3 i k) S256x128.size (k0_off3_inb i k)).toLoadRect X_arg3) acc.2.2.2.2.2.2.1,
        newL v16 (k0_pay17 i arg1 v0 v1 c0_i32 1#32 k) (View.readAt (Elt Ideal) arg3.view (Rect.unit (s := S2048x1024) (k0_off3 i k) S256x128.size (k0_off3_inb i k)).toLoadRect X_arg3) acc.2.2.2.2.2.2.1 acc.2.2.2.2.2.2.2.1,
        newA v16 (k0_pay17 i arg1 v0 v1 c0_i32 1#32 k) (View.readAt (Elt Ideal) arg3.view (Rect.unit (s := S2048x1024) (k0_off3 i k) S256x128.size (k0_off3_inb i k)).toLoadRect X_arg3) (View.readAt (Elt Ideal) arg4.view (Rect.unit (s := S2048x1024) (k0_off3 i k) S256x128.size (k0_off3_inb i k)).toLoadRect X_arg4) acc.2.2.2.2.2.2.1 acc.2.2.2.2.2.2.2.2.1,
        newM v20 (k0_pay17 i arg1 v0 v1 c0_i32 1#32 k) (View.readAt (Elt Ideal) arg3.view (Rect.unit (s := S2048x1024) (k0_off4 i k) S256x128.size (k0_off4_inb i k)).toLoadRect X_arg3) acc.2.2.2.2.2.2.2.2.2.1,
        newL v20 (k0_pay17 i arg1 v0 v1 c0_i32 1#32 k) (View.readAt (Elt Ideal) arg3.view (Rect.unit (s := S2048x1024) (k0_off4 i k) S256x128.size (k0_off4_inb i k)).toLoadRect X_arg3) acc.2.2.2.2.2.2.2.2.2.1 acc.2.2.2.2.2.2.2.2.2.2.1,
        newA v20 (k0_pay17 i arg1 v0 v1 c0_i32 1#32 k) (View.readAt (Elt Ideal) arg3.view (Rect.unit (s := S2048x1024) (k0_off4 i k) S256x128.size (k0_off4_inb i k)).toLoadRect X_arg3) (View.readAt (Elt Ideal) arg4.view (Rect.unit (s := S2048x1024) (k0_off4 i k) S256x128.size (k0_off4_inb i k)).toLoadRect X_arg4) acc.2.2.2.2.2.2.2.2.2.1 acc.2.2.2.2.2.2.2.2.2.2.2.1,
        newM v24 (k0_pay17 i arg1 v0 v1 c0_i32 1#32 k) (View.readAt (Elt Ideal) arg3.view (Rect.unit (s := S2048x1024) (k0_off5 i k) S256x128.size (k0_off5_inb i k)).toLoadRect X_arg3) acc.2.2.2.2.2.2.2.2.2.2.2.2.1,
        newL v24 (k0_pay17 i arg1 v0 v1 c0_i32 1#32 k) (View.readAt (Elt Ideal) arg3.view (Rect.unit (s := S2048x1024) (k0_off5 i k) S256x128.size (k0_off5_inb i k)).toLoadRect X_arg3) acc.2.2.2.2.2.2.2.2.2.2.2.2.1 acc.2.2.2.2.2.2.2.2.2.2.2.2.2.1,
        newA v24 (k0_pay17 i arg1 v0 v1 c0_i32 1#32 k) (View.readAt (Elt Ideal) arg3.view (Rect.unit (s := S2048x1024) (k0_off5 i k) S256x128.size (k0_off5_inb i k)).toLoadRect X_arg3) (View.readAt (Elt Ideal) arg4.view (Rect.unit (s := S2048x1024) (k0_off5 i k) S256x128.size (k0_off5_inb i k)).toLoadRect X_arg4) acc.2.2.2.2.2.2.2.2.2.2.2.2.1 acc.2.2.2.2.2.2.2.2.2.2.2.2.2.2.1,
        newM v28 (k0_pay17 i arg1 v0 v1 c0_i32 1#32 k) (View.readAt (Elt Ideal) arg3.view (Rect.unit (s := S2048x1024) (k0_off6 i k) S256x128.size (k0_off6_inb i k)).toLoadRect X_arg3) acc.2.2.2.2.2.2.2.2.2.2.2.2.2.2.2.1,
        newL v28 (k0_pay17 i arg1 v0 v1 c0_i32 1#32 k) (View.readAt (Elt Ideal) arg3.view (Rect.unit (s := S2048x1024) (k0_off6 i k) S256x128.size (k0_off6_inb i k)).toLoadRect X_arg3) acc.2.2.2.2.2.2.2.2.2.2.2.2.2.2.2.1 acc.2.2.2.2.2.2.2.2.2.2.2.2.2.2.2.2.1,
        newA v28 (k0_pay17 i arg1 v0 v1 c0_i32 1#32 k) (View.readAt (Elt Ideal) arg3.view (Rect.unit (s := S2048x1024) (k0_off6 i k) S256x128.size (k0_off6_inb i k)).toLoadRect X_arg3) (View.readAt (Elt Ideal) arg4.view (Rect.unit (s := S2048x1024) (k0_off6 i k) S256x128.size (k0_off6_inb i k)).toLoadRect X_arg4) acc.2.2.2.2.2.2.2.2.2.2.2.2.2.2.2.1 acc.2.2.2.2.2.2.2.2.2.2.2.2.2.2.2.2.2.1,
        newM v32 (k0_pay17 i arg1 v0 v1 c0_i32 1#32 k) (View.readAt (Elt Ideal) arg3.view (Rect.unit (s := S2048x1024) (k0_off7 i k) S256x128.size (k0_off7_inb i k)).toLoadRect X_arg3) acc.2.2.2.2.2.2.2.2.2.2.2.2.2.2.2.2.2.2.1,
        newL v32 (k0_pay17 i arg1 v0 v1 c0_i32 1#32 k) (View.readAt (Elt Ideal) arg3.view (Rect.unit (s := S2048x1024) (k0_off7 i k) S256x128.size (k0_off7_inb i k)).toLoadRect X_arg3) acc.2.2.2.2.2.2.2.2.2.2.2.2.2.2.2.2.2.2.1 acc.2.2.2.2.2.2.2.2.2.2.2.2.2.2.2.2.2.2.2.1,
        newA v32 (k0_pay17 i arg1 v0 v1 c0_i32 1#32 k) (View.readAt (Elt Ideal) arg3.view (Rect.unit (s := S2048x1024) (k0_off7 i k) S256x128.size (k0_off7_inb i k)).toLoadRect X_arg3) (View.readAt (Elt Ideal) arg4.view (Rect.unit (s := S2048x1024) (k0_off7 i k) S256x128.size (k0_off7_inb i k)).toLoadRect X_arg4) acc.2.2.2.2.2.2.2.2.2.2.2.2.2.2.2.2.2.2.1 acc.2.2.2.2.2.2.2.2.2.2.2.2.2.2.2.2.2.2.2.2.1,
        newM v36 (k0_pay17 i arg1 v0 v1 c0_i32 1#32 k) (View.readAt (Elt Ideal) arg3.view (Rect.unit (s := S2048x1024) (k0_off8 i k) S256x128.size (k0_off8_inb i k)).toLoadRect X_arg3) acc.2.2.2.2.2.2.2.2.2.2.2.2.2.2.2.2.2.2.2.2.2.1,
        newL v36 (k0_pay17 i arg1 v0 v1 c0_i32 1#32 k) (View.readAt (Elt Ideal) arg3.view (Rect.unit (s := S2048x1024) (k0_off8 i k) S256x128.size (k0_off8_inb i k)).toLoadRect X_arg3) acc.2.2.2.2.2.2.2.2.2.2.2.2.2.2.2.2.2.2.2.2.2.1 acc.2.2.2.2.2.2.2.2.2.2.2.2.2.2.2.2.2.2.2.2.2.2.1,
        newA v36 (k0_pay17 i arg1 v0 v1 c0_i32 1#32 k) (View.readAt (Elt Ideal) arg3.view (Rect.unit (s := S2048x1024) (k0_off8 i k) S256x128.size (k0_off8_inb i k)).toLoadRect X_arg3) (View.readAt (Elt Ideal) arg4.view (Rect.unit (s := S2048x1024) (k0_off8 i k) S256x128.size (k0_off8_inb i k)).toLoadRect X_arg4) acc.2.2.2.2.2.2.2.2.2.2.2.2.2.2.2.2.2.2.2.2.2.1 acc.2.2.2.2.2.2.2.2.2.2.2.2.2.2.2.2.2.2.2.2.2.2.2) := by
  unfold trip_k0_t1
  rfl

/-- One head's carried values agree with the running maximum, denominator and weighted sum after `k` key blocks. -/
def Inv (s : Fin 256 → ℕ → EReal) (v : Fin 128 → ℕ → EReal) (k : ℕ) (m l : FVec Ideal S256x1 .f32) (a : FVec Ideal S256x128 .f32) : Prop :=
  ∀ p : Fin 256, m (ix2 p 0) = Cert.Work.runM (s p) k ∧ l (ix2 p 0) = Cert.Work.runL (s p) k
    ∧ ∀ d : Fin 128, a (ix2 p d) = Cert.Work.runA (s p) (v d) k

theorem newM_apply (q : FVec Ideal S256x128 .bf16) (vis : IVec S256x256 1) (kb : FVec Ideal S256x128 .bf16) (m : FVec Ideal S256x1 .f32) (p : Fin 256) :
    newM q vis kb m (ix2 p 0) = max (m (ix2 p 0)) (Finset.fold max (Ideal.ofBits .f32 0xFF800000#32) (fun x => score q vis kb (ix2 p x)) Finset.univ) := by
  unfold newM
  generalize score q vis kb = s
  pointwise [k0_pay26]

theorem alpha_apply (q : FVec Ideal S256x128 .bf16) (vis : IVec S256x256 1) (kb : FVec Ideal S256x128 .bf16) (m : FVec Ideal S256x1 .f32) (p : Fin 256) :
    k0_pay34 m (score q vis kb) (ix2 p 0) = Ideal.exp (m (ix2 p 0) - newM q vis kb m (ix2 p 0)) := by
  unfold newM
  generalize score q vis kb = s
  pointwise [k0_pay34]

theorem newP_apply (q : FVec Ideal S256x128 .bf16) (vis : IVec S256x256 1) (kb : FVec Ideal S256x128 .bf16) (m : FVec Ideal S256x1 .f32) (p j : Fin 256) :
    newP q vis kb m (ix2 p j) = Ideal.exp (score q vis kb (ix2 p j) - newM q vis kb m (ix2 p 0)) := by
  unfold newP
  generalize newM q vis kb m = mn
  generalize score q vis kb = s
  pointwise [k0_pay42]

theorem newL_apply (q : FVec Ideal S256x128 .bf16) (vis : IVec S256x256 1) (kb : FVec Ideal S256x128 .bf16) (m l : FVec Ideal S256x1 .f32) (p : Fin 256) :
    newL q vis kb m l (ix2 p 0) = k0_pay34 m (score q vis kb) (ix2 p 0) * l (ix2 p 0) + ∑ j : Fin 256, newP q vis kb m (ix2 p j) := by
  unfold newL newP
  generalize k0_pay34 m (score q vis kb) = al
  generalize newM q vis kb m = mn
  generalize score q vis kb = s
  pointwise [k0_pay50, k0_pay42]

theorem newA_apply (q : FVec Ideal S256x128 .bf16) (vis : IVec S256x256 1) (kb vb : FVec Ideal S256x128 .bf16) (m : FVec Ideal S256x1 .f32)
    (a : FVec Ideal S256x128 .f32) (p : Fin 256) (d : Fin 128) :
    newA q vis kb vb m a (ix2 p d) = k0_pay34 m (score q vis kb) (ix2 p 0) * a (ix2 p d) + ∑ j : Fin 256, newP q vis kb m (ix2 p j) * vb (ix2 j d) := by
  unfold newA
  generalize k0_pay34 m (score q vis kb) = al
  generalize newP q vis kb m = P
  pointwise [k0_pay1]

/-- One trip carries a head's agreement from `k` key blocks to `k + 1`. -/
theorem Inv_step {s : Fin 256 → ℕ → EReal} {v : Fin 128 → ℕ → EReal} {k : ℕ} {m l : FVec Ideal S256x1 .f32} {a : FVec Ideal S256x128 .f32}
    (h : Inv s v k m l a) (q : FVec Ideal S256x128 .bf16) (vis : IVec S256x256 1) (kb vb : FVec Ideal S256x128 .bf16)
    (hs : ∀ p j : Fin 256, score q vis kb (ix2 p j) = s p (256 * k + j.val))
    (hv : ∀ (j : Fin 256) (d : Fin 128), vb (ix2 j d) = v d (256 * k + j.val)) :
    Inv s v (k + 1) (newM q vis kb m) (newL q vis kb m l) (newA q vis kb vb m a) := by
  intro p
  obtain ⟨hm, hl, ha⟩ := h p
  have hbot : Ideal.ofBits .f32 0xFF800000#32 = (⊥ : EReal) := by simp [Ideal.ofBits, Ideal.ieee]
  have h1 : newM q vis kb m (ix2 p 0) = Cert.Work.runM (s p) (k + 1) := by
    rw [newM_apply, hm, hbot]
    simp only [hs]
    rfl
  have h2 : k0_pay34 m (score q vis kb) (ix2 p 0) = Ideal.exp (Cert.Work.runM (s p) k - Cert.Work.runM (s p) (k + 1)) := by
    rw [alpha_apply, h1, hm]
  have h3 (j : Fin 256) : newP q vis kb m (ix2 p j) = Ideal.exp (s p (256 * k + j.val) - Cert.Work.runM (s p) (k + 1)) := by
    rw [newP_apply, h1, hs]
  refine ⟨h1, ?_, fun d => ?_⟩
  · rw [newL_apply, h2, hl]
    simp only [h3]
    rfl
  · rw [newA_apply, h2, ha]
    simp only [h3, hv]
    rfl

end Cert.KernelIdeal.Attn

end
-- ==== Proof.AttnRun.lean ====
module

public import proofs.«01_k».proof.Proof.Gen.KernelIdeal.Value
public import Idealize.ShloMosaic.Lib.Pipeline.ValueKit
public import Idealize.ShloMosaic.Lib.WholeRead
public import Idealize.ShloMosaic.Lib.WritesUnit
public import proofs.«01_k».proof.Proof.AttnTrip

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The carried values of one grid point: a maximum, a denominator and a weighted sum for each of the eight heads. -/
abbrev Carry : Type := FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32

/-- One head's scaled queries. -/
def headQ (arg2 : Memref sig .tc .vmem S256x1024 .f32) (harg2 : arg2.IsWhole) (x0 : Vec Ideal S256x1024 .f32) (o : ℕ)
    (h : ∀ a, (![0, o] : Fin 2 → ℕ) a + S256x128.size a ≤ S256x1024.size a) : FVec Ideal S256x128 .bf16 :=
  k0_pay120 (View.readAt (Elt Ideal) arg2.view (Rect.unit (s := S256x1024) ![0, o] S256x128.size h).toLoadRect (harg2.unread x0))

theorem headQ_apply (arg2 : Memref sig .tc .vmem S256x1024 .f32) (harg2 : arg2.IsWhole) (x0 : Vec Ideal S256x1024 .f32) (o : ℕ)
    (h : ∀ a, (![0, o] : Fin 2 → ℕ) a + S256x128.size a ≤ S256x1024.size a) (p : Fin 256) (d : Fin 128) (hd : o + d.val < 1024) :
    headQ arg2 harg2 x0 o h (ix2 p d) = x0 (ix2 p ⟨o + d.val, hd⟩) * Ideal.ofBits .f32 0x3DD105EC#32 := by
  have e : (View.readAt (Elt Ideal) arg2.view (Rect.unit (s := S256x1024) ![0, o] S256x128.size h).toLoadRect (harg2.unread x0)) (ix2 p d)
      = x0 (ix2 p ⟨o + d.val, hd⟩) := by
    rw [harg2.readAt_unread]
    congr 1
    funext a
    apply Fin.ext
    fin_cases a <;> simp [LoadRect.idx, ix2]
  unfold headQ
  generalize View.readAt (Elt Ideal) arg2.view (Rect.unit (s := S256x1024) ![0, o] S256x128.size h).toLoadRect (harg2.unread x0) = z at e ⊢
  pointwise [k0_pay120]
  rw [e]

section Run

variable (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x512 .f32) (harg5 : arg5.IsWhole)
    (x0 : Vec Ideal S256x1024 .f32) (x1 : Vec Ideal S2048x1024 .bf16) (x2 : Vec Ideal S2048x1024 .bf16)

/-- The carried values after `k` key blocks. -/
def stK (k : ℕ) : Carry :=
  st_k0_t1 (F := Ideal) Variants.none c none i arg2 harg2 arg3 harg3 arg4 harg4 arg5 harg5 (BitVec.ofNat 32 (i 1).val) (iota .tc S256x256 32 [0] iota_S256x256_d0_w32) (iota .tc S256x256 32 [1] iota_S256x256_d1_w32)
    (headQ arg2 harg2 x0 0 inb_S256x1024_S256x128_0_0) (headQ arg2 harg2 x0 128 inb_S256x1024_S256x128_0_128) (headQ arg2 harg2 x0 256 inb_S256x1024_S256x128_0_256) (headQ arg2 harg2 x0 384 inb_S256x1024_S256x128_0_384) (headQ arg2 harg2 x0 512 inb_S256x1024_S256x128_0_512) (headQ arg2 harg2 x0 640 inb_S256x1024_S256x128_0_640) (headQ arg2 harg2 x0 768 inb_S256x1024_S256x128_0_768) (headQ arg2 harg2 x0 896 inb_S256x1024_S256x128_0_896)
    0#32 (harg3.unread x1) (harg4.unread x2) (k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151) k

/-- The carried values the epilogue reads. -/
def stEnd : Carry :=
  st_k0_t2 (F := Ideal) Variants.none c none i arg2 harg2 arg3 harg3 arg4 harg4 arg5 harg5 (BitVec.ofNat 32 (i 1).val) (iota .tc S256x256 32 [0] iota_S256x256_d0_w32) (iota .tc S256x256 32 [1] iota_S256x256_d1_w32)
    (headQ arg2 harg2 x0 0 inb_S256x1024_S256x128_0_0) (headQ arg2 harg2 x0 128 inb_S256x1024_S256x128_0_128) (headQ arg2 harg2 x0 256 inb_S256x1024_S256x128_0_256) (headQ arg2 harg2 x0 384 inb_S256x1024_S256x128_0_384) (headQ arg2 harg2 x0 512 inb_S256x1024_S256x128_0_512) (headQ arg2 harg2 x0 640 inb_S256x1024_S256x128_0_640) (headQ arg2 harg2 x0 768 inb_S256x1024_S256x128_0_768) (headQ arg2 harg2 x0 896 inb_S256x1024_S256x128_0_896)
    (Scalar.addi 0#32 (Scalar.muli (Scalar.divsi (Scalar.subi (Scalar.addi (BitVec.ofNat 32 (i 1).val) 1#32) 0#32) 1#32) 1#32)) (harg3.unread x1) (harg4.unread x2) ((stK c i arg2 harg2 arg3 harg3 arg4 harg4 arg5 harg5 x0 x1 x2 (k0_t1_loop i).trips).1, (stK c i arg2 harg2 arg3 harg3 arg4 harg4 arg5 harg5 x0 x1 x2 (k0_t1_loop i).trips).2.1, (stK c i arg2 harg2 arg3 harg3 arg4 harg4 arg5 harg5 x0 x1 x2 (k0_t1_loop i).trips).2.2.1, (stK c i arg2 harg2 arg3 harg3 arg4 harg4 arg5 harg5 x0 x1 x2 (k0_t1_loop i).trips).2.2.2.1, (stK c i arg2 harg2 arg3 harg3 arg4 harg4 arg5 harg5 x0 x1 x2 (k0_t1_loop i).trips).2.2.2.2.1, (stK c i arg2 harg2 arg3 harg3 arg4 harg4 arg5 harg5 x0 x1 x2 (k0_t1_loop i).trips).2.2.2.2.2.1, (stK c i arg2 harg2 arg3 harg3 arg4 harg4 arg5 harg5 x0 x1 x2 (k0_t1_loop i).trips).2.2.2.2.2.2.1, (stK c i arg2 harg2 arg3 harg3 arg4 harg4 arg5 harg5 x0 x1 x2 (k0_t1_loop i).trips).2.2.2.2.2.2.2.1, (stK c i arg2 harg2 arg3 harg3 arg4 harg4 arg5 harg5 x0 x1 x2 (k0_t1_loop i).trips).2.2.2.2.2.2.2.2.1, (stK c i arg2 harg2 arg3 harg3 arg4 harg4 arg5 harg5 x0 x1 x2 (k0_t1_loop i).trips).2.2.2.2.2.2.2.2.2.1, (stK c i arg2 harg2 arg3 harg3 arg4 harg4 arg5 harg5 x0 x1 x2 (k0_t1_loop i).trips).2.2.2.2.2.2.2.2.2.2.1, (stK c i arg2 harg2 arg3 harg3 arg4 harg4 arg5 harg5 x0 x1 x2 (k0_t1_loop i).trips).2.2.2.2.2.2.2.2.2.2.2.1, (stK c i arg2 harg2 arg3 harg3 arg4 harg4 arg5 harg5 x0 x1 x2 (k0_t1_loop i).trips).2.2.2.2.2.2.2.2.2.2.2.2.1, (stK c i arg2 harg2 arg3 harg3 arg4 harg4 arg5 harg5 x0 x1 x2 (k0_t1_loop i).trips).2.2.2.2.2.2.2.2.2.2.2.2.2.1, (stK c i arg2 harg2 arg3 harg3 arg4 harg4 arg5 harg5 x0 x1 x2 (k0_t1_loop i).trips).2.2.2.2.2.2.2.2.2.2.2.2.2.2.1, (stK c i arg2 harg2 arg3 harg3 arg4 harg4 arg5 harg5 x0 x1 x2 (k0_t1_loop i).trips).2.2.2.2.2.2.2.2.2.2.2.2.2.2.2.1, (stK c i arg2 harg2 arg3 harg3 arg4 harg4 arg5 harg5 x0 x1 x2 (k0_t1_loop i).trips).2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.2.2.2.2.1, (stK c i arg2 harg2 arg3 harg3 arg4 harg4 arg5 harg5 x0 x1 x2 (k0_t1_loop i).trips).2.2.2.2.2.2.2.2.2.2.2.2.2.2.2.2.2.2.2.2.2.2.2) (k0_t2_loop i).trips

/-- The block loop runs once for each key block up to the query's own. -/
theorem trips1 : (k0_t1_loop i).trips = (i 1).val + 1 := by
  have h : ∀ j : Fin 8, Scf.trips 0#32 (Scalar.addi 0#32 (Scalar.muli (Scalar.divsi (Scalar.subi (Scalar.addi (BitVec.ofNat 32 j.val) 1#32) 0#32) 1#32) 1#32)) 1#32 = j.val + 1 := by
    decide +kernel
  exact h (i 1)

/-- The second loop has no trips. -/
theorem trips2 : (k0_t2_loop i).trips = 0 := by
  have h : ∀ j : Fin 8, Scf.trips (Scalar.addi 0#32 (Scalar.muli (Scalar.divsi (Scalar.subi (Scalar.addi (BitVec.ofNat 32 j.val) 1#32) 0#32) 1#32) 1#32))
      (Scalar.addi 0#32 (Scalar.subi (Scalar.addi (BitVec.ofNat 32 j.val) 1#32) 0#32)) 1#32 = 0 := by
    decide +kernel
  exact h (i 1)

theorem stEnd_eq : stEnd c i arg2 harg2 arg3 harg3 arg4 harg4 arg5 harg5 x0 x1 x2 = stK c i arg2 harg2 arg3 harg3 arg4 harg4 arg5 harg5 x0 x1 x2 ((i 1).val + 1) := by
  unfold stEnd
  rw [trips2, trips1]
  rfl

attribute [local irreducible] st_k0_t1 st_k0_t2 k0_pay13 k0_pay14 k0_pay15 k0_pay16 Scf.trips View.read View.writes in
set_option maxHeartbeats 2000000 in
/-- What one grid point writes: the quotients of the heads, two heads side by side in each group of 128 columns. -/
theorem out_eq : out0_A_3 (F := Ideal) c i arg2 harg2 arg3 harg3 arg4 harg4 arg5 harg5 x0 x1 x2 = VO0_3.read (Elt Ideal) (VO0_3.writes (Elt Ideal) VO0_3.junk
    [⟨Rect.unit (s := S256x512) ![0, 384] S256x128.size inb_S256x512_S256x128_0_384, k0_pay16 k0_pay119 (stEnd c i arg2 harg2 arg3 harg3 arg4 harg4 arg5 harg5 x0 x1 x2).2.2.2.2.2.2.2.2.2.2.2.2.2.2.2.2.2.2.2.1 (stEnd c i arg2 harg2 arg3 harg3 arg4 harg4 arg5 harg5 x0 x1 x2).2.2.2.2.2.2.2.2.2.2.2.2.2.2.2.2.2.2.2.2.1 (stEnd c i arg2 harg2 arg3 harg3 arg4 harg4 arg5 harg5 x0 x1 x2).2.2.2.2.2.2.2.2.2.2.2.2.2.2.2.2.2.2.2.2.2.2.1 (stEnd c i arg2 harg2 arg3 harg3 arg4 harg4 arg5 harg5 x0 x1 x2).2.2.2.2.2.2.2.2.2.2.2.2.2.2.2.2.2.2.2.2.2.2.2⟩,
      ⟨Rect.unit (s := S256x512) ![0, 256] S256x128.size inb_S256x512_S256x128_0_256, k0_pay15 k0_pay119 (stEnd c i arg2 harg2 arg3 harg3 arg4 harg4 arg5 harg5 x0 x1 x2).2.2.2.2.2.2.2.2.2.2.2.2.2.1 (stEnd c i arg2 harg2 arg3 harg3 arg4 harg4 arg5 harg5 x0 x1 x2).2.2.2.2.2.2.2.2.2.2.2.2.2.2.1 (stEnd c i arg2 harg2 arg3 harg3 arg4 harg4 arg5 harg5 x0 x1 x2).2.2.2.2.2.2.2.2.2.2.2.2.2.2.2.2.1 (stEnd c i arg2 harg2 arg3 harg3 arg4 harg4 arg5 harg5 x0 x1 x2).2.2.2.2.2.2.2.2.2.2.2.2.2.2.2.2.2.1⟩,
      ⟨Rect.unit (s := S256x512) ![0, 128] S256x128.size inb_S256x512_S256x128_0_128, k0_pay14 k0_pay119 (stEnd c i arg2 harg2 arg3 harg3 arg4 harg4 arg5 harg5 x0 x1 x2).2.2.2.2.2.2.2.1 (stEnd c i arg2 harg2 arg3 harg3 arg4 harg4 arg5 harg5 x0 x1 x2).2.2.2.2.2.2.2.2.1 (stEnd c i arg2 harg2 arg3 harg3 arg4 harg4 arg5 harg5 x0 x1 x2).2.2.2.2.2.2.2.2.2.2.1 (stEnd c i arg2 harg2 arg3 harg3 arg4 harg4 arg5 harg5 x0 x1 x2).2.2.2.2.2.2.2.2.2.2.2.1⟩,
      ⟨Rect.unit (s := S256x512) ![0, 0] S256x128.size inb_S256x512_S256x128_0_0, k0_pay13 k0_pay119 (stEnd c i arg2 harg2 arg3 harg3 arg4 harg4 arg5 harg5 x0 x1 x2).2.1 (stEnd c i arg2 harg2 arg3 harg3 arg4 harg4 arg5 harg5 x0 x1 x2).2.2.1 (stEnd c i arg2 harg2 arg3 harg3 arg4 harg4 arg5 harg5 x0 x1 x2).2.2.2.2.1 (stEnd c i arg2 harg2 arg3 harg3 arg4 harg4 arg5 harg5 x0 x1 x2).2.2.2.2.2.1⟩]) := by
  unfold out0_A_3 kernelRun0_A
  rfl

end Run

end Cert.KernelIdeal.Attn

end
-- ==== Proof.AttnBlock.lean ====
module

public import proofs.«01_k».proof.Proof.Gen.KernelIdeal.Value
public import Idealize.ShloMosaic.Lib.Pipeline.ValueKit
public import proofs.«01_k».proof.Proof.AttnRun

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- A trip's number is at most the query block's. -/
theorem trip_lt (i : grid0.Coords) (k : Fin (k0_t1_loop i).trips) : k.val ≤ (i 1).val ∧ (i 1).val < 8 :=
  ⟨Nat.lt_succ_iff.mp (lt_of_lt_of_eq k.isLt (trips1 i)), (i 1).isLt⟩

theorem toInt_small (z : ℤ) (h : -100000 < z) (h' : z < 100000) : (BitVec.ofInt 32 z).toInt = z :=
  BitVec.toInt_ofInt_eq_self (by decide) (by norm_num; omega) (by norm_num; omega)

/-- The causal mask of a trip: a key is visible when its position is at most the query's. -/
theorem vis_apply (i : grid0.Coords) (k : Fin (k0_t1_loop i).trips) (p j : Fin 256) :
    k0_pay17 i (BitVec.ofNat 32 (i 1).val) (iota .tc S256x256 32 [0] iota_S256x256_d0_w32) (iota .tc S256x256 32 [1] iota_S256x256_d1_w32) 0#32 1#32 k (ix2 p j)
      = if 256 * k.val + j.val ≤ 256 * (i 1).val + p.val then 1#1 else 0#1 := by
  pointwise [k0_pay17]
  obtain ⟨hk, hq⟩ := trip_lt i k
  have hb : ∀ a b : Fin 8, Scalar.muli (Scalar.subi (Scf.iv 0#32 1#32 a.val) (BitVec.ofNat 32 b.val)) 256#32 = BitVec.ofInt 32 (256 * ((a.val : ℤ) - (b.val : ℤ))) := by
    decide +kernel
  have e1 : IntOp.addi (Scalar.muli (Scalar.subi (Scf.iv 0#32 1#32 k.val) (BitVec.ofNat 32 (i 1).val)) 256#32) (BitVec.ofNat 32 j.val)
      = BitVec.ofInt 32 (256 * ((k.val : ℤ) - ((i 1).val : ℤ)) + (j.val : ℤ)) := by
    rw [hb ⟨k.val, by omega⟩ ⟨(i 1).val, hq⟩, BitVec.ofInt_add, BitVec.ofInt_natCast]; rfl
  have e2 : BitVec.ofNat 32 p.val = BitVec.ofInt 32 (p.val : ℤ) := (BitVec.ofInt_natCast ..).symm
  rw [e1, e2]
  have hj := j.isLt
  have hp := p.isLt
  show BitVec.ofBool (BitVec.sle _ _) = _
  rw [BitVec.sle, toInt_small _ (by omega) (by omega), toInt_small _ (by omega) (by omega)]
  by_cases h : 256 * k.val + j.val ≤ 256 * (i 1).val + p.val
  · rw [if_pos h, decide_eq_true (by omega)]; rfl
  · rw [if_neg h, decide_eq_false (by omega)]; rfl

/-- The score of a query against a key: the inner product where the key is visible, bottom elsewhere. -/
theorem score_apply (q : FVec Ideal S256x128 .bf16) (vis : IVec S256x256 1) (kb : FVec Ideal S256x128 .bf16) (p j : Fin 256) :
    score q vis kb (ix2 p j) = if vis (ix2 p j) = 1#1 then ∑ d : Fin 128, q (ix2 p d) * kb (ix2 j d) else ⊥ := by
  unfold score
  pointwise [k0_pay25]
  rfl

theorem low_apply (p : Fin 256) (x : Fin 128) : k0_pay119 (ix2 p x) = if x.val < 64 then 1#1 else 0#1 := by
  pointwise [k0_pay119]
  have h : ∀ x : Fin 128, IntOp.cmpi CmpIPredicate.slt (BitVec.ofNat 32 x.val) 64#32 = if x.val < 64 then 1#1 else 0#1 := by
    decide +kernel
  exact h x

theorem block_start (i : grid0.Coords) (k : Fin (k0_t1_loop i).trips) :
    (Scalar.indexCast (Scalar.muli (Scf.iv 0#32 1#32 k.val) 256#32)).toNat = 256 * k.val := by
  obtain ⟨hk, hq⟩ := trip_lt i k
  have h : ∀ a : Fin 8, (Scalar.indexCast (Scalar.muli (Scf.iv 0#32 1#32 a.val) 256#32)).toNat = 256 * a.val := by
    decide +kernel
  exact h ⟨k.val, by omega⟩

/-! The offsets of the key and value blocks. -/

theorem off1 (i : grid0.Coords) (k : Fin (k0_t1_loop i).trips) : k0_off1 i k = ![256 * k.val, 0] := by
  rw [← block_start i k]; rfl

theorem off2 (i : grid0.Coords) (k : Fin (k0_t1_loop i).trips) : k0_off2 i k = ![256 * k.val, 128] := by
  rw [← block_start i k]; rfl

theorem off3 (i : grid0.Coords) (k : Fin (k0_t1_loop i).trips) : k0_off3 i k = ![256 * k.val, 256] := by
  rw [← block_start i k]; rfl

theorem off4 (i : grid0.Coords) (k : Fin (k0_t1_loop i).trips) : k0_off4 i k = ![256 * k.val, 384] := by
  rw [← block_start i k]; rfl

theorem off5 (i : grid0.Coords) (k : Fin (k0_t1_loop i).trips) : k0_off5 i k = ![256 * k.val, 512] := by
  rw [← block_start i k]; rfl

theorem off6 (i : grid0.Coords) (k : Fin (k0_t1_loop i).trips) : k0_off6 i k = ![256 * k.val, 640] := by
  rw [← block_start i k]; rfl

theorem off7 (i : grid0.Coords) (k : Fin (k0_t1_loop i).trips) : k0_off7 i k = ![256 * k.val, 768] := by
  rw [← block_start i k]; rfl

theorem off8 (i : grid0.Coords) (k : Fin (k0_t1_loop i).trips) : k0_off8 i k = ![256 * k.val, 896] := by
  rw [← block_start i k]; rfl

/-- A block of 256 rows and 128 columns loaded from a whole array. -/
theorem readBlock (w : Memref sig .tc .vmem S2048x1024 .bf16) (hw : w.IsWhole) (x : Vec Ideal S2048x1024 .bf16) (off : Fin 2 → ℕ)
    (h : ∀ a, off a + S256x128.size a ≤ S2048x1024.size a) (r o : ℕ) (e : off = ![r, o]) (j : Fin 256) (d : Fin 128)
    (hr : r + j.val < 2048) (ho : o + d.val < 1024) :
    (View.readAt (Elt Ideal) w.view (Rect.unit (s := S2048x1024) off S256x128.size h).toLoadRect (hw.unread x)) (ix2 j d)
      = x (ix2 ⟨r + j.val, hr⟩ ⟨o + d.val, ho⟩) := by
  subst e
  rw [hw.readAt_unread]
  congr 1
  funext a
  apply Fin.ext
  fin_cases a <;> simp [LoadRect.idx, ix2]

/-- Column `d` of head `H` among the 1024 columns of the queries, keys and values. -/
def col (H : Fin 8) (d : Fin 128) : Fin 1024 := ⟨128 * H.val + d.val, by omega⟩

/-- The masked score of query row `p` of the block against key `j`, for head `H`. -/
def sc (qi : ℕ) (x0 : Vec Ideal S256x1024 .f32) (x1 : Vec Ideal S2048x1024 .bf16) (H : Fin 8) (p : Fin 256) (j : ℕ) : EReal :=
  if h : j < 2048 ∧ j ≤ 256 * qi + p.val then
    ∑ d : Fin 128, (x0 (ix2 p (col H d)) * Ideal.ofBits .f32 0x3DD105EC#32) * x1 (ix2 ⟨j, h.1⟩ (col H d))
  else ⊥

/-- Column `d` of the value of key `j`, for head `H`. -/
def vv (x2 : Vec Ideal S2048x1024 .bf16) (H : Fin 8) (d : Fin 128) (j : ℕ) : EReal :=
  if h : j < 2048 then x2 (ix2 ⟨j, h⟩ (col H d)) else 0

theorem score_block (i : grid0.Coords) (arg2 : Memref sig .tc .vmem S256x1024 .f32) (harg2 : arg2.IsWhole)
    (arg3 : Memref sig .tc .vmem S2048x1024 .bf16) (harg3 : arg3.IsWhole) (x0 : Vec Ideal S256x1024 .f32) (x1 : Vec Ideal S2048x1024 .bf16)
    (k : Fin (k0_t1_loop i).trips) (H : Fin 8) (o : ℕ) (ho : o = 128 * H.val)
    (hq : ∀ a, (![0, o] : Fin 2 → ℕ) a + S256x128.size a ≤ S256x1024.size a)
    (off : Fin 2 → ℕ) (h : ∀ a, off a + S256x128.size a ≤ S2048x1024.size a) (e : off = ![256 * k.val, o]) (p j : Fin 256) :
    score (headQ arg2 harg2 x0 o hq)
        (k0_pay17 i (BitVec.ofNat 32 (i 1).val) (iota .tc S256x256 32 [0] iota_S256x256_d0_w32) (iota .tc S256x256 32 [1] iota_S256x256_d1_w32) 0#32 1#32 k)
        (View.readAt (Elt Ideal) arg3.view (Rect.unit (s := S2048x1024) off S256x128.size h).toLoadRect (harg3.unread x1)) (ix2 p j)
      = sc (i 1).val x0 x1 H p (256 * k.val + j.val) := by
  subst ho
  obtain ⟨hk, hq8⟩ := trip_lt i k
  have hj := j.isLt
  rw [score_apply, vis_apply, sc]
  by_cases hv : 256 * k.val + j.val ≤ 256 * (i 1).val + p.val
  · rw [if_pos hv, if_pos rfl, dif_pos ⟨by omega, hv⟩]
    refine Finset.sum_congr rfl fun d _ => ?_
    have hd := d.isLt
    have hH := H.isLt
    rw [headQ_apply _ _ _ _ _ _ _ (by omega), readBlock arg3 harg3 x1 off h _ _ e j d (by omega) (by omega)]
    rfl
  · rw [if_neg hv, if_neg (by decide), dif_neg fun hh => hv hh.2]

theorem value_block (i : grid0.Coords) (arg4 : Memref sig .tc .vmem S2048x1024 .bf16) (harg4 : arg4.IsWhole) (x2 : Vec Ideal S2048x1024 .bf16)
    (k : Fin (k0_t1_loop i).trips) (H : Fin 8) (o : ℕ) (ho : o = 128 * H.val)
    (off : Fin 2 → ℕ) (h : ∀ a, off a + S256x128.size a ≤ S2048x1024.size a) (e : off = ![256 * k.val, o]) (j : Fin 256) (d : Fin 128) :
    (View.readAt (Elt Ideal) arg4.view (Rect.unit (s := S2048x1024) off S256x128.size h).toLoadRect (harg4.unread x2)) (ix2 j d)
      = vv x2 H d (256 * k.val + j.val) := by
  subst ho
  obtain ⟨hk, hq8⟩ := trip_lt i k
  have hj := j.isLt
  have hd := d.isLt
  have hH := H.isLt
  rw [vv, dif_pos (by omega), readBlock arg4 harg4 x2 off h _ _ e j d (by omega) (by omega)]
  rfl

/-- All eight heads agree with the running quantities after `k` key blocks. -/
def Good (sc : Fin 8 → Fin 256 → ℕ → EReal) (vv : Fin 8 → Fin 128 → ℕ → EReal) (k : ℕ) (a : Carry) : Prop :=
    Inv (sc 0) (vv 0) k a.1 a.2.1 a.2.2.1 ∧
    Inv (sc 1) (vv 1) k a.2.2.2.1 a.2.2.2.2.1 a.2.2.2.2.2.1 ∧
    Inv (sc 2) (vv 2) k a.2.2.2.2.2.2.1 a.2.2.2.2.2.2.2.1 a.2.2.2.2.2.2.2.2.1 ∧
    Inv (sc 3) (vv 3) k a.2.2.2.2.2.2.2.2.2.1 a.2.2.2.2.2.2.2.2.2.2.1 a.2.2.2.2.2.2.2.2.2.2.2.1 ∧
    Inv (sc 4) (vv 4) k a.2.2.2.2.2.2.2.2.2.2.2.2.1 a.2.2.2.2.2.2.2.2.2.2.2.2.2.1 a.2.2.2.2.2.2.2.2.2.2.2.2.2.2.1 ∧
    Inv (sc 5) (vv 5) k a.2.2.2.2.2.2.2.2.2.2.2.2.2.2.2.1 a.2.2.2.2.2.2.2.2.2.2.2.2.2.2.2.2.1 a.2.2.2.2.2.2.2.2.2.2.2.2.2.2.2.2.2.1 ∧
    Inv (sc 6) (vv 6) k a.2.2.2.2.2.2.2.2.2.2.2.2.2.2.2.2.2.2.1 a.2.2.2.2.2.2.2.2.2.2.2.2.2.2.2.2.2.2.2.1 a.2.2.2.2.2.2.2.2.2.2.2.2.2.2.2.2.2.2.2.2.1 ∧
    Inv (sc 7) (vv 7) k a.2.2.2.2.2.2.2.2.2.2.2.2.2.2.2.2.2.2.2.2.2.1 a.2.2.2.2.2.2.2.2.2.2.2.2.2.2.2.2.2.2.2.2.2.2.1 a.2.2.2.2.2.2.2.2.2.2.2.2.2.2.2.2.2.2.2.2.2.2.2

section Run

variable (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x512 .f32) (harg5 : arg5.IsWhole)
    (x0 : Vec Ideal S256x1024 .f32) (x1 : Vec Ideal S2048x1024 .bf16) (x2 : Vec Ideal S2048x1024 .bf16)

theorem Inv_init (s : Fin 256 → ℕ → EReal) (v : Fin 128 → ℕ → EReal) : Inv s v 0 (k0_pay128 (F := Ideal)) (k0_pay129 (F := Ideal)) (k0_pay130 (F := Ideal)) := by
  have e0 : Ideal.ofBits .f32 0x00000000#32 = (0 : EReal) := by simp [Ideal.ofBits, Ideal.ieee]
  intro p
  exact ⟨rfl, e0, fun d => e0⟩

/-- Before trip `k` of the block loop all heads agree with the running quantities after `k` blocks. -/
theorem stK_good (k : ℕ) (hk : k ≤ (i 1).val + 1) :
    Good (sc (i 1).val x0 x1) (vv x2) k (stK c i arg2 harg2 arg3 harg3 arg4 harg4 arg5 harg5 x0 x1 x2 k) := by
  induction k with
  | zero => exact ⟨Inv_init _ _, Inv_init _ _, Inv_init _ _, Inv_init _ _, Inv_init _ _, Inv_init _ _, Inv_init _ _, Inv_init _ _⟩
  | succ k ih =>
    have g := ih (by omega)
    have hk : k < (k0_t1_loop i).trips := lt_of_lt_of_eq (by omega) (trips1 i).symm
    have e := st_k0_t1_succ (F := Ideal) Variants.none c none i arg2 harg2 arg3 harg3 arg4 harg4 arg5 harg5 (BitVec.ofNat 32 (i 1).val) (iota .tc S256x256 32 [0] iota_S256x256_d0_w32) (iota .tc S256x256 32 [1] iota_S256x256_d1_w32)
      (headQ arg2 harg2 x0 0 inb_S256x1024_S256x128_0_0) (headQ arg2 harg2 x0 128 inb_S256x1024_S256x128_0_128) (headQ arg2 harg2 x0 256 inb_S256x1024_S256x128_0_256) (headQ arg2 harg2 x0 384 inb_S256x1024_S256x128_0_384) (headQ arg2 harg2 x0 512 inb_S256x1024_S256x128_0_512) (headQ arg2 harg2 x0 640 inb_S256x1024_S256x128_0_640) (headQ arg2 harg2 x0 768 inb_S256x1024_S256x128_0_768) (headQ arg2 harg2 x0 896 inb_S256x1024_S256x128_0_896) 0#32 (harg3.unread x1) (harg4.unread x2) (k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151) ⟨k, hk⟩
    change stK c i arg2 harg2 arg3 harg3 arg4 harg4 arg5 harg5 x0 x1 x2 (k + 1) = tripR_k0_t1 _ _ _ _ _ _ _ _ _ _ _ _ _ _ _ _ _ _ _ _ _ _ _ _ _ _ _ (stK c i arg2 harg2 arg3 harg3 arg4 harg4 arg5 harg5 x0 x1 x2 k) at e
    rw [e]
    generalize stK c i arg2 harg2 arg3 harg3 arg4 harg4 arg5 harg5 x0 x1 x2 k = a at g
    unfold tripR_k0_t1
    rw [trip_eq]
    obtain ⟨g0, g1, g2, g3, g4, g5, g6, g7⟩ := g
    exact ⟨Inv_step g0 _ _ _ _ (score_block i arg2 harg2 arg3 harg3 x0 x1 ⟨k, hk⟩ 0 0 rfl _ _ _ (off1 i _)) (value_block i arg4 harg4 x2 ⟨k, hk⟩ 0 0 rfl _ _ (off1 i _)),
      Inv_step g1 _ _ _ _ (score_block i arg2 harg2 arg3 harg3 x0 x1 ⟨k, hk⟩ 1 128 rfl _ _ _ (off2 i _)) (value_block i arg4 harg4 x2 ⟨k, hk⟩ 1 128 rfl _ _ (off2 i _)),
      Inv_step g2 _ _ _ _ (score_block i arg2 harg2 arg3 harg3 x0 x1 ⟨k, hk⟩ 2 256 rfl _ _ _ (off3 i _)) (value_block i arg4 harg4 x2 ⟨k, hk⟩ 2 256 rfl _ _ (off3 i _)),
      Inv_step g3 _ _ _ _ (score_block i arg2 harg2 arg3 harg3 x0 x1 ⟨k, hk⟩ 3 384 rfl _ _ _ (off4 i _)) (value_block i arg4 harg4 x2 ⟨k, hk⟩ 3 384 rfl _ _ (off4 i _)),
      Inv_step g4 _ _ _ _ (score_block i arg2 harg2 arg3 harg3 x0 x1 ⟨k, hk⟩ 4 512 rfl _ _ _ (off5 i _)) (value_block i arg4 harg4 x2 ⟨k, hk⟩ 4 512 rfl _ _ (off5 i _)),
      Inv_step g5 _ _ _ _ (score_block i arg2 harg2 arg3 harg3 x0 x1 ⟨k, hk⟩ 5 640 rfl _ _ _ (off6 i _)) (value_block i arg4 harg4 x2 ⟨k, hk⟩ 5 640 rfl _ _ (off6 i _)),
      Inv_step g6 _ _ _ _ (score_block i arg2 harg2 arg3 harg3 x0 x1 ⟨k, hk⟩ 6 768 rfl _ _ _ (off7 i _)) (value_block i arg4 harg4 x2 ⟨k, hk⟩ 6 768 rfl _ _ (off7 i _)),
      Inv_step g7 _ _ _ _ (score_block i arg2 harg2 arg3 harg3 x0 x1 ⟨k, hk⟩ 7 896 rfl _ _ _ (off8 i _)) (value_block i arg4 harg4 x2 ⟨k, hk⟩ 7 896 rfl _ _ (off8 i _))⟩

end Run

end Cert.KernelIdeal.Attn

end
-- ==== Proof.AttnOut.lean ====
module

public import proofs.«01_k».proof.Proof.Gen.KernelIdeal.Value
public import Idealize.ShloMosaic.Lib.Pipeline.ValueKit
public import proofs.«01_k».proof.Proof.AttnBlock

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The entry of the result for head `H`, query row `p`, value column `d`, from the running quantities after `n` blocks. -/
def quot (sc : Fin 8 → Fin 256 → ℕ → EReal) (vv : Fin 8 → Fin 128 → ℕ → EReal) (n : ℕ) (H : Fin 8) (p : Fin 256) (d : Fin 128) : EReal :=
  Ideal.div (Cert.Work.runA (sc H p) (vv H d) n) (Cert.Work.runL (sc H p) n)

/-- Two heads side by side in 128 columns: the first 64 columns of each. -/
def pair (sc : Fin 8 → Fin 256 → ℕ → EReal) (vv : Fin 8 → Fin 128 → ℕ → EReal) (n : ℕ) (H H' : Fin 8) (p : Fin 256) (x : Fin 128) : EReal :=
  if x.val < 64 then quot sc vv n H p x else quot sc vv n H' p ⟨x.val - 64, by omega⟩

theorem pair_apply {sc : Fin 8 → Fin 256 → ℕ → EReal} {vv : Fin 8 → Fin 128 → ℕ → EReal} {n : ℕ} {H H' : Fin 8}
    {m l m' l' : FVec Ideal S256x1 .f32} {a a' : FVec Ideal S256x128 .f32}
    (g : Inv (sc H) (vv H) n m l a) (g' : Inv (sc H') (vv H') n m' l' a') (p : Fin 256) (x : Fin 128) :
    k0_pay13 k0_pay119 l a l' a' (ix2 p x) = pair sc vv n H H' p x := by
  have e : k0_pay13 k0_pay119 l a l' a' (ix2 p x)
      = Scalar.select (k0_pay119 (ix2 p x)) (Ideal.div (a (ix2 p x)) (l (ix2 p 0)))
          (Ideal.div (a' (ix2 p ⟨(x.val + 128 - 64) % 128, by omega⟩)) (l' (ix2 p 0))) := by
    generalize k0_pay119 = v4
    pointwise [k0_pay13]
  rw [e, low_apply, pair]
  obtain ⟨-, hl, ha⟩ := g p
  obtain ⟨-, hl', ha'⟩ := g' p
  by_cases hx : x.val < 64
  · rw [if_pos hx, if_pos hx, ha, hl]; rfl
  · have ex : (⟨(x.val + 128 - 64) % 128, by omega⟩ : Fin 128) = ⟨x.val - 64, by omega⟩ := Fin.ext (by show (x.val + 128 - 64) % 128 = x.val - 64; omega)
    rw [if_neg hx, if_neg hx, ha', hl', ex]; rfl

/-- An entry under the latest store reads what that store holds. -/
theorem store_hit (v : View sig .tc .vmem S256x512 .f32) (f : v.ty.Contents (Elt Ideal)) (Q : ℕ) (h : ∀ a, (![0, Q] : Fin 2 → ℕ) a + S256x128.size a ≤ S256x512.size a)
    (w : FVec Ideal S256x128 .f32) (L : List (View.Piece (Elt Ideal) S256x512 .f32)) {p : Fin 256} (x : Fin 128) (y : Fin 512) (hy : y.val = Q + x.val) :
    v.read (Elt Ideal) (v.writes (Elt Ideal) f ((⟨Rect.unit (s := S256x512) ![0, Q] S256x128.size h, w⟩ : View.Piece (Elt Ideal) S256x512 .f32) :: L)) (ix2 p y) = w (ix2 p x) := by
  refine View.read_writes_cons_unit_of_mem (s := S256x512) v f (off := ![0, Q]) (off' := ![0, Q]) (size := S256x128.size) h w L (ix2 p y) (ix2 p x) rfl ?_
  intro b
  fin_cases b
  · exact (Nat.zero_add _).symm
  · exact hy

/-- An entry outside the latest store's columns reads what the earlier stores left. -/
theorem store_miss (v : View sig .tc .vmem S256x512 .f32) (f : v.ty.Contents (Elt Ideal)) (Q : ℕ) (h : ∀ a, (![0, Q] : Fin 2 → ℕ) a + S256x128.size a ≤ S256x512.size a)
    (w : FVec Ideal S256x128 .f32) (L : List (View.Piece (Elt Ideal) S256x512 .f32)) {p : Fin 256} (y : Fin 512) (hy : y.val < Q ∨ Q + 128 ≤ y.val) :
    v.read (Elt Ideal) (v.writes (Elt Ideal) f ((⟨Rect.unit (s := S256x512) ![0, Q] S256x128.size h, w⟩ : View.Piece (Elt Ideal) S256x512 .f32) :: L)) (ix2 p y)
      = v.read (Elt Ideal) (v.writes (Elt Ideal) f L) (ix2 p y) :=
  View.read_writes_cons_unit_of_not_mem (s := S256x512) v f (off := ![0, Q]) (off' := ![0, Q]) (size := S256x128.size) h w L (ix2 p y) rfl 1 hy

/-- The four stores of the epilogue, read back at column `128 P + x`. -/
theorem pieces_apply {sc : Fin 8 → Fin 256 → ℕ → EReal} {vv : Fin 8 → Fin 128 → ℕ → EReal} {n : ℕ} {a : Carry} (g : Good sc vv n a)
    (p : Fin 256) (P : Fin 4) (x : Fin 128) :
    VO0_3.read (Elt Ideal) (VO0_3.writes (Elt Ideal) VO0_3.junk
      [⟨Rect.unit (s := S256x512) ![0, 384] S256x128.size inb_S256x512_S256x128_0_384, k0_pay16 k0_pay119 a.2.2.2.2.2.2.2.2.2.2.2.2.2.2.2.2.2.2.2.1 a.2.2.2.2.2.2.2.2.2.2.2.2.2.2.2.2.2.2.2.2.1 a.2.2.2.2.2.2.2.2.2.2.2.2.2.2.2.2.2.2.2.2.2.2.1 a.2.2.2.2.2.2.2.2.2.2.2.2.2.2.2.2.2.2.2.2.2.2.2⟩,
      ⟨Rect.unit (s := S256x512) ![0, 256] S256x128.size inb_S256x512_S256x128_0_256, k0_pay15 k0_pay119 a.2.2.2.2.2.2.2.2.2.2.2.2.2.1 a.2.2.2.2.2.2.2.2.2.2.2.2.2.2.1 a.2.2.2.2.2.2.2.2.2.2.2.2.2.2.2.2.1 a.2.2.2.2.2.2.2.2.2.2.2.2.2.2.2.2.2.1⟩,
      ⟨Rect.unit (s := S256x512) ![0, 128] S256x128.size inb_S256x512_S256x128_0_128, k0_pay14 k0_pay119 a.2.2.2.2.2.2.2.1 a.2.2.2.2.2.2.2.2.1 a.2.2.2.2.2.2.2.2.2.2.1 a.2.2.2.2.2.2.2.2.2.2.2.1⟩,
      ⟨Rect.unit (s := S256x512) ![0, 0] S256x128.size inb_S256x512_S256x128_0_0, k0_pay13 k0_pay119 a.2.1 a.2.2.1 a.2.2.2.2.1 a.2.2.2.2.2.1⟩])
      (ix2 p ⟨128 * P.val + x.val, by omega⟩) = pair sc vv n ⟨2 * P.val, by omega⟩ ⟨2 * P.val + 1, by omega⟩ p x := by
  have hx := x.isLt
  fin_cases P
  · obtain ⟨g0, g1, g2, g3, g4, g5, g6, g7⟩ := g
    refine (store_miss _ _ 384 _ _ _ _ (Or.inl (by show 0 + x.val < 384; omega))).trans ?_
    refine (store_miss _ _ 256 _ _ _ _ (Or.inl (by show 0 + x.val < 256; omega))).trans ?_
    refine (store_miss _ _ 128 _ _ _ _ (Or.inl (by show 0 + x.val < 128; omega))).trans ?_
    refine (store_hit _ _ 0 _ _ _ x _ rfl).trans ?_
    exact pair_apply g0 g1 p x
  · obtain ⟨g0, g1, g2, g3, g4, g5, g6, g7⟩ := g
    refine (store_miss _ _ 384 _ _ _ _ (Or.inl (by show 128 + x.val < 384; omega))).trans ?_
    refine (store_miss _ _ 256 _ _ _ _ (Or.inl (by show 128 + x.val < 256; omega))).trans ?_
    refine (store_hit _ _ 128 _ _ _ x _ rfl).trans ?_
    exact pair_apply g2 g3 p x
  · obtain ⟨g0, g1, g2, g3, g4, g5, g6, g7⟩ := g
    refine (store_miss _ _ 384 _ _ _ _ (Or.inl (by show 256 + x.val < 384; omega))).trans ?_
    refine (store_hit _ _ 256 _ _ _ x _ rfl).trans ?_
    exact pair_apply g4 g5 p x
  · obtain ⟨g0, g1, g2, g3, g4, g5, g6, g7⟩ := g
    refine (store_hit _ _ 384 _ _ _ x _ rfl).trans ?_
    exact pair_apply g6 g7 p x

section Run

variable (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x512 .f32) (harg5 : arg5.IsWhole)
    (x0 : Vec Ideal S256x1024 .f32) (x1 : Vec Ideal S2048x1024 .bf16) (x2 : Vec Ideal S2048x1024 .bf16)

/-- One entry of what a grid point writes: the weighted sum over the denominator, at column `64 H + d`. -/
theorem out_apply (p : Fin 256) (H : Fin 8) (d : Fin 64) :
    out0_A_3 (F := Ideal) c i arg2 harg2 arg3 harg3 arg4 harg4 arg5 harg5 x0 x1 x2 (ix2 p ⟨64 * H.val + d.val, by omega⟩)
      = quot (sc (i 1).val x0 x1) (vv x2) ((i 1).val + 1) H p ⟨d.val, by omega⟩ := by
  rw [out_eq, stEnd_eq]
  have g := stK_good c i arg2 harg2 arg3 harg3 arg4 harg4 arg5 harg5 x0 x1 x2 ((i 1).val + 1) le_rfl
  have h := pieces_apply g p ⟨H.val / 2, by omega⟩ ⟨64 * (H.val % 2) + d.val, by omega⟩
  have e : (⟨64 * H.val + d.val, by omega⟩ : Fin 512) = ⟨128 * (H.val / 2) + (64 * (H.val % 2) + d.val), by omega⟩ :=
    Fin.ext (by show 64 * H.val + d.val = 128 * (H.val / 2) + (64 * (H.val % 2) + d.val); omega)
  rw [e]
  refine h.trans ?_
  have hd := d.isLt
  rcases Nat.mod_two_eq_zero_or_one H.val with h0 | h1
  · have eH : (⟨2 * (H.val / 2), by omega⟩ : Fin 8) = H := Fin.ext (by show 2 * (H.val / 2) = H.val; omega)
    have ed : (⟨64 * (H.val % 2) + d.val, by omega⟩ : Fin 128) = ⟨d.val, by omega⟩ := Fin.ext (by show 64 * (H.val % 2) + d.val = d.val; omega)
    simp only [pair, eH, ed]
    rw [if_pos (by omega)]
  · have eH : (⟨2 * (H.val / 2) + 1, by omega⟩ : Fin 8) = H := Fin.ext (by show 2 * (H.val / 2) + 1 = H.val; omega)
    have ed : (⟨64 * (H.val % 2) + d.val - 64, by omega⟩ : Fin 128) = ⟨d.val, by omega⟩ := Fin.ext (by show 64 * (H.val % 2) + d.val - 64 = d.val; omega)
    simp only [pair, eH, ed]
    rw [if_neg (by omega)]

end Run

end Cert.KernelIdeal.Attn

end
-- ==== Proof.AttnRef.lean ====
module

public import proofs.«01_k».proof.Proof.Gen.ReferenceIdeal.Read
public import Idealize.ShloMosaic.Lib.Pipeline.ValueKit
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem

namespace Cert.ReferenceIdeal.Attn

open Cert.ReferenceIdeal Cert.ReferenceIdeal.Read

variable (q : FVec Ideal S16512x1024 .f32) (k v : FVec Ideal S16512x1024 .bf16)

/-- The row of token `r` of prompt `b`. -/
def row (b : Fin 8) (r : Fin 2048) : Fin 16512 := ⟨2048 * b.val + r.val, by omega⟩

/-- Column `d` of head `h`. -/
def hcol (h : Fin 8) (d : Fin 128) : Fin 1024 := ⟨128 * h.val + d.val, by omega⟩

/-- The query of a head. -/
theorem q_at (b : Fin 8) (r : Fin 2048) (h : Fin 8) (d : Fin 128) :
    (val_main_v1 (F := Ideal) q (ix4 b r h d) : EReal) = q (ix2 (row b r) (hcol h d)) := by
  rw [val_main_v1_apply, val_main_v0_apply]
  congr 1
  funext a
  apply Fin.ext
  match a with
  | ⟨0, _⟩ => show (((b.val * 2048 + r.val) * 8 + h.val) * 128 + d.val) / 1024 = 2048 * b.val + r.val; omega
  | ⟨1, _⟩ => show (((b.val * 2048 + r.val) * 8 + h.val) * 128 + d.val) % 1024 = 128 * h.val + d.val; omega

/-- The key of a head. -/
theorem k_at (b : Fin 8) (r : Fin 2048) (h : Fin 8) (d : Fin 128) :
    (val_main_v4 (F := Ideal) k (ix4 b r h d) : EReal) = k (ix2 (row b r) (hcol h d)) := by
  rw [val_main_v4_apply, val_main_v3_apply, val_main_v2_apply]
  show (k _ : EReal) = _
  congr 1
  funext a
  apply Fin.ext
  match a with
  | ⟨0, _⟩ => show (((b.val * 2048 + r.val) * 8 + h.val) * 128 + d.val) / 1024 = 2048 * b.val + r.val; omega
  | ⟨1, _⟩ => show (((b.val * 2048 + r.val) * 8 + h.val) * 128 + d.val) % 1024 = 128 * h.val + d.val; omega

/-- The value of a head. -/
theorem v_at (b : Fin 8) (r : Fin 2048) (h : Fin 8) (d : Fin 64) :
    (val_main_v8 (F := Ideal) v (ix4 b r h d) : EReal) = v (ix2 (row b r) (hcol h ⟨d.val, by omega⟩)) := by
  rw [val_main_v8_apply, val_main_v7_apply, val_main_v6_apply, val_main_v5_apply]
  show (v _ : EReal) = _
  congr 1
  funext a
  apply Fin.ext
  match a with
  | ⟨0, _⟩ => show (((b.val * 2048 + r.val) * 8 + h.val) * 128 + d.val) / 1024 = 2048 * b.val + r.val; omega
  | ⟨1, _⟩ => show (((b.val * 2048 + r.val) * 8 + h.val) * 128 + d.val) % 1024 = 128 * h.val + d.val; omega

/-- The masked score of query `r` against key `j`. -/
def score (b h : Fin 8) (r : Fin 2048) (j : ℕ) : EReal :=
  if hj : j < 2048 ∧ j ≤ r.val then
    (∑ d : Fin 128, q (ix2 (row b r) (hcol h d)) * k (ix2 (row b ⟨j, hj.1⟩) (hcol h d))) * Ideal.ofBits .f32 0x3DD105EC#32
  else ⊥

/-- The causal mask. -/
theorem mask_at (b h : Fin 8) (r j : Fin 2048) :
    (val_main_call0_v1 (F := Ideal) (ix4 b h r j) : BitVec 1) = if j.val ≤ r.val then 1#1 else 0#1 := by
  rw [val_main_call0_v1_apply, val_main_v17_apply, val_main_v15_apply, val_main_v16_apply, val_main_v13_apply, val_main_v14_apply, val_main_v9_apply, val_main_v9_apply]
  show BitVec.ofBool (BitVec.sle (BitVec.ofNat 32 j.val) (BitVec.ofNat 32 r.val)) = _
  have e (x : Fin 2048) : (BitVec.ofNat 32 x.val).toInt = (x.val : ℤ) := by
    rw [← BitVec.ofInt_natCast]
    have := x.isLt
    exact BitVec.toInt_ofInt_eq_self (by decide) (by norm_num <;> omega) (by norm_num <;> omega)
  rw [BitVec.sle, e, e]
  by_cases hx : j.val ≤ r.val
  · rw [if_pos hx, decide_eq_true (by omega)]; rfl
  · rw [if_neg hx, decide_eq_false (by omega)]; rfl

theorem bot_at : (Ideal.ofBits .f32 0xFF800000#32 : EReal) = ⊥ := by simp [Ideal.ofBits, Ideal.ieee]

theorem zero_at : (Ideal.ofBits .f32 0x00000000#32 : EReal) = 0 := by simp [Ideal.ofBits, Ideal.ieee]

/-- The masked, scaled score of the reference. -/
theorem score_at (b h : Fin 8) (r j : Fin 2048) :
    (val_main_v18 (F := Ideal) q k (ix4 b h r j) : EReal) = score q k b h r j.val := by
  have e10 : (val_main_v10 (F := Ideal) q k (ix4 b h r j) : EReal) = ∑ d : Fin 128, q (ix2 (row b r) (hcol h d)) * k (ix2 (row b j) (hcol h d)) := by
    rw [val_main_v10_apply]
    refine Finset.sum_congr rfl fun d _ => ?_
    have el : lidx_main_v10 (ix4 b h r j) d = ix4 b r h d := by
      funext a; match a with | ⟨0, _⟩ => rfl | ⟨1, _⟩ => rfl | ⟨2, _⟩ => rfl | ⟨3, _⟩ => rfl
    have er : ridx_main_v10 (ix4 b h r j) d = ix4 b j h d := by
      funext a; match a with | ⟨0, _⟩ => rfl | ⟨1, _⟩ => rfl | ⟨2, _⟩ => rfl | ⟨3, _⟩ => rfl
    rw [el, er]
    exact congrArg₂ (· * ·) (q_at q b r h d) (k_at k b j h d)
  have e12 : (val_main_v12 (F := Ideal) q k (ix4 b h r j) : EReal)
      = (∑ d : Fin 128, q (ix2 (row b r) (hcol h d)) * k (ix2 (row b j) (hcol h d))) * Ideal.ofBits .f32 0x3DD105EC#32 := by
    rw [← e10, val_main_v12_apply, val_main_v11_apply, val_main_cst_apply]; rfl
  have e2 : (val_main_call0_v2 (F := Ideal) (ix4 b h r j) : EReal) = ⊥ := by
    rw [val_main_call0_v2_apply, val_main_call0_v0_apply, val_main_cst_0_apply]; exact bot_at
  rw [val_main_v18_apply, mask_at, e12, e2, score]
  by_cases hx : j.val ≤ r.val
  · rw [if_pos hx, dif_pos ⟨j.isLt, hx⟩]; rfl
  · rw [if_neg hx, dif_neg fun hh => hx hh.2]; rfl

/-- The largest score of a query. -/
def top (b h : Fin 8) (r : Fin 2048) : EReal := (Finset.range 2048).sup (score q k b h r)

theorem top_at (b h : Fin 8) (r : Fin 2048) : (val_main_v21 (F := Ideal) q k (ix3 b h r) : EReal) = top q k b h r := by
  have e19 : (val_main_v19 (F := Ideal) q k (ix3 b h r) : EReal) = top q k b h r := by
    have e : (val_main_v19 (F := Ideal) q k (ix3 b h r) : Ideal .f32)
        = Finset.fold max (Ideal.ofBits .f32 0xFF800000#32) (fun x => (val_main_v18 (F := Ideal) q k (ix4 b h r x) : EReal)) Finset.univ := by
      unfold val_main_v19
      generalize val_main_v18 (F := Ideal) q k = y
      clean_types
      pointwise [val_main_cst_1]
    refine e.trans ?_
    rw [bot_at]
    simp only [score_at]
    show Finset.univ.sup (fun x : Fin 2048 => score q k b h r x.val) = _
    refine le_antisymm (Finset.sup_le fun x _ => Finset.le_sup (f := score q k b h r) (Finset.mem_range.2 x.isLt)) (Finset.sup_le fun x hx => ?_)
    exact Finset.le_sup (f := fun x : Fin 2048 => score q k b h r x.val) (Finset.mem_univ ⟨x, Finset.mem_range.1 hx⟩)
  rw [val_main_v21_apply, e19, val_main_v20_apply, val_main_cst_2_apply]
  show max (Ideal.ofBits .f32 0xFF800000#32) _ = _
  rw [bot_at]
  exact max_eq_right bot_le

/-- The exponential of a score's distance from the largest. -/
theorem exp_at (b h : Fin 8) (r j : Fin 2048) :
    (val_main_v25 (F := Ideal) q k (ix4 b h r j) : EReal) = Ideal.exp (score q k b h r j.val - top q k b h r) := by
  have e22 : idx_main_v22 (idx_main_v23 (ix4 b h r j)) = ix3 b h r := by
    funext a; match a with | ⟨0, _⟩ => rfl | ⟨1, _⟩ => rfl | ⟨2, _⟩ => rfl
  rw [val_main_v25_apply, val_main_v24_apply, score_at, val_main_v23_apply, val_main_v22_apply, e22, top_at]
  rfl

/-- The reference's attention: each value weighted by its share of the exponentials. -/
theorem ref_apply (b : Fin 8) (r : Fin 2048) (h : Fin 8) (d : Fin 64) :
    (val_main_v32 (F := Ideal) q k v (ix2 ⟨2048 * b.val + r.val, by omega⟩ ⟨64 * h.val + d.val, by omega⟩) : EReal)
      = ∑ j : Fin 2048, v (ix2 (row b j) (hcol h ⟨d.val, by omega⟩)) * Ideal.div (Ideal.exp (score q k b h r j.val - top q k b h r))
          (∑ i : Fin 2048, Ideal.exp (score q k b h r i.val - top q k b h r)) := by
  have hb := b.isLt
  have hr := r.isLt
  have hh := h.isLt
  have hd := d.isLt
  have e32 : idx_main_v31 (idx_main_v32 (ix2 ⟨2048 * b.val + r.val, by omega⟩ ⟨64 * h.val + d.val, by omega⟩)) = ix4 b h d r := by
    funext a
    apply Fin.ext
    match a with
    | ⟨0, _⟩ => show ((2048 * b.val + r.val) * 512 + (64 * h.val + d.val)) / 1048576 = b.val; omega
    | ⟨1, _⟩ => show ((2048 * b.val + r.val) * 512 + (64 * h.val + d.val)) / 64 % 8 = h.val; omega
    | ⟨2, _⟩ => show ((2048 * b.val + r.val) * 512 + (64 * h.val + d.val)) % 64 = d.val; omega
    | ⟨3, _⟩ => show ((2048 * b.val + r.val) * 512 + (64 * h.val + d.val)) / 512 % 2048 = r.val; omega
  have e26 : (val_main_v26 (F := Ideal) q k (ix3 b h r) : EReal) = ∑ i : Fin 2048, Ideal.exp (score q k b h r i.val - top q k b h r) := by
    rw [val_main_v26_apply, val_main_cst_3_apply]
    refine (congrArg₂ (· + ·) zero_at (Finset.sum_congr rfl fun i _ => ?_)).trans (zero_add _)
    have e : idx_main_v26 (ix3 b h r) i = ix4 b h r i := by
      funext a; match a with | ⟨0, _⟩ => rfl | ⟨1, _⟩ => rfl | ⟨2, _⟩ => rfl | ⟨3, _⟩ => rfl
    rw [e]
    exact exp_at q k b h r i
  rw [val_main_v32_apply, val_main_v31_apply, e32, val_main_v30_apply]
  refine Finset.sum_congr rfl fun j _ => ?_
  have el : lidx_main_v30 (ix4 b h d r) j = ix4 b j h d := by
    funext a; match a with | ⟨0, _⟩ => rfl | ⟨1, _⟩ => rfl | ⟨2, _⟩ => rfl | ⟨3, _⟩ => rfl
  have er : ridx_main_v30 (ix4 b h d r) j = ix4 b h r j := by
    funext a; match a with | ⟨0, _⟩ => rfl | ⟨1, _⟩ => rfl | ⟨2, _⟩ => rfl | ⟨3, _⟩ => rfl
  have e27 : idx_main_v27 (idx_main_v28 (ix4 b h r j)) = ix3 b h r := by
    funext a; match a with | ⟨0, _⟩ => rfl | ⟨1, _⟩ => rfl | ⟨2, _⟩ => rfl
  rw [el, er, v_at, val_main_v29_apply, exp_at, val_main_v28_apply, val_main_v27_apply, e27, e26]
  rfl

end Cert.ReferenceIdeal.Attn

end
-- ==== Proof.AttnFinal.lean ====
module

public import proofs.«01_k».proof.Proof.Gen.KernelIdeal.Value
public import Idealize.ShloMosaic.Lib.Pipeline.ValueKit
public import proofs.«01_k».proof.Proof.AttnOut
public import proofs.«01_k».proof.Proof.AttnRef
public import proofs.«01_k».proof.Proof.Gen.Pre_finite_qk

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ) (c : Dev nD)

/-- The windows' block indices: queries and results follow the grid point, keys and values the prompt. -/
theorem idx : ∀ t : Fin cfg0.N, win0_0.index t = ![t.val, 0] ∧ win0_1.index t = ![t.val / 8, 0] ∧ win0_2.index t = ![t.val / 8, 0]
    ∧ win0_3.index t = ![t.val, 0] :=
  (by decide +kernel : ∀ t : Fin grid0.N, _)

/-- The second grid coordinate: the query block within its prompt. -/
theorem coord : ∀ t : Fin cfg0.N, ((grid0.coords t) 1).val = t.val % 8 :=
  (by decide +kernel : ∀ t : Fin grid0.N, _)

/-- The arguments' contents. -/
abbrev argQ : FVec Ideal Cert.ReferenceIdeal.S16512x1024 .f32 := m ((c : Thread nD τ).loc main_arg0)
abbrev argK : FVec Ideal Cert.ReferenceIdeal.S16512x1024 .bf16 := m ((c : Thread nD τ).loc main_arg1)
abbrev argV : FVec Ideal Cert.ReferenceIdeal.S16512x1024 .bf16 := m ((c : Thread nD τ).loc main_arg2)

theorem lt64 (t : Fin cfg0.N) : t.val < 64 := lt_of_lt_of_eq t.isLt (by decide +kernel)

theorem block_q (t : Fin cfg0.N) (p : Fin 256) (x : Fin 1024) :
    (X0_0 m c t (ix2 p x) : EReal) = argQ m c (ix2 ⟨t.val * 256 + p.val, by have := lt64 t; omega⟩ x) := by
  have ht := lt64 t
  unfold X0_0 Pipeline.Window.fill
  rw [dif_pos (moved0_0 t _)]
  blk_ext! [iblk, V, idx t]

theorem block_k (t : Fin cfg0.N) (j : Fin 2048) (x : Fin 1024) :
    (X0_1 m c t (ix2 j x) : EReal) = argK m c (ix2 ⟨t.val / 8 * 2048 + j.val, by have := lt64 t; omega⟩ x) := by
  have ht := lt64 t
  unfold X0_1 Pipeline.Window.fill
  rw [dif_pos (moved0_1 t _)]
  blk_ext! [iblk, V, idx t]

theorem block_v (t : Fin cfg0.N) (j : Fin 2048) (x : Fin 1024) :
    (X0_2 m c t (ix2 j x) : EReal) = argV m c (ix2 ⟨t.val / 8 * 2048 + j.val, by have := lt64 t; omega⟩ x) := by
  have ht := lt64 t
  unfold X0_2 Pipeline.Window.fill
  rw [dif_pos (moved0_2 t _)]
  blk_ext! [iblk, V, idx t]

/-- A finite extended real below infinity in magnitude is a real. -/
theorem real_of_abs_lt {x : EReal} (h : max x (-x) < ⊤) : ∃ r : ℝ, x = (r : EReal) := by
  induction x with
  | bot => exact absurd h (by simp)
  | top => exact absurd h (by simp)
  | coe r => exact ⟨r, rfl⟩

/-- The scale is a real. -/
theorem scale_real : ∃ r : ℝ, Ideal.ofBits .f32 0x3DD105EC#32 = (r : EReal) := by
  simp [Ideal.ofBits, Ideal.ieee, -EReal.coe_mul]

/-- A real factor moves out of a finite sum of products of reals, which is a real. -/
theorem scale_out {n : ℕ} (a b : Fin n → ℝ) (r : ℝ) :
    (∑ d, ((a d : EReal) * (r : EReal)) * (b d : EReal)) = (∑ d, (a d : EReal) * (b d : EReal)) * (r : EReal) := by
  simp only [← EReal.coe_mul, ← Cert.Work.coe_sum_real]
  congr 1
  rw [Finset.sum_mul]
  exact Finset.sum_congr rfl fun d _ => by ring

/-- The two arrays hold reals only. -/
def Finite : Prop := (∀ i, ∃ r : ℝ, argQ m c i = (r : EReal)) ∧ ∀ i, ∃ r : ℝ, argK m c i = (r : EReal)

variable {m c}

theorem sc_eq (hf : Finite m c) (t : Fin cfg0.N) (H : Fin 8) (p : Fin 256) :
    sc (t.val % 8) (X0_0 m c t) (X0_1 m c t) H p
      = Cert.ReferenceIdeal.Attn.score (argQ m c) (argK m c) ⟨t.val / 8, by have := lt64 t; omega⟩ H ⟨t.val % 8 * 256 + p.val, by omega⟩ := by
  have ht := lt64 t
  funext j
  unfold sc Cert.ReferenceIdeal.Attn.score
  by_cases h : j < 2048 ∧ j ≤ 256 * (t.val % 8) + p.val
  · rw [dif_pos h, dif_pos ⟨h.1, by show j ≤ t.val % 8 * 256 + p.val; omega⟩]
    choose a ha using hf.1
    choose b hb using hf.2
    obtain ⟨r, hr⟩ := scale_real
    simp only [block_q, block_k, hr, ha, hb]
    rw [scale_out]
    congr 1
    refine Finset.sum_congr rfl fun d _ => ?_
    congr 3 <;> exact congrArg (ix2 · _) (Fin.ext (by simp only [Cert.ReferenceIdeal.Attn.row]; omega))
  · rw [dif_neg h, dif_neg fun hh => h ⟨hh.1, by have h2 : j ≤ t.val % 8 * 256 + p.val := hh.2; omega⟩]

/-- A visible score is a real. -/
theorem score_real (hf : Finite m c) (b h : Fin 8) (r : Fin 2048) (j : ℕ) (hj : j < 2048) (hr : j ≤ r.val) :
    ∃ x : ℝ, Cert.ReferenceIdeal.Attn.score (argQ m c) (argK m c) b h r j = (x : EReal) := by
  unfold Cert.ReferenceIdeal.Attn.score
  rw [dif_pos ⟨hj, hr⟩]
  choose a ha using hf.1
  choose b hb using hf.2
  obtain ⟨r, hr⟩ := scale_real
  simp only [hr, ha, hb, ← EReal.coe_mul, ← Cert.Work.coe_sum_real]
  exact ⟨_, rfl⟩

/-- What a grid point leaves in its output block is the reference's attention. -/
theorem block_out (hf : Finite m c) (t : Fin cfg0.N) (p : Fin 256) (H : Fin 8) (d : Fin 64) :
    (outsAt0 m c t (ix2 p ⟨64 * H.val + d.val, by omega⟩) : EReal)
      = Cert.ReferenceIdeal.Read.val_main_v32 (F := Ideal) (argQ m c) (argK m c) (argV m c)
          (ix2 ⟨2048 * (t.val / 8) + (t.val % 8 * 256 + p.val), by have := lt64 t; omega⟩ ⟨64 * H.val + d.val, by omega⟩) := by
  have ht := lt64 t
  unfold outsAt0
  rw [out_apply, coord t]
  refine Eq.trans ?_ (Cert.ReferenceIdeal.Attn.ref_apply (argQ m c) (argK m c) (argV m c) ⟨t.val / 8, by omega⟩ ⟨t.val % 8 * 256 + p.val, by omega⟩ H d).symm
  unfold quot
  rw [sc_eq hf]
  refine (Cert.Work.online_softmax ?_ ?_ _ _ (by omega) (by omega) ?_).trans ?_
  · intro j
    by_cases hj : j < 2048 ∧ j ≤ t.val % 8 * 256 + p.val
    · obtain ⟨x, hx⟩ := score_real hf ⟨t.val / 8, by omega⟩ H ⟨t.val % 8 * 256 + p.val, by omega⟩ j hj.1 hj.2
      rw [hx]; exact EReal.coe_ne_top x
    · unfold Cert.ReferenceIdeal.Attn.score; rw [dif_neg hj]; exact bot_ne_top
  · obtain ⟨x, hx⟩ := score_real hf ⟨t.val / 8, by omega⟩ H ⟨t.val % 8 * 256 + p.val, by omega⟩ 0 (by omega) (Nat.zero_le _)
    rw [hx]; exact EReal.coe_ne_bot x
  · intro j hj
    unfold Cert.ReferenceIdeal.Attn.score
    exact dif_neg fun hh => absurd hh.2 (by show ¬ j ≤ t.val % 8 * 256 + p.val; have := p.isLt; omega)
  · refine Finset.sum_congr rfl fun j _ => ?_
    refine congrArg₂ (· * ·) ?_ rfl
    unfold vv
    rw [dif_pos j.isLt, block_v]
    exact congrArg (argV m c) (congrArg (ix2 · _) (Fin.ext (by simp only [Cert.ReferenceIdeal.Attn.row]; omega)))

/-- The result array after the run is the reference's. -/
theorem final (hf : Finite m c) : (dats m 0 c).arrAt 3 (cfgs 0).N
    = Cert.ReferenceIdeal.Read.val_main_v32 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  have ht := lt64 t
  have h1 := y1.isLt
  have he : ((View.whole main_v0).slice (win0_3.rect t)).emb (ix2 y0 y1)
      = (ix2 ⟨2048 * (t.val / 8) + (t.val % 8 * 256 + y0.val), by omega⟩ ⟨64 * (y1.val / 64) + y1.val % 64, by omega⟩ : S16384x512.Idx) := by
    blk_ext [idx t]
  rw [he]
  refine Eq.trans ?_ (block_out hf t y0 ⟨y1.val / 64, by omega⟩ ⟨y1.val % 64, by omega⟩)
  have e1 : (⟨64 * (y1.val / 64) + y1.val % 64, by omega⟩ : Fin 512) = y1 := Fin.ext (by show 64 * (y1.val / 64) + y1.val % 64 = y1.val; omega)
  rw [e1]

/-- The precondition makes the queries and the keys finite. -/
theorem finite_of_pre (h : Cert.Pre_finite_qk.fn (F := Ideal) (m ((c : Thread nD τ).loc main_arg0)) (m ((c : Thread nD τ).loc main_arg1)) (m ((c : Thread nD τ).loc main_arg2)) = fun _ => 1#1) : Finite m c := by
  have ht : (Ideal.ofBits .f32 0x7F800000#32 : EReal) = ⊤ := by simp [Ideal.ofBits, Ideal.ieee]
  have hb : ∀ a b : BitVec 1, IntOp.andi a b = 1#1 → a = 1#1 ∧ b = 1#1 := by decide
  have hx : ∀ x : EReal, Ideal.cmp .olt (max x (-x)) (Ideal.ofBits .f32 0x7F800000#32) = 1#1 → ∃ r : ℝ, x = (r : EReal) := by
    intro x hx
    refine real_of_abs_lt ?_
    rw [ht] at hx
    by_contra hn
    rw [Ideal.cmp, show decide (max x (-x) < ⊤) = false from decide_eq_false hn] at hx
    exact absurd hx (by decide)
  refine ⟨fun i => hx _ (hb _ _ (congrFun h i)).1, fun i => hx _ (hb _ _ (congrFun h i)).2⟩

end Cert.KernelIdeal.Attn

end
-- ==== Proof.AttnClaim.lean ====
module

public import proofs.«01_k».proof.Defs
public import proofs.«01_k».proof.Proof.AttnFinal
public import proofs.«01_k».proof.Proof.Gen.Kernel.Frame
public import proofs.«01_k».proof.Proof.Gen.ReferenceIdeal.Run

@[expose] public section

set_option maxRecDepth 16384

noncomputable section

open Idealize.ShloMosaic Idealize.ShloMosaic.TcCoe Idealize.SL.Sem

namespace Cert.Proof.AttnClaims

/-- The printed attention kernel's frame. -/
theorem frame_k : Cert.quiescent_Kernel := fun m ρ _ => Cert.Kernel.Gen.frame m ρ

/-- The idealized attention kernel's frame. -/
theorem frame_ki : Cert.quiescent_KernelIdeal := fun m ρ _ => Cert.KernelIdeal.Gen.frame m ρ

/-- The same frame where the queries and keys are finite. -/
theorem frame_ki_pre : Cert.quiescent_KernelIdeal_pre_finite_qk := fun m ρ _ => Cert.KernelIdeal.Gen.frame m ρ

/-- The reference's frame: its run, read at the arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same frame where the queries and keys are finite. -/
theorem frame_ri_pre : Cert.quiescent_ReferenceIdeal_pre_finite_qk := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask is the one constant the idealizing pass named: it reads bottom. -/
theorem preserves : Cert.preserves_Kernel_KernelIdeal :=
  IdealRules.named_const.statement Cert.KernelIdeal.κ "mask" .f32 0xF149F2CA#32 ⊥ rfl

/-- The attention kernel and its reference end with equal results over the extended reals, the queries and keys finite. -/
theorem algebraic : Cert.algebraic_KernelIdeal_ReferenceIdeal_pre_finite_qk := by
  intro m ρ m' ρ' hpre hag
  refine ⟨fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Attn.final (Cert.KernelIdeal.Attn.finite_of_pre (hpre c))), (h c).2⟩)
      (Cert.KernelIdeal.Value.run_blocks (F := Ideal) m ρ)
  · refine (θ_run Cert.ReferenceIdeal.defs _ _).mono
      (fun _ h c => ⟨(h c).1.trans ?_, (h c).2⟩)
      (Cert.ReferenceIdeal.Value.run (F := Ideal) m' ρ')
    obtain ⟨h0, h1, h2⟩ := hag c
    rw [Cert.ReferenceIdeal.Read.val_main_v32_eq, h0, h1, h2]

end Cert.Proof.AttnClaims

end
-- ==== Proof.FfnSum.lean ====
module

public import Mathlib.Data.EReal.Operations
public import Mathlib.Algebra.BigOperators.Fin

@[expose] public section

namespace Cert.Work

/-- The part of a sum over 2816 hidden columns that column chunk `c` (256 columns) holds. -/
noncomputable def part (f : Fin 2816 → EReal) (c : ℕ) (hc : c ≤ 10) : EReal :=
  ∑ k : Fin 256, f ⟨256 * c + k.val, by omega⟩

/-- A sum over the 2816 hidden columns, added to `x`, is the same as adding the eleven chunks of 256 columns to `x` one
    after another. -/
theorem sum_chunks (x : EReal) (f : Fin 2816 → EReal) :
    x + ∑ k : Fin 2816, f k
      = x + part f 0 (by omega) + part f 1 (by omega) + part f 2 (by omega) + part f 3 (by omega) + part f 4 (by omega)
        + part f 5 (by omega) + part f 6 (by omega) + part f 7 (by omega) + part f 8 (by omega) + part f 9 (by omega)
        + part f 10 (by omega) := by
  let g : ℕ → EReal := fun n => if h : n < 2816 then f ⟨n, h⟩ else 0
  have hg : ∑ k : Fin 2816, f k = ∑ n ∈ Finset.range 2816, g n := by
    rw [Finset.sum_range]
    exact Finset.sum_congr rfl fun k _ => by simp [g]
  have hp (c : ℕ) (hc : c ≤ 10) : part f c hc = ∑ n ∈ Finset.range 256, g (256 * c + n) := by
    rw [Finset.sum_range]
    refine Finset.sum_congr rfl fun k _ => ?_
    have : 256 * c + k.val < 2816 := by omega
    simp [g, this]
  have hs (c : ℕ) : ∑ n ∈ Finset.range (256 * (c + 1)), g n
      = ∑ n ∈ Finset.range (256 * c), g n + ∑ n ∈ Finset.range 256, g (256 * c + n) := by
    rw [show 256 * (c + 1) = 256 * c + 256 by ring, Finset.sum_range_add]
  rw [hg, show (2816 : ℕ) = 256 * (10 + 1) by norm_num]
  simp only [hp]
  rw [hs 10, hs 9, hs 8, hs 7, hs 6, hs 5, hs 4, hs 3, hs 2, hs 1, hs 0]
  simp only [Nat.mul_zero, Finset.range_zero, Finset.sum_empty, zero_add, ← add_assoc]

end Cert.Work

end
-- ==== Proof.Rms.lean ====
module

public import Idealize.ShloMosaic.Lib.IdealHost
public import Idealize.ShloMosaic.Lib.Pipeline.ValueKit

@[expose] public section

noncomputable section

open Idealize.ShloMosaic

namespace Cert.Work

/-- The norm of a row `x` of 1024 values with gain `g`, at column `j`: the value over the root of the mean square. -/
def rms (x g : Fin 1024 → EReal) (j : Fin 1024) : EReal :=
  x j * Ideal.rsqrt (Ideal.div (∑ k, x k * x k) (Ideal.ofBits .f32 0x44800000#32) + Ideal.ofBits .f32 0x358637BD#32) * g j

end Cert.Work

end
-- ==== Proof.Ffn.lean ====
module

public import proofs.«01_k».proof.Proof.Gen.Kernel2Ideal.Value
public import proofs.«01_k».proof.Proof.Gen.Reference2Ideal.Read
public import proofs.«01_k».proof.Proof.FfnSum
public import proofs.«01_k».proof.Proof.Rms
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Work

variable (m : (ℓ : Loc nD τ sig) → Buf (Elt Ideal) ℓ)

/-- One column chunk of the feed-forward block: gate and up projections, `a · sigmoid a · u`, down projection. -/
def chunk (h : FVec Ideal S384x1024 .bf16) (wg wu : FVec Ideal S1024x256 .bf16) (wd : FVec Ideal S256x1024 .bf16) :
    FVec Ideal S384x1024 .f32 :=
  matmul dot_S384x256_S256x1024_S384x1024_1_0_0_1_n_n none
    (truncf .bf16
      (mulf
        (mulf (matmul dot_S384x1024_S1024x256_S384x256_1_0_0_1_n_n none h (shapeCast S1024x256 wg shapeCasts_S1024x256_S1024x256) (constant S384x256 .f32 0x00000000#32))
          (logistic (matmul dot_S384x1024_S1024x256_S384x256_1_0_0_1_n_n none h (shapeCast S1024x256 wg shapeCasts_S1024x256_S1024x256) (constant S384x256 .f32 0x00000000#32))))
        (matmul dot_S384x1024_S1024x256_S384x256_1_0_0_1_n_n none h (shapeCast S1024x256 wu shapeCasts_S1024x256_S1024x256) (constant S384x256 .f32 0x00000000#32)))
      bitsLt_bf16_f32)
    (shapeCast S256x1024 wd shapeCasts_S256x1024_S256x1024) (constant S384x1024 .f32 0x00000000#32)

/-- The residual block plus the eleven chunks of the hidden width, added one after another. -/
def accum (x0 : Vec Ideal S384x1024 .f32) (x1 : Vec Ideal S1x1024 .f32) (x2 : Vec Ideal S1024x2816 .bf16)
    (x3 : Vec Ideal S1024x2816 .bf16) (x4 : Vec Ideal S2816x1024 .bf16) : FVec Ideal S384x1024 .f32 :=
  let h := k0_pay2 (View.ld x0 r0_0) (View.ld x1 r0_1)
  addf (addf (addf (addf (addf (addf (addf (addf (addf (addf (addf (View.ld x0 r0_0)
    (chunk h (View.ld x2 r0_2) (View.ld x3 r0_2) (View.ld x4 r0_3)))
    (chunk h (View.ld x2 r0_4) (View.ld x3 r0_4) (View.ld x4 r0_5)))
    (chunk h (View.ld x2 r0_6) (View.ld x3 r0_6) (View.ld x4 r0_7)))
    (chunk h (View.ld x2 r0_8) (View.ld x3 r0_8) (View.ld x4 r0_9)))
    (chunk h (View.ld x2 r0_10) (View.ld x3 r0_10) (View.ld x4 r0_11)))
    (chunk h (View.ld x2 r0_12) (View.ld x3 r0_12) (View.ld x4 r0_13)))
    (chunk h (View.ld x2 r0_14) (View.ld x3 r0_14) (View.ld x4 r0_15)))
    (chunk h (View.ld x2 r0_16) (View.ld x3 r0_16) (View.ld x4 r0_17)))
    (chunk h (View.ld x2 r0_18) (View.ld x3 r0_18) (View.ld x4 r0_19)))
    (chunk h (View.ld x2 r0_20) (View.ld x3 r0_20) (View.ld x4 r0_21)))
    (chunk h (View.ld x2 r0_22) (View.ld x3 r0_22) (View.ld x4 r0_23))

/-- The kernel's stored block. -/
theorem stored_eq (x0 : Vec Ideal S384x1024 .f32) (x1 : Vec Ideal S1x1024 .f32) (x2 : Vec Ideal S1024x2816 .bf16)
    (x3 : Vec Ideal S1024x2816 .bf16) (x4 : Vec Ideal S2816x1024 .bf16) (x5 : Vec Ideal S1x1024 .f32) :
    out0_6 x0 x1 x2 x3 x4 x5 = View.canon [⟨r0_0, accum x0 x1 x2 x3 x4⟩] := rfl

/-- The reference's hidden value for normalized row `h`, gate column `a` and up column `b`. -/
def hid (h a b : Fin 1024 → EReal) : EReal :=
  (∑ j, h j * a j) * Ideal.logistic (∑ j, h j * a j) * ∑ j, h j * b j

/-- One chunk at one element. -/
theorem chunk_apply (h : FVec Ideal S384x1024 .bf16) (wg wu : FVec Ideal S1024x256 .bf16) (wd : FVec Ideal S256x1024 .bf16)
    (p : Fin 384) (q : Fin 1024) :
    chunk h wg wu wd (ix2 p q) = ∑ k : Fin 256, hid (fun j => h (ix2 p j)) (fun j => wg (ix2 j k)) (fun j => wu (ix2 j k)) * wd (ix2 k q) := by
  pointwise [chunk, hid]

/-- The kernel's normalized block. -/
theorem nrm_block (x : Vec Ideal S384x1024 .f32) (g : Vec Ideal S1x1024 .f32) (p : Fin 384) (j : Fin 1024) :
    k0_pay2 x g (ix2 p j) = rms (fun k => x (ix2 p k)) (fun k => g (ix2 0 k)) j := by
  pointwise [k0_pay2]
  rfl

/-- The summand of the down projection: normalized row `h`, whole weights `wg`, `wu`, `wd`, result column `q`. -/
def term (h : Fin 1024 → EReal) (wg wu : S1024x2816.Idx → EReal) (wd : S2816x1024.Idx → EReal) (q : Fin 1024) (k : Fin 2816) : EReal :=
  hid h (fun j => wg (ix2 j k)) (fun j => wu (ix2 j k)) * wd (ix2 k q)

/-- The chunk that reads columns `256 n …` of the gate and up weights and the same rows of the down weights is that
    part of the whole sum. -/
theorem chunk_part (h : FVec Ideal S384x1024 .bf16) (x2 x3 : Vec Ideal S1024x2816 .bf16) (x4 : Vec Ideal S2816x1024 .bf16)
    (p : Fin 384) (q : Fin 1024) (n : ℕ) (hn : n ≤ 10)
    (b : ∀ a, (![0, 256 * n] : Fin 2 → ℕ) a + S1024x256.size a ≤ S1024x2816.size a)
    (b' : ∀ a, (![256 * n, 0] : Fin 2 → ℕ) a + S256x1024.size a ≤ S2816x1024.size a) :
    chunk h (View.ld x2 (Rect.unit (s := S1024x2816) ![0, 256 * n] S1024x256.size b))
        (View.ld x3 (Rect.unit (s := S1024x2816) ![0, 256 * n] S1024x256.size b))
        (View.ld x4 (Rect.unit (s := S2816x1024) ![256 * n, 0] S256x1024.size b')) (ix2 p q)
      = part (term (fun j => h (ix2 p j)) x2 x3 x4 q) n hn := by
  have hc (x : Vec Ideal S1024x2816 .bf16) (j : Fin 1024) (k : Fin 256) :
      View.ld x (Rect.unit (s := S1024x2816) ![0, 256 * n] S1024x256.size b) (ix2 j k) = x (ix2 j ⟨256 * n + k.val, by omega⟩) := by
    refine congrArg x (funext fun a => Fin.ext ?_)
    match a with
    | ⟨0, _⟩ => show 0 + 1 * j.val = j.val; omega
    | ⟨1, _⟩ => show 256 * n + 1 * k.val = 256 * n + k.val; omega
  have hr (k : Fin 256) :
      View.ld x4 (Rect.unit (s := S2816x1024) ![256 * n, 0] S256x1024.size b') (ix2 k q) = x4 (ix2 ⟨256 * n + k.val, by omega⟩ q) := by
    refine congrArg x4 (funext fun a => Fin.ext ?_)
    match a with
    | ⟨0, _⟩ => show 256 * n + 1 * k.val = 256 * n + k.val; omega
    | ⟨1, _⟩ => show 0 + 1 * q.val = q.val; omega
  rw [chunk_apply]
  unfold part term
  exact Finset.sum_congr rfl fun k _ => by
    rw [hr k, funext fun j => hc x2 j k, funext fun j => hc x3 j k]

/-- The accumulated block at one element: the residual plus the whole down projection of the hidden row. -/
theorem accum_apply (x0 : Vec Ideal S384x1024 .f32) (x1 : Vec Ideal S1x1024 .f32) (x2 x3 : Vec Ideal S1024x2816 .bf16)
    (x4 : Vec Ideal S2816x1024 .bf16) (p : Fin 384) (q : Fin 1024) :
    accum x0 x1 x2 x3 x4 (ix2 p q)
      = x0 (ix2 p q) + ∑ k, term (rms (fun k => x0 (ix2 p k)) (fun k => x1 (ix2 0 k))) x2 x3 x4 q k := by
  have e0 : View.ld x0 r0_0 = x0 := View.ld_unit_lit _ _ (by decide)
  have e1 : View.ld x1 r0_1 = x1 := View.ld_unit_lit _ _ (by decide)
  have eh : rms (fun k => x0 (ix2 p k)) (fun k => x1 (ix2 0 k)) = fun j => k0_pay2 x0 x1 (ix2 p j) :=
    funext fun j => (nrm_block x0 x1 p j).symm
  unfold accum
  rw [sum_chunks, eh, e0, e1]
  have C (n : ℕ) (hn : n ≤ 10) b b' := (chunk_part (k0_pay2 x0 x1) x2 x3 x4 p q n hn b b').symm
  rw [C 0 _ inb_S1024x2816_S1024x256_0_0 inb_S2816x1024_S256x1024_0_0,
    C 1 _ inb_S1024x2816_S1024x256_0_256 inb_S2816x1024_S256x1024_256_0,
    C 2 _ inb_S1024x2816_S1024x256_0_512 inb_S2816x1024_S256x1024_512_0,
    C 3 _ inb_S1024x2816_S1024x256_0_768 inb_S2816x1024_S256x1024_768_0,
    C 4 _ inb_S1024x2816_S1024x256_0_1024 inb_S2816x1024_S256x1024_1024_0,
    C 5 _ inb_S1024x2816_S1024x256_0_1280 inb_S2816x1024_S256x1024_1280_0,
    C 6 _ inb_S1024x2816_S1024x256_0_1536 inb_S2816x1024_S256x1024_1536_0,
    C 7 _ inb_S1024x2816_S1024x256_0_1792 inb_S2816x1024_S256x1024_1792_0,
    C 8 _ inb_S1024x2816_S1024x256_0_2048 inb_S2816x1024_S256x1024_2048_0,
    C 9 _ inb_S1024x2816_S1024x256_0_2304 inb_S2816x1024_S256x1024_2304_0,
    C 10 _ inb_S1024x2816_S1024x256_0_2560 inb_S2816x1024_S256x1024_2560_0]
  rfl

/-- The windows' block indices: the rows follow the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's normalized row. -/
theorem nrm_ref (x : FVec Ideal S16512x1024 .f32) (g : FVec Ideal Cert.Reference2Ideal.S1024 .f32) (i : Fin 16512) (j : Fin 1024) :
    Cert.Reference2Ideal.Read.val_main_v12 (F := Ideal) x g (ix2 i j) = rms (fun k => x (ix2 i k)) (fun k => g (ix1 k)) j := by
  pointwise [Cert.Reference2Ideal.Read.val_main_v12, Cert.Reference2Ideal.Read.val_main_v11, Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1]
  rfl

/-- The reference's result at one element: the residual plus the down projection of the hidden row. -/
theorem ref_apply (x : FVec Ideal S16512x1024 .f32) (g : FVec Ideal Cert.Reference2Ideal.S1024 .f32)
    (wg wu : FVec Ideal S1024x2816 .f32) (wd : FVec Ideal S2816x1024 .f32) (i : Fin 16512) (q : Fin 1024) :
    Cert.Reference2Ideal.Read.val_main_v18 (F := Ideal) x g wg wu wd (ix2 i q)
      = x (ix2 i q) + ∑ k, term (rms (fun k => x (ix2 i k)) (fun k => g (ix1 k))) wg wu wd q k := by
  have e17 (k : Fin 2816) : Cert.Reference2Ideal.Read.lidx_main_v17 (ix2 i q) k = ix2 i k := by
    funext a; match a with
    | ⟨0, _⟩ => rfl
    | ⟨1, _⟩ => rfl
  have f17 (k : Fin 2816) : Cert.Reference2Ideal.Read.ridx_main_v17 (ix2 i q) k = ix2 k q := by
    funext a; match a with
    | ⟨0, _⟩ => rfl
    | ⟨1, _⟩ => rfl
  have e13 (k : Fin 2816) (j : Fin 1024) : Cert.Reference2Ideal.Read.lidx_main_v13 (ix2 i k) j = ix2 i j := by
    funext a; match a with
    | ⟨0, _⟩ => rfl
    | ⟨1, _⟩ => rfl
  have f13 (k : Fin 2816) (j : Fin 1024) : Cert.Reference2Ideal.Read.ridx_main_v13 (ix2 i k) j = ix2 j k := by
    funext a; match a with
    | ⟨0, _⟩ => rfl
    | ⟨1, _⟩ => rfl
  have e15 (k : Fin 2816) (j : Fin 1024) : Cert.Reference2Ideal.Read.lidx_main_v15 (ix2 i k) j = ix2 i j := e13 k j
  have f15 (k : Fin 2816) (j : Fin 1024) : Cert.Reference2Ideal.Read.ridx_main_v15 (ix2 i k) j = ix2 j k := f13 k j
  have one : (FloatOps.ofBits (F := Ideal) .f32 0x3F800000#32 : Ideal .f32) = (1 : EReal) := by
    simp only [Ideal.ofBits_def, Ideal.ofBits_one_f32]
  rw [Cert.Reference2Ideal.Read.val_main_v18_apply, Cert.Reference2Ideal.Read.val_main_v17_apply]
  refine congrArg (x (ix2 i q) + ·) (Finset.sum_congr rfl fun k _ => ?_)
  rw [e17, f17]
  have hl (z : Cert.Reference2Ideal.S16512x2816.Idx) : Cert.Reference2Ideal.Read.val_main_call0_v5 (F := Ideal) x g wg z
      = Ideal.logistic (Cert.Reference2Ideal.Read.val_main_v13 (F := Ideal) x g wg z) := by
    simp only [Cert.Reference2Ideal.Read.val_main_call0_v5_apply, Cert.Reference2Ideal.Read.val_main_call0_v4_apply, Cert.Reference2Ideal.Read.val_main_call0_cst_0_apply, Cert.Reference2Ideal.Read.val_main_call0_v3_apply, Cert.Reference2Ideal.Read.val_main_call0_v2_apply, Cert.Reference2Ideal.Read.val_main_call0_cst_apply, Cert.Reference2Ideal.Read.val_main_call0_v1_apply, Cert.Reference2Ideal.Read.val_main_call0_v0_apply, one]
    rfl
  simp only [Cert.Reference2Ideal.Read.val_main_v16_apply, Cert.Reference2Ideal.Read.val_main_v14_apply, hl, Cert.Reference2Ideal.Read.val_main_v15_apply, Cert.Reference2Ideal.Read.val_main_v13_apply, e13, f13, e15, f15, nrm_ref]
  rfl

variable (c : Dev nD)

/-- The result array after the run is the reference's. -/
theorem final : (dats m 0 c).arrAt 6 (cfgs 0).N
    = Cert.Reference2Ideal.Read.val_main_v18 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, stored_eq]
  frame_out
  idx_vars y
  have ht : t.val < 43 := lt_of_lt_of_eq t.isLt (by decide +kernel)
  have hp : t.val * 384 + y0.val < 16512 := by omega
  have he : ((View.whole main_v5).slice (win0_6.rect t)).emb (ix2 y0 y1) = (ix2 ⟨t.val * 384 + y0.val, hp⟩ y1 : S16512x1024.Idx) := by
    blk_ext [idx t]
  rw [he, ref_apply, accum_apply]
  have hx (q : Fin 1024) : iblk m c 0 t (ix2 y0 q) = (m ((c : Thread nD τ).loc main_arg0) : FVec Ideal S16512x1024 .f32) (ix2 ⟨t.val * 384 + y0.val, hp⟩ q) := by
    blk_ext! [iblk, V, idx t]
  have hg (q : Fin 1024) : iblk m c 1 t (ix2 0 q) = (m ((c : Thread nD τ).loc main_arg1) : FVec Ideal Cert.Reference2Ideal.S1024 .f32) (ix1 q) := by
    blk_point [iblk, V, idx t]
  have h2 (j : Fin 1024) (k : Fin 2816) : iblk m c 2 t (ix2 j k) = (m ((c : Thread nD τ).loc main_arg2) : FVec Ideal S1024x2816 .f32) (ix2 j k) := by
    blk_ext! [iblk, V, idx t]
  have h3 (j : Fin 1024) (k : Fin 2816) : iblk m c 3 t (ix2 j k) = (m ((c : Thread nD τ).loc main_arg3) : FVec Ideal S1024x2816 .f32) (ix2 j k) := by
    blk_ext! [iblk, V, idx t]
  have h4 (k : Fin 2816) (q : Fin 1024) : iblk m c 4 t (ix2 k q) = (m ((c : Thread nD τ).loc main_arg4) : FVec Ideal S2816x1024 .f32) (ix2 k q) := by
    blk_ext! [iblk, V, idx t]
  simp only [term, hx, hg, h2, h3, h4]

end Cert.Kernel2Ideal.Ffn

end
-- ==== Proof.FfnClaim.lean ====
module

public import proofs.«01_k».proof.Defs
public import proofs.«01_k».proof.Proof.Ffn
public import proofs.«01_k».proof.Proof.Gen.Kernel2.Frame
public import proofs.«01_k».proof.Proof.Gen.Reference2Ideal.Run

@[expose] public section

set_option maxRecDepth 16384

noncomputable section

open Idealize.ShloMosaic Idealize.ShloMosaic.TcCoe Idealize.SL.Sem

namespace Cert.Proof.FfnClaims

/-- The printed feed-forward kernel's frame. -/
theorem frame_k : Cert.quiescent_Kernel2 := fun m ρ _ => Cert.Kernel2.Gen.frame m ρ

/-- The idealized feed-forward kernel's frame. -/
theorem frame_ki : Cert.quiescent_Kernel2Ideal := fun m ρ _ => Cert.Kernel2Ideal.Gen.frame m ρ

/-- The reference's frame: its run, read at the arguments; it declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealizing pass renamed nothing here. -/
theorem preserves : Cert.preserves_Kernel2_Kernel2Ideal := trivial

/-- The feed-forward kernel and its reference end with equal results over the extended reals. -/
theorem algebraic : Cert.algebraic_Kernel2Ideal_Reference2Ideal := by
  intro m ρ m' ρ' _ hag
  refine ⟨fun c => Cert.Reference2Ideal.Read.val_main_v18 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact (θ_run Cert.Kernel2Ideal.defs _ _).mono
      (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4⟩ := hag c
    rw [Cert.Reference2Ideal.Read.val_main_v18_eq, h0, h1, h2, h3, h4]

end Cert.Proof.FfnClaims

end
-- ==== Proof.FfnLast.lean ====
module

public import proofs.«01_k».proof.Proof.Gen.Kernel3Ideal.Value
public import proofs.«01_k».proof.Proof.Gen.Reference3Ideal.Read
public import proofs.«01_k».proof.Proof.Ffn

@[expose] public section

set_option maxRecDepth 16384

noncomputable section

open Idealize.ShloMosaic Idealize.ShloMosaic.TcCoe Idealize.SL.Sem
open Idealize.ShloMosaic.Pipeline (Dat)

namespace Cert.Kernel3Ideal.FfnLast

open Cert.Kernel3Ideal Cert.Kernel3Ideal.Gen Cert.Work

/-- The stored block: the feed-forward block of the other layers, normalized once more with the final gain. -/
theorem stored_eq (x0 : Vec Ideal S384x1024 .f32) (x1 : Vec Ideal S1x1024 .f32) (x2 : Vec Ideal S1024x2816 .bf16)
    (x3 : Vec Ideal S1024x2816 .bf16) (x4 : Vec Ideal S2816x1024 .bf16) (x5 : Vec Ideal S1x1024 .f32) :
    out0_6 x0 x1 x2 x3 x4 x5 = View.canon [⟨r0_0, k0_pay1 (Cert.Kernel2Ideal.Ffn.accum x0 x1 x2 x3 x4) (View.ld x5 r0_1)⟩] := rfl

/-- The reference is the other layers' reference, normalized once more with the final gain. -/
theorem ref_eq (x : FVec Ideal S16512x1024 .f32) (g : FVec Ideal Cert.Reference3Ideal.S1024 .f32)
    (wg wu : FVec Ideal S1024x2816 .f32) (wd : FVec Ideal S2816x1024 .f32) (fg : FVec Ideal Cert.Reference3Ideal.S1024 .f32) :
    Cert.Reference3Ideal.Read.val_main_v31 (F := Ideal) x g wg wu wd fg
      = Cert.Reference2Ideal.Read.val_main_v12 (F := Ideal) (Cert.Reference2Ideal.Read.val_main_v18 (F := Ideal) x g wg wu wd) fg := rfl

/-- The windows' block indices: the rows follow the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ) (c : Dev nD)

/-- The result array after the run is the reference's. -/
theorem final : (dats m 0 c).arrAt 6 (cfgs 0).N
    = Cert.Reference3Ideal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  rw [ref_eq]
  refine (dats m 0 c).arrAt_eq_of_covers 6 _ (by decide +kernel) fun t _ y => ?_
  blk_simp
  rw [after0_6, stored_eq]
  frame_out
  idx_vars y
  have ht : t.val < 43 := lt_of_lt_of_eq t.isLt (by decide +kernel)
  have hp : t.val * 384 + y0.val < 16512 := by omega
  have he : ((View.whole main_v5).slice (win0_6.rect t)).emb (ix2 y0 y1) = (ix2 ⟨t.val * 384 + y0.val, hp⟩ y1 : S16512x1024.Idx) := by
    blk_ext [idx t]
  rw [he, Cert.Kernel2Ideal.Ffn.nrm_ref]
  refine (Cert.Kernel2Ideal.Ffn.nrm_block _ _ y0 y1).trans ?_
  have hx (q : Fin 1024) : iblk m c 0 t (ix2 y0 q) = (m ((c : Thread nD τ).loc main_arg0) : FVec Ideal S16512x1024 .f32) (ix2 ⟨t.val * 384 + y0.val, hp⟩ q) := by
    blk_ext! [iblk, V, idx t]
  have hg (q : Fin 1024) : iblk m c 1 t (ix2 0 q) = (m ((c : Thread nD τ).loc main_arg1) : FVec Ideal Cert.Reference3Ideal.S1024 .f32) (ix1 q) := by
    blk_point [iblk, V, idx t]
  have h2 (j : Fin 1024) (k : Fin 2816) : iblk m c 2 t (ix2 j k) = (m ((c : Thread nD τ).loc main_arg2) : FVec Ideal S1024x2816 .f32) (ix2 j k) := by
    blk_ext! [iblk, V, idx t]
  have h3 (j : Fin 1024) (k : Fin 2816) : iblk m c 3 t (ix2 j k) = (m ((c : Thread nD τ).loc main_arg3) : FVec Ideal S1024x2816 .f32) (ix2 j k) := by
    blk_ext! [iblk, V, idx t]
  have h4 (k : Fin 2816) (q : Fin 1024) : iblk m c 4 t (ix2 k q) = (m ((c : Thread nD τ).loc main_arg4) : FVec Ideal S2816x1024 .f32) (ix2 k q) := by
    blk_ext! [iblk, V, idx t]
  have h5 (q : Fin 1024) : iblk m c 5 t (ix2 0 q) = (m ((c : Thread nD τ).loc main_arg5) : FVec Ideal Cert.Reference3Ideal.S1024 .f32) (ix1 q) := by
    blk_point [iblk, V, idx t]
  have ha (q : Fin 1024) : Cert.Kernel2Ideal.Ffn.accum (iblk m c 0 t) (iblk m c 1 t) (iblk m c 2 t) (iblk m c 3 t) (iblk m c 4 t) (ix2 y0 q)
      = Cert.Reference2Ideal.Read.val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 ⟨t.val * 384 + y0.val, hp⟩ q) := by
    rw [Cert.Kernel2Ideal.Ffn.ref_apply]
    refine (Cert.Kernel2Ideal.Ffn.accum_apply _ _ _ _ _ y0 q).trans ?_
    simp only [Cert.Kernel2Ideal.Ffn.term, hx, hg, h2, h3, h4]
  exact congrArg₂ (fun a b => rms a b y1) (funext ha) (funext h5)

end Cert.Kernel3Ideal.FfnLast

end
-- ==== Proof.FfnLastClaim.lean ====
module

public import proofs.«01_k».proof.Defs
public import proofs.«01_k».proof.Proof.FfnLast
public import proofs.«01_k».proof.Proof.Gen.Kernel3.Frame
public import proofs.«01_k».proof.Proof.Gen.Reference3Ideal.Run

@[expose] public section

set_option maxRecDepth 16384

noncomputable section

open Idealize.ShloMosaic Idealize.ShloMosaic.TcCoe Idealize.SL.Sem

namespace Cert.Proof.FfnLastClaims

/-- The printed kernel's frame: the last layer's feed-forward with the final normalization. -/
theorem frame_k : Cert.quiescent_Kernel3 := fun m ρ _ => Cert.Kernel3.Gen.frame m ρ

/-- The idealized kernel's frame: the last layer's feed-forward with the final normalization. -/
theorem frame_ki : Cert.quiescent_Kernel3Ideal := fun m ρ _ => Cert.Kernel3Ideal.Gen.frame m ρ

/-- The reference's frame: its run, read at the arguments; it declares no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealizing pass renamed nothing here. -/
theorem preserves : Cert.preserves_Kernel3_Kernel3Ideal := trivial

/-- The last layer's feed-forward and its reference end with equal results over the extended reals. -/
theorem algebraic : Cert.algebraic_Kernel3Ideal_Reference3Ideal := by
  intro m ρ m' ρ' _ hag
  refine ⟨fun c => Cert.Reference3Ideal.Read.val_main_v31 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)), ?_, ?_⟩
  · exact (θ_run Cert.Kernel3Ideal.defs _ _).mono
      (fun _ h c => ⟨(h c).1.trans (Cert.Kernel3Ideal.FfnLast.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5⟩ := hag c
    rw [Cert.Reference3Ideal.Read.val_main_v31_eq, h0, h1, h2, h3, h4, h5]

end Cert.Proof.FfnLastClaims

end
-- ==== Proof.Cols.lean ====
module

public import Idealize.ShloMosaic.Lib.WholeRead
public import Idealize.ShloMosaic.Lib.IdealHost
public import Idealize.ShloMosaic.Lib.Pipeline.ValueKit

@[expose] public section

open Idealize.ShloMosaic

namespace Cert.Work

variable {M N W : ℕ}

/-- The bound of a column window gives the bound of each of its columns. -/
theorem col_lt {o : ℕ} (b : ∀ a, (![0, o] : Fin 2 → ℕ) a + (![M, W] : Fin 2 → ℕ) a ≤ (![M, N] : Fin 2 → ℕ) a) (q : Fin W) :
    o + q.val < N := by
  have h : o + W ≤ N := b 1
  omega

/-- Element `(p, q)` of a window of whole rows whose first column is `o`. -/
theorem emb_cols {o : ℕ} (b : ∀ a, (![0, o] : Fin 2 → ℕ) a + (![M, W] : Fin 2 → ℕ) a ≤ (![M, N] : Fin 2 → ℕ) a)
    (p : Fin M) (q : Fin W) :
    (Rect.unit (s := (⟨2, ![M, N]⟩ : Shape)) ![0, o] ![M, W] b).emb (ix2 p q) = ix2 p ⟨o + q.val, col_lt b q⟩ := by
  refine funext fun a => Fin.ext ?_
  match a with
  | ⟨0, _⟩ => show 0 + 1 * p.val = p.val; omega
  | ⟨1, _⟩ => show o + 1 * q.val = o + q.val; omega

/-- A load of such a window, at one element. -/
theorem ld_cols {e : EltTy} (X : Vec Ideal (⟨2, ![M, N]⟩ : Shape) e) {o : ℕ}
    (b : ∀ a, (![0, o] : Fin 2 → ℕ) a + (![M, W] : Fin 2 → ℕ) a ≤ (![M, N] : Fin 2 → ℕ) a) (p : Fin M) (q : Fin W) :
    View.ld X (Rect.unit (s := (⟨2, ![M, N]⟩ : Shape)) ![0, o] ![M, W] b) (ix2 p q) = X (ix2 p ⟨o + q.val, col_lt b q⟩) :=
  congrArg X (emb_cols b p q)

/-- The product of the rows `h` with columns `base …` of the weights `w`, as a block of `N` columns. -/
noncomputable def gemm {K L : ℕ} (h : Fin M → Fin K → EReal) (w : Vec Ideal (⟨2, ![K, L]⟩ : Shape) .bf16) (base : ℕ) (hb : base + N ≤ L)
    (y : (⟨2, ![M, N]⟩ : Shape).Idx) : EReal :=
  ∑ k, h (y 0) k * w (ix2 k ⟨base + (y 1).val, lt_of_lt_of_le (Nat.add_lt_add_left (y 1).isLt base) hb⟩)

/-- A column chunk of the product, computed from the same columns of the weights, is its part of the block. -/
theorem gemm_piece {K L : ℕ} (h : Fin M → Fin K → EReal) (w : Vec Ideal (⟨2, ![K, L]⟩ : Shape) .bf16) (base : ℕ) (hb : base + N ≤ L) (o : ℕ)
    (b : ∀ a, (![0, base + o] : Fin 2 → ℕ) a + (![K, W] : Fin 2 → ℕ) a ≤ (![K, L] : Fin 2 → ℕ) a)
    (b' : ∀ a, (![0, o] : Fin 2 → ℕ) a + (![M, W] : Fin 2 → ℕ) a ≤ (![M, N] : Fin 2 → ℕ) a)
    (P : (⟨2, ![M, W]⟩ : Shape).Idx → EReal)
    (hP : ∀ p q, P (ix2 p q) = ∑ k, h p k * View.ld w (Rect.unit (s := (⟨2, ![K, L]⟩ : Shape)) ![0, base + o] ![K, W] b) (ix2 k q))
    (x : (⟨2, ![M, W]⟩ : Shape).Idx) :
    P x = gemm h w base hb ((Rect.unit (s := (⟨2, ![M, N]⟩ : Shape)) ![0, o] ![M, W] b').emb x) := by
  obtain ⟨x0, x1, rfl⟩ : ∃ x0 x1, x = ix2 x0 x1 := ⟨x 0, x 1, eq_ix2 x⟩
  rw [hP, emb_cols b']
  unfold gemm
  refine Finset.sum_congr rfl fun k _ => congrArg (h x0 k * ·) ((ld_cols w b k x1).trans (congrArg w ?_))
  refine funext fun a => Fin.ext ?_
  match a with
  | ⟨0, _⟩ => rfl
  | ⟨1, _⟩ => show base + o + x1.val = base + (o + x1.val); omega

/-- One element of the product, from its row and its column of the weights. -/
theorem gemm_at {K L : ℕ} (h : Fin M → Fin K → EReal) (w : Vec Ideal (⟨2, ![K, L]⟩ : Shape) .bf16) (base : ℕ) (hb : base + N ≤ L)
    (p : Fin M) (q : Fin N) (n : Fin L) (hn : n.val = base + q.val) (h' w' : Fin K → EReal) (hh : ∀ k, h p k = h' k)
    (hw : ∀ k, w (ix2 k n) = w' k) : gemm h w base hb (ix2 p q) = ∑ k, h' k * w' k := by
  refine Finset.sum_congr rfl fun k _ => congrArg₂ (fun a b : EReal => a * b) (hh k) ((congrArg w ?_).trans (hw k))
  exact congrArg (ix2 k) (Fin.ext hn.symm)

/-- A load through a whole memref held at contents `X` is a load of `X`. -/
theorem readAt_ld {sig : RefSig} {κ : Kind} {sp : Space} {s : Shape} {e : EltTy} {g : Memref sig κ sp s e} (h : g.IsWhole)
    (X : Vec Ideal s e) (r : Rect s) : View.readAt (Elt Ideal) g.view r.toLoadRect (h.unread X) = View.ld X r :=
  funext fun x => h.readAt_unread X r.toLoadRect x

/-- A slice of whole rows whose first column is `o`, at one element. -/
theorem slice_cols (X : (⟨2, ![M, N]⟩ : Shape).Idx → EReal) (o : ℕ) (hs : (⟨2, ![M, N]⟩ : Shape).Slices ![0, o] ⟨2, ![M, W]⟩)
    (p : Fin M) (q : Fin W) (n : Fin N) (hn : n.val = o + q.val) :
    extractStridedSlice (⟨2, ![M, W]⟩ : Shape) ![0, o] X hs (ix2 p q) = X (ix2 p n) := by
  refine congrArg X (funext fun a => Fin.ext ?_)
  match a with
  | ⟨0, _⟩ => show 0 + p.val = p.val; omega
  | ⟨1, _⟩ => show o + q.val = n.val; omega

/-- A concatenation of column groups, at one element of group `i`, whose first column is `pre`. -/
theorem cat_cols (xs : List ((s : Shape) × (s.Idx → EReal))) (h : Shape.Concatenates (xs.map (·.1)) (⟨2, ![M, N]⟩ : Shape) 1)
    (p : Fin M) (n : Fin N) (i : ℕ) (hi : i < xs.length) (x : (⟨2, ![M, W]⟩ : Shape).Idx → EReal) (hx : xs[i] = ⟨⟨2, ![M, W]⟩, x⟩) (pre : ℕ)
    (hpre : (((xs.take i).map (·.1)).map fun s => if h : s.rank = 2 then s.size ((1 : Fin 2).cast h.symm) else 0).sum = pre)
    (q : Fin W) (hn : pre + q.val = n.val) : concatenate (⟨2, ![M, N]⟩ : Shape) 1 xs h (ix2 p n) = x (ix2 p q) := by
  refine concatenate_apply_piece (t := (⟨2, ![M, N]⟩ : Shape)) 1 xs h (ix2 p n) i hi _ x hx rfl pre hpre (ix2 p q) (fun b hb => ?_) hn
  match b with
  | ⟨0, _⟩ => rfl
  | ⟨1, _⟩ => exact absurd rfl hb

end Cert.Work
-- ==== Proof.InProj.lean ====
module

public import proofs.«01_k».proof.Proof.Gen.Kernel4Ideal.Value
public import proofs.«01_k».proof.Proof.Gen.Reference4Ideal.Read
public import Idealize.ShloMosaic.Lib.Pipeline.ValueKit
public import proofs.«01_k».proof.Proof.Ffn
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Kernel4Ideal.InProj

open Cert.Kernel4Ideal Cert.Kernel4Ideal.Gen Cert.Work

/-- The normalized rows of a block. -/
def nrm (x0 : Vec Ideal S384x1024 .f32) (x1 : Vec Ideal S1x1024 .f32) (p : Fin 384) (k : Fin 1024) : EReal :=
  rms (fun j => x0 (ix2 p j)) (fun j => x1 (ix2 0 j)) k

/-- The first factor of every product: the normalized rows. -/
theorem lhs_apply (x0 : FVec Ideal S384x1024 .f32) (x1 : FVec Ideal S1x1024 .f32) (p : Fin 384) (k : Fin 1024) :
    k0_pay2 (F := Ideal) x0 x1 (ix2 p k) = nrm x0 x1 p k := by
  pointwise [k0_pay2, nrm, rms]

/-- A product of 512 columns at one element. -/
theorem mm512 (h : FVec Ideal S384x1024 .bf16) (w : FVec Ideal S1024x512 .bf16) (p : Fin 384) (q : Fin 512) :
    matmul dot_S384x1024_S1024x512_S384x512_1_0_0_1_n_n none h (shapeCast S1024x512 w shapeCasts_S1024x512_S1024x512)
      (constant S384x512 .f32 0x00000000#32) (ix2 p q) = ∑ k : Fin 1024, h (ix2 p k) * w (ix2 k q) := by
  pointwise []

/-- A product of 256 columns at one element. -/
theorem mm256 (h : FVec Ideal S384x1024 .bf16) (w : FVec Ideal S1024x256 .bf16) (p : Fin 384) (q : Fin 256) :
    matmul dot_S384x1024_S1024x256_S384x256_1_0_0_1_n_n none h (shapeCast S1024x256 w shapeCasts_S1024x256_S1024x256)
      (constant S384x256 .f32 0x00000000#32) (ix2 p q) = ∑ k : Fin 1024, h (ix2 p k) * w (ix2 k q) := by
  pointwise []

/-- A product of 128 columns at one element. -/
theorem mm128 (h : FVec Ideal S384x1024 .bf16) (w : FVec Ideal S1024x128 .bf16) (p : Fin 384) (q : Fin 128) :
    matmul dot_S384x1024_S1024x128_S384x128_1_0_0_1_n_n none h (shapeCast S1024x128 w shapeCasts_S1024x128_S1024x128)
      (constant S384x128 .f32 0x00000000#32) (ix2 p q) = ∑ k : Fin 1024, h (ix2 p k) * w (ix2 k q) := by
  pointwise []

section Out

variable (c : Dev nD) (i : grid0.Coords) (arg1 : Memref sig .tc .vmem S384x1024 .f32) (harg1 : arg1.IsWhole) (arg2 : Memref sig .tc .vmem S1x1024 .f32) (harg2 : arg2.IsWhole) (arg3 : Memref sig .tc .vmem S1024x4480 .bf16) (harg3 : arg3.IsWhole) (arg4 : Memref sig .tc .vmem S384x1024 .f32) (harg4 : arg4.IsWhole) (arg5 : Memref sig .tc .vmem S384x1536 .f32) (harg5 : arg5.IsWhole) (arg6 : Memref sig .tc .vmem S384x1024 .f32) (harg6 : arg6.IsWhole) (arg7 : Memref sig .tc .vmem S384x768 .f32) (harg7 : arg7.IsWhole) (arg8 : Memref sig .tc .vmem S384x128 .f32) (harg8 : arg8.IsWhole)
    (x0 : Vec Ideal S384x1024 .f32) (x1 : Vec Ideal S1x1024 .f32) (x2 : Vec Ideal S1024x4480 .bf16)

/-- A stored chunk at one element, for a product `P` of any number of columns: the normalized rows with the chunk's columns. -/
theorem part {W : ℕ} (P : FVec Ideal S384x1024 .bf16 → FVec Ideal ⟨2, ![1024, W]⟩ .bf16 → FVec Ideal ⟨2, ![384, W]⟩ .f32)
    (hP : ∀ h w p q, P h w (ix2 p q) = ∑ k : Fin 1024, h (ix2 p k) * w (ix2 k q))
    (o : ℕ) (b : ∀ a, (![0, o] : Fin 2 → ℕ) a + (![1024, W] : Fin 2 → ℕ) a ≤ S1024x4480.size a) (p : Fin 384) (q : Fin W) :
    P (k0_pay2 (F := Ideal) (View.readAt (Elt Ideal) arg1.view (Rect.unit (s := S384x1024) ![0, 0] S384x1024.size inb_S384x1024_S384x1024_0_0).toLoadRect (harg1.unread x0))
        (View.readAt (Elt Ideal) arg2.view (Rect.unit (s := S1x1024) ![0, 0] S1x1024.size inb_S1x1024_S1x1024_0_0).toLoadRect (harg2.unread x1)))
      (View.readAt (Elt Ideal) arg3.view (Rect.unit (s := S1024x4480) ![0, o] ![1024, W] b).toLoadRect (harg3.unread x2)) (ix2 p q)
      = ∑ k : Fin 1024, nrm x0 x1 p k * View.ld x2 (Rect.unit (s := S1024x4480) ![0, o] ![1024, W] b) (ix2 k q) := by
  rw [readAt_ld harg1, readAt_ld harg2, readAt_ld harg3]
  have e0 : View.ld x0 (Rect.unit (s := S384x1024) ![0, 0] S384x1024.size inb_S384x1024_S384x1024_0_0) = x0 := View.ld_unit_lit _ _ (by decide)
  have e1 : View.ld x1 (Rect.unit (s := S1x1024) ![0, 0] S1x1024.size inb_S1x1024_S1x1024_0_0) = x1 := View.ld_unit_lit _ _ (by decide)
  rw [e0, e1]
  refine (hP _ _ p q).trans (Finset.sum_congr rfl fun k _ => ?_)
  exact congrArg (fun a : EReal => a * View.ld x2 (Rect.unit (s := S1024x4480) ![0, o] ![1024, W] b) (ix2 k q)) (lhs_apply x0 x1 p k)

/-- The block of the first result. -/
theorem out3 (y : S384x1024.Idx) : out0_A_3 c i arg1 harg1 arg2 harg2 arg3 harg3 arg4 harg4 arg5 harg5 arg6 harg6 arg7 harg7 arg8 harg8 x0 x1 x2 y = gemm (N := 1024) (nrm x0 x1) x2 0 (by decide) y := by
  unfold out0_A_3
  rw [View.read_writes_junk_eq_canon]
  refine View.canon_apply_of_pieces (Val := Elt Ideal) (gemm (N := 1024) (nrm x0 x1) x2 0 (by decide) : S384x1024.Idx → EReal) _ ?_ y (cover0_A_3 c i arg1 harg1 arg2 harg2 arg3 harg3 arg4 harg4 arg5 harg5 arg6 harg6 arg7 harg7 arg8 harg8 x0 x1 x2 y)
  intro pc hpc x
  unfold kernelRun0_A at hpc
  simp only [List.mem_cons, List.not_mem_nil, or_false] at hpc
  rcases hpc with rfl | rfl
  · exact gemm_piece (W := 512) (nrm x0 x1) x2 0 _ 512 inb_S1024x4480_S1024x512_0_512 inb_S384x1024_S384x512_0_512 _ (fun p q => part arg1 harg1 arg2 harg2 arg3 harg3 x0 x1 x2 _ mm512 512 _ p q) x
  · exact gemm_piece (W := 512) (nrm x0 x1) x2 0 _ 0 inb_S1024x4480_S1024x512_0_0 inb_S384x1024_S384x512_0_0 _ (fun p q => part arg1 harg1 arg2 harg2 arg3 harg3 x0 x1 x2 _ mm512 0 _ p q) x

/-- The block of the second result. -/
theorem out4 (y : S384x1536.Idx) : out0_A_4 c i arg1 harg1 arg2 harg2 arg3 harg3 arg4 harg4 arg5 harg5 arg6 harg6 arg7 harg7 arg8 harg8 x0 x1 x2 y = gemm (N := 1536) (nrm x0 x1) x2 1024 (by decide) y := by
  unfold out0_A_4
  rw [View.read_writes_junk_eq_canon]
  refine View.canon_apply_of_pieces (Val := Elt Ideal) (gemm (N := 1536) (nrm x0 x1) x2 1024 (by decide) : S384x1536.Idx → EReal) _ ?_ y (cover0_A_4 c i arg1 harg1 arg2 harg2 arg3 harg3 arg4 harg4 arg5 harg5 arg6 harg6 arg7 harg7 arg8 harg8 x0 x1 x2 y)
  intro pc hpc x
  unfold kernelRun0_A at hpc
  simp only [List.mem_cons, List.not_mem_nil, or_false] at hpc
  rcases hpc with rfl | rfl | rfl
  · exact gemm_piece (W := 512) (nrm x0 x1) x2 1024 _ 1024 inb_S1024x4480_S1024x512_0_2048 inb_S384x1536_S384x512_0_1024 _ (fun p q => part arg1 harg1 arg2 harg2 arg3 harg3 x0 x1 x2 _ mm512 2048 _ p q) x
  · exact gemm_piece (W := 512) (nrm x0 x1) x2 1024 _ 512 inb_S1024x4480_S1024x512_0_1536 inb_S384x1536_S384x512_0_512 _ (fun p q => part arg1 harg1 arg2 harg2 arg3 harg3 x0 x1 x2 _ mm512 1536 _ p q) x
  · exact gemm_piece (W := 512) (nrm x0 x1) x2 1024 _ 0 inb_S1024x4480_S1024x512_0_1024 inb_S384x1536_S384x512_0_0 _ (fun p q => part arg1 harg1 arg2 harg2 arg3 harg3 x0 x1 x2 _ mm512 1024 _ p q) x

/-- The block of the third result. -/
theorem out5 (y : S384x1024.Idx) : out0_A_5 c i arg1 harg1 arg2 harg2 arg3 harg3 arg4 harg4 arg5 harg5 arg6 harg6 arg7 harg7 arg8 harg8 x0 x1 x2 y = gemm (N := 1024) (nrm x0 x1) x2 2560 (by decide) y := by
  unfold out0_A_5
  rw [View.read_writes_junk_eq_canon]
  refine View.canon_apply_of_pieces (Val := Elt Ideal) (gemm (N := 1024) (nrm x0 x1) x2 2560 (by decide) : S384x1024.Idx → EReal) _ ?_ y (cover0_A_5 c i arg1 harg1 arg2 harg2 arg3 harg3 arg4 harg4 arg5 harg5 arg6 harg6 arg7 harg7 arg8 harg8 x0 x1 x2 y)
  intro pc hpc x
  unfold kernelRun0_A at hpc
  simp only [List.mem_cons, List.not_mem_nil, or_false] at hpc
  rcases hpc with rfl | rfl
  · exact gemm_piece (W := 512) (nrm x0 x1) x2 2560 _ 512 inb_S1024x4480_S1024x512_0_3072 inb_S384x1024_S384x512_0_512 _ (fun p q => part arg1 harg1 arg2 harg2 arg3 harg3 x0 x1 x2 _ mm512 3072 _ p q) x
  · exact gemm_piece (W := 512) (nrm x0 x1) x2 2560 _ 0 inb_S1024x4480_S1024x512_0_2560 inb_S384x1024_S384x512_0_0 _ (fun p q => part arg1 harg1 arg2 harg2 arg3 harg3 x0 x1 x2 _ mm512 2560 _ p q) x

/-- The block of the fourth result. -/
theorem out6 (y : S384x768.Idx) : out0_A_6 c i arg1 harg1 arg2 harg2 arg3 harg3 arg4 harg4 arg5 harg5 arg6 harg6 arg7 harg7 arg8 harg8 x0 x1 x2 y = gemm (N := 768) (nrm x0 x1) x2 3584 (by decide) y := by
  unfold out0_A_6
  rw [View.read_writes_junk_eq_canon]
  refine View.canon_apply_of_pieces (Val := Elt Ideal) (gemm (N := 768) (nrm x0 x1) x2 3584 (by decide) : S384x768.Idx → EReal) _ ?_ y (cover0_A_6 c i arg1 harg1 arg2 harg2 arg3 harg3 arg4 harg4 arg5 harg5 arg6 harg6 arg7 harg7 arg8 harg8 x0 x1 x2 y)
  intro pc hpc x
  unfold kernelRun0_A at hpc
  simp only [List.mem_cons, List.not_mem_nil, or_false] at hpc
  rcases hpc with rfl | rfl
  · exact gemm_piece (W := 256) (nrm x0 x1) x2 3584 _ 512 inb_S1024x4480_S1024x256_0_4096 inb_S384x768_S384x256_0_512 _ (fun p q => part arg1 harg1 arg2 harg2 arg3 harg3 x0 x1 x2 _ mm256 4096 _ p q) x
  · exact gemm_piece (W := 512) (nrm x0 x1) x2 3584 _ 0 inb_S1024x4480_S1024x512_0_3584 inb_S384x768_S384x512_0_0 _ (fun p q => part arg1 harg1 arg2 harg2 arg3 harg3 x0 x1 x2 _ mm512 3584 _ p q) x

/-- The block of the fifth result. -/
theorem out7 (y : S384x128.Idx) : out0_A_7 c i arg1 harg1 arg2 harg2 arg3 harg3 arg4 harg4 arg5 harg5 arg6 harg6 arg7 harg7 arg8 harg8 x0 x1 x2 y = gemm (N := 128) (nrm x0 x1) x2 4352 (by decide) y := by
  unfold out0_A_7
  rw [View.read_writes_junk_eq_canon]
  refine View.canon_apply_of_pieces (Val := Elt Ideal) (gemm (N := 128) (nrm x0 x1) x2 4352 (by decide) : S384x128.Idx → EReal) _ ?_ y (cover0_A_7 c i arg1 harg1 arg2 harg2 arg3 harg3 arg4 harg4 arg5 harg5 arg6 harg6 arg7 harg7 arg8 harg8 x0 x1 x2 y)
  intro pc hpc x
  unfold kernelRun0_A at hpc
  simp only [List.mem_cons, List.not_mem_nil, or_false] at hpc
  obtain rfl := hpc
  exact gemm_piece (W := 128) (nrm x0 x1) x2 4352 _ 0 inb_S1024x4480_S1024x128_0_4352 inb_S384x128_S384x128_0_0 _ (fun p q => part arg1 harg1 arg2 harg2 arg3 harg3 x0 x1 x2 _ mm128 4352 _ p q) x

end Out

/-- The column groups of the weights the kernel reads, from the weights of the call. -/
def groups (w : FVec Ideal S1024x4416 .f32) : List ((s : Shape) × (s.Idx → EReal)) :=
  [⟨S1024x1024, extractStridedSlice S1024x1024 ![0, 0] w slices_S1024x4416_S1024x1024_0_0⟩,
    ⟨S1024x1536, extractStridedSlice S1024x1536 ![0, 1024] w slices_S1024x4416_S1024x1536_0_1024⟩,
    ⟨S1024x1024, extractStridedSlice S1024x1024 ![0, 2576] w slices_S1024x4416_S1024x1024_0_2576⟩,
    ⟨S1024x768, extractStridedSlice S1024x768 ![0, 3600] w slices_S1024x4416_S1024x768_0_3600⟩,
    ⟨S1024x16, extractStridedSlice S1024x16 ![0, 2560] w slices_S1024x4416_S1024x16_0_2560⟩,
    ⟨S1024x48, extractStridedSlice S1024x48 ![0, 4368] w slices_S1024x4416_S1024x48_0_4368⟩,
    ⟨S1024x64, broadcastInDim S1024x64 ![] bcast_S_S1024x64 (constant (F := Ideal) S_ .f32 0x00000000#32)⟩]

/-- The weights the kernel reads: the groups side by side. -/
def wts (w : FVec Ideal S1024x4416 .f32) : FVec Ideal S1024x4480 .bf16 :=
  concatenate S1024x4480 1 (groups w) concatenates_S1024x1024_S1024x1536_S1024x1024_S1024x768_S1024x16_S1024x48_S1024x64_S1024x4480_d1

/-- Group `i` of the kernel's weights, whose first column is `pre`, is the call's weights from column `o`. -/
theorem wts_group (w : FVec Ideal S1024x4416 .f32) {W : ℕ} (i pre o : ℕ) (hs : S1024x4416.Slices ![0, o] ⟨2, ![1024, W]⟩)
    (hi : i < (groups w).length)
    (hx : (groups w)[i]'hi = ⟨⟨2, ![1024, W]⟩, extractStridedSlice ⟨2, ![1024, W]⟩ ![0, o] w hs⟩)
    (hpre : ((((groups w).take i).map (·.1)).map fun s => if h : s.rank = 2 then s.size ((1 : Fin 2).cast h.symm) else 0).sum = pre)
    (k : Fin 1024) (q : Fin W) (n : Fin 4480) (hn : pre + q.val = n.val) (n' : Fin 4416) (hn' : n'.val = o + q.val) :
    wts w (ix2 k n) = w (ix2 k n') :=
  (cat_cols (groups w) _ k n i hi _ hx pre hpre q hn).trans (slice_cols w o hs k q n' hn')

/-- The last group is zero. -/
theorem wts_pad (w : FVec Ideal S1024x4416 .f32) (k : Fin 1024) (q : Fin 64) (n : Fin 4480) (hn : 4416 + q.val = n.val) :
    wts w (ix2 k n) = 0 := by
  refine (cat_cols (groups w) _ k n 6 (by simp [groups]) (broadcastInDim S1024x64 ![] bcast_S_S1024x64 (constant (F := Ideal) S_ .f32 0x00000000#32))
    rfl 4416 rfl q hn).trans ?_
  pointwise []

variable (m : (ℓ : Loc nD τ sig) → Buf (Elt Ideal) ℓ) (c : Dev nD)

theorem V_w : (V m c main_v14 : FVec Ideal S1024x4480 .bf16) = wts (Cert.Reference4Ideal.Read.val_main_v17 (F := Ideal) (m ((c : Thread nD τ).loc main_arg3))) := by
  dsimp only [V]
  after_results
  rfl

/-- The rows the kernel reads are the reference's. -/
theorem V_x : (V m c main_v2 : FVec Ideal S16512x1024 .f32) = Cert.Reference4Ideal.Read.val_main_v2 (F := Ideal) (m ((c : Thread nD τ).loc main_arg0)) (m ((c : Thread nD τ).loc main_arg1)) := by
  dsimp only [V]
  after_results
  rfl

/-- The gain the kernel reads. -/
theorem V_g (q : Fin 1024) : (V m c main_v13 : FVec Ideal S1x1024 .f32) (ix2 0 q) = (m ((c : Thread nD τ).loc main_arg2) : FVec Ideal S1x1024 .f32) (ix2 0 q) := by
  have e : (V m c main_v13 : FVec Ideal S1x1024 .f32) = shapeCast S1x1024 (shapeCast S1024 (m ((c : Thread nD τ).loc main_arg2) : FVec Ideal S1x1024 .f32) shapeCasts_S1x1024_S1024) shapeCasts_S1024_S1x1024 := by
    dsimp only [V]
    after_results
    rfl
  rw [e]
  pointwise []

/-- A product with the reference's weights at one element. -/
theorem dot_apply (h : FVec Ideal S16512x1024 .f32) (w : FVec Ideal S1024x4416 .f32) (i : Fin 16512) (n : Fin 4416) :
    Host.dotGeneral Cert.Reference4Ideal.dot_S16512x1024_S1024x4416_S16512x4416_1_0_0_1_n_n none h w (ix2 i n) = ∑ k : Fin 1024, h (ix2 i k) * w (ix2 k n) := by
  pointwise []

/-- The reference's product at one element. -/
theorem ref_apply (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (n : Fin 4416) :
    Cert.Reference4Ideal.Read.val_main_v18 (F := Ideal) a b g w (ix2 i n)
      = ∑ k : Fin 1024, rms (fun j => Cert.Reference4Ideal.Read.val_main_v2 (F := Ideal) a b (ix2 i j)) (fun j => g (ix2 0 j)) k
          * Cert.Reference4Ideal.Read.val_main_v17 (F := Ideal) w (ix2 k n) := by
  have hg (j : Fin 1024) : Cert.Reference4Ideal.Read.val_main_v3 (F := Ideal) g (ix1 j) = g (ix2 0 j) := by
    pointwise [Cert.Reference4Ideal.Read.val_main_v3]
  refine (dot_apply (Cert.Reference2Ideal.Read.val_main_v12 (F := Ideal) (Cert.Reference4Ideal.Read.val_main_v2 (F := Ideal) a b) (Cert.Reference4Ideal.Read.val_main_v3 (F := Ideal) g)) (Cert.Reference4Ideal.Read.val_main_v17 (F := Ideal) w) i n).trans ?_
  simp only [Cert.Kernel2Ideal.Ffn.nrm_ref, hg]

/-- The windows' block indices: the rows follow the grid point, the weights stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The rows of a grid point. -/
theorem row_lt (t : Fin cfg0.N) (p : Fin 384) : t.val * 384 + p.val < 16512 := by
  have ht : t.val < 43 := lt_of_lt_of_eq t.isLt (by decide +kernel)
  omega

/-- The rows a grid point reads, normalized. -/
theorem nrm_eq (t : Fin cfg0.N) (p : Fin 384) (k : Fin 1024) : nrm (iblk m c 0 t) (iblk m c 1 t) p k
    = rms (fun j => Cert.Reference4Ideal.Read.val_main_v2 (F := Ideal) (m ((c : Thread nD τ).loc main_arg0)) (m ((c : Thread nD τ).loc main_arg1)) (ix2 ⟨t.val * 384 + p.val, row_lt t p⟩ j))
        (fun j => (m ((c : Thread nD τ).loc main_arg2) : FVec Ideal S1x1024 .f32) (ix2 0 j)) k := by
  have hx (j : Fin 1024) : iblk m c 0 t (ix2 p j) = (V m c main_v2 : FVec Ideal S16512x1024 .f32) (ix2 ⟨t.val * 384 + p.val, row_lt t p⟩ j) := by
    blk_ext [iblk, idx t]
  have hg (j : Fin 1024) : iblk m c 1 t (ix2 0 j) = (V m c main_v13 : FVec Ideal S1x1024 .f32) (ix2 0 j) := by
    blk_ext [iblk, idx t]
  refine congrArg₂ (fun a b => rms a b k) (funext fun j => (hx j).trans ?_) (funext fun j => (hg j).trans (V_g m c j))
  rw [V_x]

/-- The weights a grid point reads. -/
theorem w_eq (t : Fin cfg0.N) (k : Fin 1024) (n : Fin 4480) : iblk m c 2 t (ix2 k n)
    = wts (Cert.Reference4Ideal.Read.val_main_v17 (F := Ideal) (m ((c : Thread nD τ).loc main_arg3))) (ix2 k n) := by
  have hw : iblk m c 2 t (ix2 k n) = (V m c main_v14 : FVec Ideal S1024x4480 .bf16) (ix2 k n) := by
    blk_ext [iblk, idx t]
  rw [hw, V_w]

/-- A column of a result's block that comes from column `n'` of the call's weights is that column of the reference's product. -/
theorem gemm_ref {N : ℕ} (t : Fin cfg0.N) (base : ℕ) (hb : base + N ≤ 4480) (p : Fin 384) (q : Fin N) (n : Fin 4480) (hn : n.val = base + q.val)
    (n' : Fin 4416) (hw : ∀ w k, wts w (ix2 k n) = w (ix2 k n')) :
    gemm (nrm (iblk m c 0 t) (iblk m c 1 t)) (iblk m c 2 t) base hb (ix2 p q)
      = Cert.Reference4Ideal.Read.val_main_v18 (F := Ideal) (m ((c : Thread nD τ).loc main_arg0)) (m ((c : Thread nD τ).loc main_arg1))
          (m ((c : Thread nD τ).loc main_arg2)) (m ((c : Thread nD τ).loc main_arg3)) (ix2 ⟨t.val * 384 + p.val, row_lt t p⟩ n') :=
  (gemm_at _ (iblk m c 2 t) base hb p q n hn _ _ (nrm_eq m c t p) fun k => (w_eq m c t k n).trans (hw _ k)).trans (ref_apply _ _ _ _ _ _).symm

/-- A column of a result's block whose weights are zero is zero. -/
theorem gemm_zero {N : ℕ} (t : Fin cfg0.N) (base : ℕ) (hb : base + N ≤ 4480) (p : Fin 384) (q : Fin N) (n : Fin 4480) (hn : n.val = base + q.val)
    (hw : ∀ w k, wts w (ix2 k n) = 0) : gemm (nrm (iblk m c 0 t) (iblk m c 1 t)) (iblk m c 2 t) base hb (ix2 p q) = 0 := by
  refine (gemm_at _ (iblk m c 2 t) base hb p q n hn _ (fun _ => 0) (nrm_eq m c t p) fun k => (w_eq m c t k n).trans (hw _ k)).trans ?_
  exact Finset.sum_eq_zero fun k _ => mul_zero _

/-- The first result's reference at one element. -/
theorem ref3 (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 1024) :
    Cert.Reference4Ideal.Read.val_main_v19 (F := Ideal) a b g w (ix2 i q) = Cert.Reference4Ideal.Read.val_main_v18 (F := Ideal) a b g w (ix2 i ⟨0 + q.val, by omega⟩) :=
  slice_cols (Cert.Reference4Ideal.Read.val_main_v18 (F := Ideal) a b g w) 0 _ i q _ rfl

/-- The first result's block at a grid point. -/
theorem blk3 (t : Fin cfg0.N) (y0 : Fin 384) (y1 : Fin 1024) : (outsAt0 m c t).1 (ix2 y0 y1)
    = Cert.Reference4Ideal.Read.val_main_v19 (F := Ideal) (m ((c : Thread nD τ).loc main_arg0)) (m ((c : Thread nD τ).loc main_arg1))
          (m ((c : Thread nD τ).loc main_arg2)) (m ((c : Thread nD τ).loc main_arg3)) (ix2 ⟨t.val * 384 + y0.val, row_lt t y0⟩ y1) := by
  rw [ref3]
  refine Eq.trans ?_ (gemm_ref m c t 0 (by decide) y0 y1 ⟨0 + y1.val, by omega⟩ rfl ⟨0 + y1.val, by omega⟩ fun w k => ?_)
  · dsimp only [outsAt0]
    rw [out3]
  · exact wts_group w 0 0 0 slices_S1024x4416_S1024x1024_0_0 (by simp [groups]) rfl rfl k y1 _ rfl _ rfl

/-- The first result array after the run is the reference's. -/
theorem final3 : (dats m 0 c).arrAt 3 (cfgs 0).N = Cert.Reference4Ideal.Read.val_main_v19 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t _ y => ?_
  blk_simp
  rw [after0_3]
  idx_vars y
  have he : ((View.whole main_v15_0).slice (win0_3.rect t)).emb (ix2 y0 y1) = (ix2 ⟨t.val * 384 + y0.val, row_lt t y0⟩ y1 : S16512x1024.Idx) := by
    blk_ext [idx t]
  rw [he]
  exact blk3 m c t y0 y1

/-- The second result's reference at one element. -/
theorem ref4 (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 1536) :
    Cert.Reference4Ideal.Read.val_main_v20 (F := Ideal) a b g w (ix2 i q) = Cert.Reference4Ideal.Read.val_main_v18 (F := Ideal) a b g w (ix2 i ⟨1024 + q.val, by omega⟩) :=
  slice_cols (Cert.Reference4Ideal.Read.val_main_v18 (F := Ideal) a b g w) 1024 _ i q _ rfl

/-- The second result's block at a grid point. -/
theorem blk4 (t : Fin cfg0.N) (y0 : Fin 384) (y1 : Fin 1536) : (outsAt0 m c t).2.1 (ix2 y0 y1)
    = Cert.Reference4Ideal.Read.val_main_v20 (F := Ideal) (m ((c : Thread nD τ).loc main_arg0)) (m ((c : Thread nD τ).loc main_arg1))
          (m ((c : Thread nD τ).loc main_arg2)) (m ((c : Thread nD τ).loc main_arg3)) (ix2 ⟨t.val * 384 + y0.val, row_lt t y0⟩ y1) := by
  rw [ref4]
  refine Eq.trans ?_ (gemm_ref m c t 1024 (by decide) y0 y1 ⟨1024 + y1.val, by omega⟩ rfl ⟨1024 + y1.val, by omega⟩ fun w k => ?_)
  · dsimp only [outsAt0]
    rw [out4]
  · exact wts_group w 1 1024 1024 slices_S1024x4416_S1024x1536_0_1024 (by simp [groups]) rfl rfl k y1 _ rfl _ rfl

/-- The second result array after the run is the reference's. -/
theorem final4 : (dats m 0 c).arrAt 4 (cfgs 0).N = Cert.Reference4Ideal.Read.val_main_v20 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have he : ((View.whole main_v15_1).slice (win0_4.rect t)).emb (ix2 y0 y1) = (ix2 ⟨t.val * 384 + y0.val, row_lt t y0⟩ y1 : S16512x1536.Idx) := by
    blk_ext [idx t]
  rw [he]
  exact blk4 m c t y0 y1

/-- The third result's reference at one element. -/
theorem ref5 (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 1024) :
    Cert.Reference4Ideal.Read.val_main_v22 (F := Ideal) a b g w (ix2 i q) = Cert.Reference4Ideal.Read.val_main_v18 (F := Ideal) a b g w (ix2 i ⟨2576 + q.val, by omega⟩) :=
  slice_cols (Cert.Reference4Ideal.Read.val_main_v18 (F := Ideal) a b g w) 2576 _ i q _ rfl

/-- The third result's block at a grid point. -/
theorem blk5 (t : Fin cfg0.N) (y0 : Fin 384) (y1 : Fin 1024) : (outsAt0 m c t).2.2.1 (ix2 y0 y1)
    = Cert.Reference4Ideal.Read.val_main_v22 (F := Ideal) (m ((c : Thread nD τ).loc main_arg0)) (m ((c : Thread nD τ).loc main_arg1))
          (m ((c : Thread nD τ).loc main_arg2)) (m ((c : Thread nD τ).loc main_arg3)) (ix2 ⟨t.val * 384 + y0.val, row_lt t y0⟩ y1) := by
  rw [ref5]
  refine Eq.trans ?_ (gemm_ref m c t 2560 (by decide) y0 y1 ⟨2560 + y1.val, by omega⟩ rfl ⟨2576 + y1.val, by omega⟩ fun w k => ?_)
  · dsimp only [outsAt0]
    rw [out5]
  · exact wts_group w 2 2560 2576 slices_S1024x4416_S1024x1024_0_2576 (by simp [groups]) rfl rfl k y1 _ rfl _ rfl

/-- The third result array after the run is the reference's. -/
theorem final5 : (dats m 0 c).arrAt 5 (cfgs 0).N = Cert.Reference4Ideal.Read.val_main_v22 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  idx_vars y
  have he : ((View.whole main_v15_2).slice (win0_5.rect t)).emb (ix2 y0 y1) = (ix2 ⟨t.val * 384 + y0.val, row_lt t y0⟩ y1 : S16512x1024.Idx) := by
    blk_ext [idx t]
  rw [he]
  exact blk5 m c t y0 y1

/-- The fourth result's reference at one element. -/
theorem ref6 (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 768) :
    Cert.Reference4Ideal.Read.val_main_v23 (F := Ideal) a b g w (ix2 i q) = Cert.Reference4Ideal.Read.val_main_v18 (F := Ideal) a b g w (ix2 i ⟨3600 + q.val, by omega⟩) :=
  slice_cols (Cert.Reference4Ideal.Read.val_main_v18 (F := Ideal) a b g w) 3600 _ i q _ rfl

/-- The fourth result's block at a grid point. -/
theorem blk6 (t : Fin cfg0.N) (y0 : Fin 384) (y1 : Fin 768) : (outsAt0 m c t).2.2.2.1 (ix2 y0 y1)
    = Cert.Reference4Ideal.Read.val_main_v23 (F := Ideal) (m ((c : Thread nD τ).loc main_arg0)) (m ((c : Thread nD τ).loc main_arg1))
          (m ((c : Thread nD τ).loc main_arg2)) (m ((c : Thread nD τ).loc main_arg3)) (ix2 ⟨t.val * 384 + y0.val, row_lt t y0⟩ y1) := by
  rw [ref6]
  refine Eq.trans ?_ (gemm_ref m c t 3584 (by decide) y0 y1 ⟨3584 + y1.val, by omega⟩ rfl ⟨3600 + y1.val, by omega⟩ fun w k => ?_)
  · dsimp only [outsAt0]
    rw [out6]
  · exact wts_group w 3 3584 3600 slices_S1024x4416_S1024x768_0_3600 (by simp [groups]) rfl rfl k y1 _ rfl _ rfl

/-- The fourth result array after the run is the reference's. -/
theorem final6 : (dats m 0 c).arrAt 6 (cfgs 0).N = Cert.Reference4Ideal.Read.val_main_v23 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]
  idx_vars y
  have he : ((View.whole main_v15_3).slice (win0_6.rect t)).emb (ix2 y0 y1) = (ix2 ⟨t.val * 384 + y0.val, row_lt t y0⟩ y1 : S16512x768.Idx) := by
    blk_ext [idx t]
  rw [he]
  exact blk6 m c t y0 y1

/-- The fifth result's reference: its column groups. -/
def smalls (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) : List ((s : Shape) × (s.Idx → EReal)) :=
  [⟨Cert.Reference4Ideal.S16512x16, Cert.Reference4Ideal.Read.val_main_v21 (F := Ideal) a b g w⟩, ⟨Cert.Reference4Ideal.S16512x48, Cert.Reference4Ideal.Read.val_main_v24 (F := Ideal) a b g w⟩,
    ⟨Cert.Reference4Ideal.S16512x64, Cert.Reference4Ideal.Read.val_main_v25 (F := Ideal)⟩]

/-- The fifth result's reference, columns 0 to 15: the time steps. -/
theorem ref7_dt (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 16) (n : Fin 128) (hn : 0 + q.val = n.val) :
    Cert.Reference4Ideal.Read.val_main_v26 (F := Ideal) a b g w (ix2 i n) = Cert.Reference4Ideal.Read.val_main_v18 (F := Ideal) a b g w (ix2 i ⟨2560 + q.val, by omega⟩) :=
  (cat_cols (smalls a b g w) _ i n 0 (by simp [smalls]) (Cert.Reference4Ideal.Read.val_main_v21 (F := Ideal) a b g w) rfl 0 rfl q hn).trans
    (slice_cols (Cert.Reference4Ideal.Read.val_main_v18 (F := Ideal) a b g w) 2560 _ i q _ rfl)

/-- The fifth result's reference, columns 16 to 63: the gates. -/
theorem ref7_g (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 48) (n : Fin 128) (hn : 16 + q.val = n.val) :
    Cert.Reference4Ideal.Read.val_main_v26 (F := Ideal) a b g w (ix2 i n) = Cert.Reference4Ideal.Read.val_main_v18 (F := Ideal) a b g w (ix2 i ⟨4368 + q.val, by omega⟩) :=
  (cat_cols (smalls a b g w) _ i n 1 (by simp [smalls]) (Cert.Reference4Ideal.Read.val_main_v24 (F := Ideal) a b g w) rfl 16 rfl q hn).trans
    (slice_cols (Cert.Reference4Ideal.Read.val_main_v18 (F := Ideal) a b g w) 4368 _ i q _ rfl)

/-- The fifth result's reference, the other columns: zero. -/
theorem ref7_pad (a : FVec Ideal Cert.Reference4Ideal.S8x2048x1024 .f32) (b : FVec Ideal Cert.Reference4Ideal.S128x1x1024 .f32) (g : FVec Ideal S1x1024 .f32)
    (w : FVec Ideal Cert.Reference4Ideal.S1x1024x4416 .f32) (i : Fin 16512) (q : Fin 64) (n : Fin 128) (hn : 64 + q.val = n.val) :
    Cert.Reference4Ideal.Read.val_main_v26 (F := Ideal) a b g w (ix2 i n) = 0 := by
  refine (cat_cols (smalls a b g w) _ i n 2 (by simp [smalls]) (Cert.Reference4Ideal.Read.val_main_v25 (F := Ideal)) rfl 64 rfl q hn).trans ?_
  pointwise [Cert.Reference4Ideal.Read.val_main_v25, Cert.Reference4Ideal.Read.val_main_cst_2]

/-- The fifth result's block at a grid point. -/
theorem blk7 (t : Fin cfg0.N) (y0 : Fin 384) (y1 : Fin 128) : (outsAt0 m c t).2.2.2.2 (ix2 y0 y1)
    = Cert.Reference4Ideal.Read.val_main_v26 (F := Ideal) (m ((c : Thread nD τ).loc main_arg0)) (m ((c : Thread nD τ).loc main_arg1))
          (m ((c : Thread nD τ).loc main_arg2)) (m ((c : Thread nD τ).loc main_arg3)) (ix2 ⟨t.val * 384 + y0.val, row_lt t y0⟩ y1) := by
  dsimp only [outsAt0]
  rw [out7]
  rcases Nat.lt_or_ge y1.val 16 with h | h
  · rw [ref7_dt _ _ _ _ _ ⟨y1.val, h⟩ y1 (Nat.zero_add _)]
    exact gemm_ref m c t 4352 (by decide) y0 y1 ⟨4352 + y1.val, by omega⟩ rfl _ fun w k =>
      wts_group w 4 4352 2560 slices_S1024x4416_S1024x16_0_2560 (by simp [groups]) rfl rfl k ⟨y1.val, h⟩ _ rfl _ rfl
  · rcases Nat.lt_or_ge y1.val 64 with h' | h'
    · rw [ref7_g _ _ _ _ _ ⟨y1.val - 16, by omega⟩ y1 (by show 16 + (y1.val - 16) = y1.val; omega)]
      exact gemm_ref m c t 4352 (by decide) y0 y1 ⟨4352 + y1.val, by omega⟩ rfl _ fun w k =>
        wts_group w 5 4368 4368 slices_S1024x4416_S1024x48_0_4368 (by simp [groups]) rfl rfl k ⟨y1.val - 16, by omega⟩ _
          (by show 4368 + (y1.val - 16) = 4352 + y1.val; omega) _ rfl
    · rw [ref7_pad _ _ _ _ _ ⟨y1.val - 64, by omega⟩ y1 (by show 64 + (y1.val - 64) = y1.val; omega)]
      exact gemm_zero m c t 4352 (by decide) y0 y1 ⟨4352 + y1.val, by omega⟩ rfl fun w k =>
        wts_pad w k ⟨y1.val - 64, by omega⟩ _ (by show 4416 + (y1.val - 64) = 4352 + y1.val; omega)

/-- The fifth result array after the run is the reference's. -/
theorem final7 : (dats m 0 c).arrAt 7 (cfgs 0).N = Cert.Reference4Ideal.Read.val_main_v26 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t _ y => ?_
  blk_simp
  rw [after0_7]
  idx_vars y
  have he : ((View.whole main_v15_4).slice (win0_7.rect t)).emb (ix2 y0 y1) = (ix2 ⟨t.val * 384 + y0.val, row_lt t y0⟩ y1 : S16512x128.Idx) := by
    blk_ext [idx t]
  rw [he]
  exact blk7 m c t y0 y1

end Cert.Kernel4Ideal.InProj

end
-- ==== Proof.InProjOdd.lean ====
module

public import proofs.«01_k».proof.Proof.Gen.Kernel7Ideal.Value
public import proofs.«01_k».proof.Proof.Gen.Reference7Ideal.Read
public import proofs.«01_k».proof.Proof.InProj

@[expose] public section

set_option maxRecDepth 16384

noncomputable section

open Idealize.ShloMosaic Idealize.ShloMosaic.TcCoe Idealize.SL.Sem
open Idealize.ShloMosaic.Pipeline (Dat)

namespace Cert.Kernel7Ideal.InProjOdd

open Cert.Kernel7Ideal Cert.Kernel7Ideal.Gen Cert.Work
open Cert.Kernel4Ideal.InProj (nrm mm512 mm256 mm128)

/-- The first factor of every product: the normalized rows. -/
theorem lhs_apply (x0 : FVec Ideal S384x1024 .f32) (x1 : FVec Ideal S1x1024 .f32) (p : Fin 384) (k : Fin 1024) :
    k0_pay6 (F := Ideal) x0 x1 (ix2 p k) = nrm x0 x1 p k := by
  pointwise [k0_pay6, nrm, rms]

/-- A product of 384 columns at one element. -/
theorem mm384 (h : FVec Ideal S384x1024 .bf16) (w : FVec Ideal S1024x384 .bf16) (p : Fin 384) (q : Fin 384) :
    matmul dot_S384x1024_S1024x384_S384x384_1_0_0_1_n_n none h (shapeCast S1024x384 w shapeCasts_S1024x384_S1024x384)
      (constant S384x384 .f32 0x00000000#32) (ix2 p q) = ∑ k : Fin 1024, h (ix2 p k) * w (ix2 k q) := by
  pointwise []

section Out

variable (x0 : Vec Ideal S384x1024 .f32) (x1 : Vec Ideal S1x1024 .f32) (x2 : Vec Ideal S1024x3840 .bf16)

/-- A stored chunk at one element, for a product `P` of any number of columns: the normalized rows with the chunk's columns. -/
theorem part {W : ℕ} (P : FVec Ideal S384x1024 .bf16 → FVec Ideal ⟨2, ![1024, W]⟩ .bf16 → FVec Ideal ⟨2, ![384, W]⟩ .f32)
    (hP : ∀ h w p q, P h w (ix2 p q) = ∑ k : Fin 1024, h (ix2 p k) * w (ix2 k q))
    (o : ℕ) (b : ∀ a, (![0, o] : Fin 2 → ℕ) a + (![1024, W] : Fin 2 → ℕ) a ≤ S1024x3840.size a) (p : Fin 384) (q : Fin W) :
    P (k0_pay6 (F := Ideal) (View.ld x0 r0_0) (View.ld x1 r0_1)) (View.ld x2 (Rect.unit (s := S1024x3840) ![0, o] ![1024, W] b)) (ix2 p q)
      = ∑ k : Fin 1024, nrm x0 x1 p k * View.ld x2 (Rect.unit (s := S1024x3840) ![0, o] ![1024, W] b) (ix2 k q) := by
  have e0 : View.ld x0 r0_0 = x0 := View.ld_unit_lit _ _ (by decide)
  have e1 : View.ld x1 r0_1 = x1 := View.ld_unit_lit _ _ (by decide)
  rw [e0, e1]
  refine (hP _ _ p q).trans (Finset.sum_congr rfl fun k _ => ?_)
  exact congrArg (fun a : EReal => a * View.ld x2 (Rect.unit (s := S1024x3840) ![0, o] ![1024, W] b) (ix2 k q)) (lhs_apply x0 x1 p k)

/-- The block of the first result. -/
theorem out3 (y : S384x512.Idx) : out0_3 (F := Ideal) x0 x1 x2 y = gemm (N := 512) (nrm x0 x1) x2 0 (by decide) y := by
  refine View.canon_apply_of_pieces (Val := Elt Ideal) (gemm (N := 512) (nrm x0 x1) x2 0 (by decide) : S384x512.Idx → EReal) _ ?_ y (cover0_3 _ y)
  intro pc hpc x
  simp only [List.mem_cons, List.not_mem_nil, or_false] at hpc
  obtain rfl := hpc
  exact gemm_piece (W := 512) (nrm x0 x1) x2 0 _ 0 inb_S1024x3840_S1024x512_0_0 inb_S384x512_S384x512_0_0 _ (fun p q => part x0 x1 x2 _ mm512 0 _ p q) x

/-- The block of the second result. -/
theorem out4 (y : S384x512.Idx) : out0_4 (F := Ideal) x0 x1 x2 y = gemm (N := 512) (nrm x0 x1) x2 512 (by decide) y := by
  refine View.canon_apply_of_pieces (Val := Elt Ideal) (gemm (N := 512) (nrm x0 x1) x2 512 (by decide) : S384x512.Idx → EReal) _ ?_ y (cover0_4 _ y)
  intro pc hpc x
  simp only [List.mem_cons, List.not_mem_nil, or_false] at hpc
  obtain rfl := hpc
  exact gemm_piece (W := 512) (nrm x0 x1) x2 512 _ 0 inb_S1024x3840_S1024x512_0_512 inb_S384x512_S384x512_0_0 _ (fun p q => part x0 x1 x2 _ mm512 512 _ p q) x

/-- The block of the third result. -/
theorem out5 (y : S384x1024.Idx) : out0_5 (F := Ideal) x0 x1 x2 y = gemm (N := 1024) (nrm x0 x1) x2 1024 (by decide) y := by
  refine View.canon_apply_of_pieces (Val := Elt Ideal) (gemm (N := 1024) (nrm x0 x1) x2 1024 (by decide) : S384x1024.Idx → EReal) _ ?_ y (cover0_5 _ _ y)
  intro pc hpc x
  simp only [List.mem_cons, List.not_mem_nil, or_false] at hpc
  rcases hpc with rfl | rfl
  · exact gemm_piece (W := 512) (nrm x0 x1) x2 1024 _ 512 inb_S1024x3840_S1024x512_0_1536 inb_S384x1024_S384x512_0_512 _ (fun p q => part x0 x1 x2 _ mm512 1536 _ p q) x
  · exact gemm_piece (W := 512) (nrm x0 x1) x2 1024 _ 0 inb_S1024x3840_S1024x512_0_1024 inb_S384x1024_S384x512_0_0 _ (fun p q => part x0 x1 x2 _ mm512 1024 _ p q) x

/-- The block of the fourth result. -/
theorem out6 (y : S384x1024.Idx) : out0_6 (F := Ideal) x0 x1 x2 y = gemm (N := 1024) (nrm x0 x1) x2 2048 (by decide) y := by
  refine View.canon_apply_of_pieces (Val := Elt Ideal) (gemm (N := 1024) (nrm x0 x1) x2 2048 (by decide) : S384x1024.Idx → EReal) _ ?_ y (cover0_6 _ _ y)
  intro pc hpc x
  simp only [List.mem_cons, List.not_mem_nil, or_false] at hpc
  rcases hpc with rfl | rfl
  · exact gemm_piece (W := 512) (nrm x0 x1) x2 2048 _ 512 inb_S1024x3840_S1024x512_0_2560 inb_S384x1024_S384x512_0_512 _ (fun p q => part x0 x1 x2 _ mm512 2560 _ p q) x
  · exact gemm_piece (W := 512) (nrm x0 x1) x2 2048 _ 0 inb_S1024x3840_S1024x512_0_2048 inb_S384x1024_S384x512_0_0 _ (fun p q => part x0 x1 x2 _ mm512 2048 _ p q) x

/-- The block of the fifth result. -/
theorem out7 (y : S384x384.Idx) : out0_7 (F := Ideal) x0 x1 x2 y = gemm (N := 384) (nrm x0 x1) x2 3072 (by decide) y := by
  refine View.canon_apply_of_pieces (Val := Elt Ideal) (gemm (N := 384) (nrm x0 x1) x2 3072 (by decide) : S384x384.Idx → EReal) _ ?_ y (cover0_7 _ y)
  intro pc hpc x
  simp only [List.mem_cons, List.not_mem_nil, or_false] at hpc
  obtain rfl := hpc
  exact gemm_piece (W := 384) (nrm x0 x1) x2 3072 _ 0 inb_S1024x3840_S1024x384_0_3072 inb_S384x384_S384x384_0_0 _ (fun p q => part x0 x1 x2 _ mm384 3072 _ p q) x

/-- The block of the sixth result. -/
theorem out8 (y : S384x256.Idx) : out0_8 (F := Ideal) x0 x1 x2 y = gemm (N := 256) (nrm x0 x1) x2 3456 (by decide) y := by
  refine View.canon_apply_of_pieces (Val := Elt Ideal) (gemm (N := 256) (nrm x0 x1) x2 3456 (by decide) : S384x256.Idx → EReal) _ ?_ y (cover0_8 _ y)
  intro pc hpc x
  simp only [List.mem_cons, List.not_mem_nil, or_false] at hpc
  obtain rfl := hpc
  exact gemm_piece (W := 256) (nrm x0 x1) x2 3456 _ 0 inb_S1024x3840_S1024x256_0_3456 inb_S384x256_S384x256_0_0 _ (fun p q => part x0 x1 x2 _ mm256 3456 _ p q) x

/-- The block of the seventh result. -/
theorem out9 (y : S384x128.Idx) : out0_9 (F := Ideal) x0 x1 x2 y = gemm (N := 128) (nrm x0 x1) x2 3712 (by decide) y := by
  refine View.canon_apply_of_pieces (Val := Elt Ideal) (gemm (N := 128) (nrm x0 x1) x2 3712 (by decide) : S384x128.Idx → EReal) _ ?_ y (cover0_9 _ y)
  intro pc hpc x
  simp only [List.mem_cons, List.not_mem_nil, or_false] at hpc
  obtain rfl := hpc
  exact gemm_piece (W := 128) (nrm x0 x1) x2 3712 _ 0 inb_S1024x3840_S1024x128_0_3712 inb_S384x128_S384x128_0_0 _ (fun p q => part x0 x1 x2 _ mm128 3712 _ p q) x

end Out

/-- The small column groups of the weights side by side: the gate's, the shared key's, and zeros after each. -/
def smallGroups (w : FVec Ideal S1024x3760 .f32) : List ((s : Shape) × (s.Idx → EReal)) :=
  [⟨S1024x16, extractStridedSlice S1024x16 ![0, 2048] w slices_S1024x3760_S1024x16_0_2048⟩,
    ⟨S1024x48, broadcastInDim S1024x48 ![] bcast_S_S1024x48 (constant (F := Ideal) S_ .f32 0x00000000#32)⟩,
    ⟨S1024x32, extractStridedSlice S1024x32 ![0, 3728] w slices_S1024x3760_S1024x32_0_3728⟩,
    ⟨S1024x32, broadcastInDim S1024x32 ![] bcast_S_S1024x32 (constant (F := Ideal) S_ .f32 0x00000000#32)⟩]

/-- The small columns of the weights the kernel reads. -/
def smallWts (w : FVec Ideal S1024x3760 .f32) : FVec Ideal S1024x128 .f32 :=
  concatenate S1024x128 1 (smallGroups w) concatenates_S1024x16_S1024x48_S1024x32_S1024x32_S1024x128_d1

/-- The column groups of the weights the kernel reads, from the weights of the call. -/
def groups (w : FVec Ideal S1024x3760 .f32) : List ((s : Shape) × (s.Idx → EReal)) :=
  [⟨S1024x512, extractStridedSlice S1024x512 ![0, 0] w slices_S1024x3760_S1024x512_0_0⟩,
    ⟨S1024x512, extractStridedSlice S1024x512 ![0, 512] w slices_S1024x3760_S1024x512_0_512⟩,
    ⟨S1024x1024, extractStridedSlice S1024x1024 ![0, 1024] w slices_S1024x3760_S1024x1024_0_1024⟩,
    ⟨S1024x1024, extractStridedSlice S1024x1024 ![0, 2064] w slices_S1024x3760_S1024x1024_0_2064⟩,
    ⟨S1024x384, extractStridedSlice S1024x384 ![0, 3088] w slices_S1024x3760_S1024x384_0_3088⟩,
    ⟨S1024x256, extractStridedSlice S1024x256 ![0, 3472] w slices_S1024x3760_S1024x256_0_3472⟩,
    ⟨S1024x128, smallWts w⟩]

/-- The weights the kernel reads: the groups side by side. -/
def wts (w : FVec Ideal S1024x3760 .f32) : FVec Ideal S1024x3840 .bf16 :=
  concatenate S1024x3840 1 (groups w) concatenates_S1024x512_S1024x512_S1024x1024_S1024x1024_S1024x384_S1024x256_S1024x128_S1024x3840_d1

/-- The sum of the widths of the groups before group `i`. -/
abbrev before (l : List ((s : Shape) × (s.Idx → EReal))) (i : ℕ) : ℕ :=
  (((l.take i).map (·.1)).map fun s => if h : s.rank = 2 then s.size ((1 : Fin 2).cast h.symm) else 0).sum

/-- The last 128 columns are the small ones. -/
theorem wts_small (w : FVec Ideal S1024x3760 .f32) (k : Fin 1024) (q : Fin 128) (n : Fin 3840) (hn : 3712 + q.val = n.val) :
    wts w (ix2 k n) = smallWts w (ix2 k q) :=
  cat_cols (groups w) _ k n 6 (by simp [groups]) (smallWts w) rfl 3712 rfl q hn

variable (m : (ℓ : Loc nD τ sig) → Buf (Elt Ideal) ℓ) (c : Dev nD)

theorem V_w : (V m c main_v13 : FVec Ideal S1024x3840 .bf16) = wts (m ((c : Thread nD τ).loc main_arg2)) := by
  dsimp only [V]
  after_results
  rfl

/-- The gain the kernel reads. -/
theorem V_g (q : Fin 1024) : (V m c main_v12 : FVec Ideal S1x1024 .f32) (ix2 0 q) = (m ((c : Thread nD τ).loc main_arg1) : FVec Ideal S1024 .f32) (ix1 q) := by
  have e : (V m c main_v12 : FVec Ideal S1x1024 .f32) = shapeCast S1x1024 (m ((c : Thread nD τ).loc main_arg1) : FVec Ideal S1024 .f32) shapeCasts_S1024_S1x1024 := by
    dsimp only [V]
    after_results
    rfl
  rw [e]
  pointwise []

/-- A product with the reference's weights at one element. -/
theorem dot_apply (h : FVec Ideal S16512x1024 .f32) (w : FVec Ideal S1024x3760 .f32) (i : Fin 16512) (n : Fin 3760) :
    Host.dotGeneral Cert.Reference7Ideal.dot_S16512x1024_S1024x3760_S16512x3760_1_0_0_1_n_n none h w (ix2 i n) = ∑ k : Fin 1024, h (ix2 i k) * w (ix2 k n) := by
  pointwise []

/-- The reference's product at one element. -/
theorem ref_apply (a : FVec Ideal S16512x1024 .f32) (g : FVec Ideal S1024 .f32) (w : FVec Ideal S1024x3760 .f32) (i : Fin 16512) (n : Fin 3760) :
    Cert.Reference7Ideal.Read.val_main_v13 (F := Ideal) a g w (ix2 i n)
      = ∑ k : Fin 1024, rms (fun j => a (ix2 i j)) (fun j => g (ix1 j)) k * w (ix2 k n) := by
  refine (dot_apply (Cert.Reference2Ideal.Read.val_main_v12 (F := Ideal) a g) w i n).trans ?_
  simp only [Cert.Kernel2Ideal.Ffn.nrm_ref]

/-- The windows' block indices: the rows follow the grid point, the weights stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The rows of a grid point. -/
theorem row_lt (t : Fin cfg0.N) (p : Fin 384) : t.val * 384 + p.val < 16512 := by
  have ht : t.val < 43 := lt_of_lt_of_eq t.isLt (by decide +kernel)
  omega

/-- The rows a grid point reads, normalized. -/
theorem nrm_eq (t : Fin cfg0.N) (p : Fin 384) (k : Fin 1024) : nrm (iblk m c 0 t) (iblk m c 1 t) p k
    = rms (fun j => (m ((c : Thread nD τ).loc main_arg0) : FVec Ideal S16512x1024 .f32) (ix2 ⟨t.val * 384 + p.val, row_lt t p⟩ j))
        (fun j => (m ((c : Thread nD τ).loc main_arg1) : FVec Ideal S1024 .f32) (ix1 j)) k := by
  have hx (j : Fin 1024) : iblk m c 0 t (ix2 p j) = (m ((c : Thread nD τ).loc main_arg0) : FVec Ideal S16512x1024 .f32) (ix2 ⟨t.val * 384 + p.val, row_lt t p⟩ j) := by
    blk_ext! [iblk, V, idx t]
  have hg (j : Fin 1024) : iblk m c 1 t (ix2 0 j) = (V m c main_v12 : FVec Ideal S1x1024 .f32) (ix2 0 j) := by
    blk_ext [iblk, idx t]
  exact congrArg₂ (fun a b => rms a b k) (funext hx) (funext fun j => (hg j).trans (V_g m c j))

/-- The weights a grid point reads. -/
theorem w_eq (t : Fin cfg0.N) (k : Fin 1024) (n : Fin 3840) : iblk m c 2 t (ix2 k n) = wts (m ((c : Thread nD τ).loc main_arg2)) (ix2 k n) := by
  have hw : iblk m c 2 t (ix2 k n) = (V m c main_v13 : FVec Ideal S1024x3840 .bf16) (ix2 k n) := by
    blk_ext [iblk, idx t]
  rw [hw, V_w]

/-- The reference's product of the call's arguments. -/
abbrev prod : FVec Ideal Cert.Reference7Ideal.S16512x3760 .f32 := Cert.Reference7Ideal.Read.val_main_v13 (F := Ideal) (m ((c : Thread nD τ).loc main_arg0))
  (m ((c : Thread nD τ).loc main_arg1)) (m ((c : Thread nD τ).loc main_arg2))

/-- A column of a result's block that comes from column `n'` of the call's weights is that column of the reference's product. -/
theorem gemm_ref {N : ℕ} (t : Fin cfg0.N) (base : ℕ) (hb : base + N ≤ 3840) (p : Fin 384) (q : Fin N) (n : Fin 3840) (hn : n.val = base + q.val)
    (n' : Fin 3760) (hw : ∀ w k, wts w (ix2 k n) = w (ix2 k n')) :
    gemm (nrm (iblk m c 0 t) (iblk m c 1 t)) (iblk m c 2 t) base hb (ix2 p q) = prod m c (ix2 ⟨t.val * 384 + p.val, row_lt t p⟩ n') :=
  (gemm_at _ (iblk m c 2 t) base hb p q n hn _ _ (nrm_eq m c t p) fun k => (w_eq m c t k n).trans (hw _ k)).trans (ref_apply _ _ _ _ _).symm

/-- A column of a result's block whose weights are zero is zero. -/
theorem gemm_zero {N : ℕ} (t : Fin cfg0.N) (base : ℕ) (hb : base + N ≤ 3840) (p : Fin 384) (q : Fin N) (n : Fin 3840) (hn : n.val = base + q.val)
    (hw : ∀ w k, wts w (ix2 k n) = 0) : gemm (nrm (iblk m c 0 t) (iblk m c 1 t)) (iblk m c 2 t) base hb (ix2 p q) = 0 := by
  refine (gemm_at _ (iblk m c 2 t) base hb p q n hn _ (fun _ => 0) (nrm_eq m c t p) fun k => (w_eq m c t k n).trans (hw _ k)).trans ?_
  exact Finset.sum_eq_zero fun k _ => mul_zero _

/-- A result whose columns are group `i` of the kernel's weights, from column `o` of the call's, is the reference's slice from there. -/
theorem group_ref {N : ℕ} (i base o : ℕ) (hb : base + N ≤ 3840) (hs : S1024x3760.Slices ![0, o] ⟨2, ![1024, N]⟩)
    (hi : ∀ w, i < (groups w).length)
    (hx : ∀ w, (groups w)[i]'(hi w) = ⟨⟨2, ![1024, N]⟩, extractStridedSlice ⟨2, ![1024, N]⟩ ![0, o] w hs⟩) (hpre : ∀ w, before (groups w) i = base)
    (hs' : Cert.Reference7Ideal.S16512x3760.Slices ![0, o] ⟨2, ![16512, N]⟩) (t : Fin cfg0.N) (p : Fin 384) (q : Fin N) :
    gemm (nrm (iblk m c 0 t) (iblk m c 1 t)) (iblk m c 2 t) base hb (ix2 p q)
      = extractStridedSlice ⟨2, ![16512, N]⟩ ![0, o] (prod m c) hs' (ix2 ⟨t.val * 384 + p.val, row_lt t p⟩ q) := by
  have ho : o + N ≤ 3760 := by simpa using hs.2 1
  refine (gemm_ref m c t base hb p q ⟨base + q.val, by omega⟩ rfl ⟨o + q.val, by omega⟩ fun w k => ?_).trans (slice_cols (prod m c) o hs' _ q _ rfl).symm
  exact (cat_cols (groups w) _ k _ i (hi w) _ (hx w) base (hpre w) q rfl).trans (slice_cols w o hs k q _ rfl)

/-- The first result array after the run is the reference's. -/
theorem final3 : (dats m 0 c).arrAt 3 (cfgs 0).N = Cert.Reference7Ideal.Read.val_main_v14 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  idx_vars y
  have he : ((View.whole main_v14_0).slice (win0_3.rect t)).emb (ix2 y0 y1) = (ix2 ⟨t.val * 384 + y0.val, row_lt t y0⟩ y1 : S16512x512.Idx) := by
    blk_ext [idx t]
  rw [he, out3]
  exact group_ref m c 0 0 0 (by decide) slices_S1024x3760_S1024x512_0_0 (fun w => by simp [groups]) (fun _ => rfl) (fun _ => rfl) _ t y0 y1

/-- The second result array after the run is the reference's. -/
theorem final4 : (dats m 0 c).arrAt 4 (cfgs 0).N = Cert.Reference7Ideal.Read.val_main_v15 (F := Ideal) (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]
  idx_vars y
  have he : ((View.whole main_v14_1).slice (win0_4.rect t)).emb (ix2 y0 y1) = (ix2 ⟨t.val * 384 + y0.val, row_lt t y0⟩ y1 : S16512x512.Idx) := by
    blk_ext [idx t]
  rw [he, out4]
  exact group_ref m c 1 512 512 (by decide) slices_S1024x3760_S1024x512_0_512 (fun w => by simp [groups]) (fun _ => rfl) (fun _ => rfl) _ t y0 y1

/-- The third result array after the run is the reference's. -/
theorem final5 : (dats m 0 c).arrAt 5 (cfgs 0).N = Cert.Reference7Ideal.Read.val_main_v16 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  idx_vars y
  have he : ((View.whole main_v14_2).slice (win0_5.rect t)).emb (ix2 y0 y1) = (ix2 ⟨t.val * 384 + y0.val, row_lt t y0⟩ y1 : S16512x1024.Idx) := by
    blk_ext [idx t]
  rw [he, out5]
  exact group_ref m c 2 1024 1024 (by decide) slices_S1024x3760_S1024x1024_0_1024 (fun w => by simp [groups]) (fun _ => rfl) (fun _ => rfl) _ t y0 y1

/-- The fourth result array after the run is the reference's. -/
theorem final6 : (dats m 0 c).arrAt 6 (cfgs 0).N = Cert.Reference7Ideal.Read.val_main_v18 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  idx_vars y
  have he : ((View.whole main_v14_3).slice (win0_6.rect t)).emb (ix2 y0 y1) = (ix2 ⟨t.val * 384 + y0.val, row_lt t y0⟩ y1 : S16512x1024.Idx) := by
    blk_ext [idx t]
  rw [he, out6]
  exact group_ref m c 3 2048 2064 (by decide) slices_S1024x3760_S1024x1024_0_2064 (fun w => by simp [groups]) (fun _ => rfl) (fun _ => rfl) _ t y0 y1

/-- The fifth result array after the run is the reference's. -/
theorem final7 : (dats m 0 c).arrAt 7 (cfgs 0).N = Cert.Reference7Ideal.Read.val_main_v19 (F := Ideal) (m ((c : Thread nD τ).loc main_arg0)) (m ((c : Thread nD τ).loc main_arg1))
          (m ((c : Thread nD τ).loc main_arg2)) := by
  refine (dats m 0 c).arrAt_eq_of_covers 7 _ (by decide +kernel) fun t _ y => ?_
  blk_simp
  rw [after0_7]
  idx_vars y
  have he : ((View.whole main_v14_4).slice (win0_7.rect t)).emb (ix2 y0 y1) = (ix2 ⟨t.val * 384 + y0.val, row_lt t y0⟩ y1 : S16512x384.Idx) := by
    blk_ext [idx t]
  rw [he, out7]
  exact group_ref m c 4 3072 3088 (by decide) slices_S1024x3760_S1024x384_0_3088 (fun w => by simp [groups]) (fun _ => rfl) (fun _ => rfl) _ t y0 y1

/-- The sixth result array after the run is the reference's. -/
theorem final8 : (dats m 0 c).arrAt 8 (cfgs 0).N = Cert.Reference7Ideal.Read.val_main_v20 (F := Ideal) (m ((c : Thread nD τ).loc main_arg0)) (m ((c : Thread nD τ).loc main_arg1))
          (m ((c : Thread nD τ).loc main_arg2)) := by
  refine (dats m 0 c).arrAt_eq_of_covers 8 _ (by decide +kernel) fun t _ y => ?_
  blk_simp
  rw [after0_8]
  idx_vars y
  have he : ((View.whole main_v14_5).slice (win0_8.rect t)).emb (ix2 y0 y1) = (ix2 ⟨t.val * 384 + y0.val, row_lt t y0⟩ y1 : S16512x256.Idx) := by
    blk_ext [idx t]
  rw [he, out8]
  exact group_ref m c 5 3456 3472 (by decide) slices_S1024x3760_S1024x256_0_3472 (fun w => by simp [groups]) (fun _ => rfl) (fun _ => rfl) _ t y0 y1

/-- The seventh result's reference: its column groups. -/
def smalls (a : FVec Ideal S16512x1024 .f32) (g : FVec Ideal S1024 .f32) (w : FVec Ideal S1024x3760 .f32) : List ((s : Shape) × (s.Idx → EReal)) :=
  [⟨Cert.Reference7Ideal.S16512x16, Cert.Reference7Ideal.Read.val_main_v17 (F := Ideal) a g w⟩, ⟨Cert.Reference7Ideal.S16512x48, Cert.Reference7Ideal.Read.val_main_v22 (F := Ideal)⟩,
    ⟨Cert.Reference7Ideal.S16512x32, Cert.Reference7Ideal.Read.val_main_v21 (F := Ideal) a g w⟩, ⟨Cert.Reference7Ideal.S16512x32, Cert.Reference7Ideal.Read.val_main_v23 (F := Ideal)⟩]

/-- Small group `i` of the weights and of the reference's result, both from column `o`: the columns agree. -/
theorem small_ref {W : ℕ} (i pre o : ℕ) (hs : S1024x3760.Slices ![0, o] ⟨2, ![1024, W]⟩)
    (hi : ∀ w, i < (smallGroups w).length)
    (hx : ∀ w, (smallGroups w)[i]'(hi w) = ⟨⟨2, ![1024, W]⟩, extractStridedSlice ⟨2, ![1024, W]⟩ ![0, o] w hs⟩) (hpre : ∀ w, before (smallGroups w) i = pre)
    (hs' : Cert.Reference7Ideal.S16512x3760.Slices ![0, o] ⟨2, ![16512, W]⟩) (hi' : ∀ a g w, i < (smalls a g w).length)
    (hx' : ∀ a g w, (smalls a g w)[i]'(hi' a g w) = ⟨⟨2, ![16512, W]⟩, extractStridedSlice ⟨2, ![16512, W]⟩ ![0, o] (Cert.Reference7Ideal.Read.val_main_v13 (F := Ideal) a g w) hs'⟩)
    (hpre' : ∀ a g w, before (smalls a g w) i = pre) (t : Fin cfg0.N) (p : Fin 384) (q : Fin 128) (u : Fin W) (hu : pre + u.val = q.val) :
    gemm (nrm (iblk m c 0 t) (iblk m c 1 t)) (iblk m c 2 t) 3712 (by decide) (ix2 p q)
      = Cert.Reference7Ideal.Read.val_main_v24 (F := Ideal) (m ((c : Thread nD τ).loc main_arg0)) (m ((c : Thread nD τ).loc main_arg1))
          (m ((c : Thread nD τ).loc main_arg2)) (ix2 ⟨t.val * 384 + p.val, row_lt t p⟩ q) := by
  have ho : o + W ≤ 3760 := by simpa using hs.2 1
  refine (gemm_ref m c t 3712 (by decide) p q ⟨3712 + q.val, by omega⟩ rfl ⟨o + u.val, by omega⟩ fun w k => ?_).trans ?_
  · exact (wts_small w k q _ rfl).trans ((cat_cols (smallGroups w) _ k q i (hi w) _ (hx w) pre (hpre w) u hu).trans (slice_cols w o hs k u _ rfl))
  · exact ((cat_cols (smalls _ _ _) _ _ q i (hi' _ _ _) _ (hx' _ _ _) pre (hpre' _ _ _) u hu).trans (slice_cols (prod m c) o hs' _ u _ rfl)).symm

/-- Small group `i` of the weights and of the reference's result, both zero: the columns agree. -/
theorem small_zero {W : ℕ} (i pre : ℕ) (z : (⟨2, ![1024, W]⟩ : Shape).Idx → EReal) (hz : ∀ k u, z (ix2 k u) = 0) (hi : ∀ w, i < (smallGroups w).length)
    (hx : ∀ w, (smallGroups w)[i]'(hi w) = ⟨⟨2, ![1024, W]⟩, z⟩) (hpre : ∀ w, before (smallGroups w) i = pre)
    (z' : (⟨2, ![16512, W]⟩ : Shape).Idx → EReal) (hz' : ∀ k u, z' (ix2 k u) = 0) (hi' : ∀ a g w, i < (smalls a g w).length)
    (hx' : ∀ a g w, (smalls a g w)[i]'(hi' a g w) = ⟨⟨2, ![16512, W]⟩, z'⟩)
    (hpre' : ∀ a g w, before (smalls a g w) i = pre) (t : Fin cfg0.N) (p : Fin 384) (q : Fin 128) (u : Fin W) (hu : pre + u.val = q.val) :
    gemm (nrm (iblk m c 0 t) (iblk m c 1 t)) (iblk m c 2 t) 3712 (by decide) (ix2 p q)
      = Cert.Reference7Ideal.Read.val_main_v24 (F := Ideal) (m ((c : Thread nD τ).loc main_arg0)) (m ((c : Thread nD τ).loc main_arg1))
          (m ((c : Thread nD τ).loc main_arg2)) (ix2 ⟨t.val * 384 + p.val, row_lt t p⟩ q) := by
  refine (gemm_zero m c t 3712 (by decide) p q ⟨3712 + q.val, by omega⟩ rfl fun w k => ?_).trans ?_
  · exact (wts_small w k q _ rfl).trans ((cat_cols (smallGroups w) _ k q i (hi w) _ (hx w) pre (hpre w) u hu).trans (hz k u))
  · exact ((cat_cols (smalls _ _ _) _ _ q i (hi' _ _ _) _ (hx' _ _ _) pre (hpre' _ _ _) u hu).trans (hz' _ u)).symm

/-- The seventh result array after the run is the reference's. -/
theorem final9 : (dats m 0 c).arrAt 9 (cfgs 0).N = Cert.Reference7Ideal.Read.val_main_v24 (F := Ideal) (m ((c : Thread nD τ).loc main_arg0)) (m ((c : Thread nD τ).loc main_arg1))
          (m ((c : Thread nD τ).loc main_arg2)) := by
  refine (dats m 0 c).arrAt_eq_of_covers 9 _ (by decide +kernel) fun t _ y => ?_
  blk_simp
  rw [after0_9]
  idx_vars y
  have he : ((View.whole main_v14_6).slice (win0_9.rect t)).emb (ix2 y0 y1) = (ix2 ⟨t.val * 384 + y0.val, row_lt t y0⟩ y1 : S16512x128.Idx) := by
    blk_ext [idx t]
  rw [he, out9]
  rcases Nat.lt_or_ge y1.val 64 with h | h
  · rcases Nat.lt_or_ge y1.val 16 with h' | h'
    · exact small_ref m c 0 0 2048 slices_S1024x3760_S1024x16_0_2048 (fun w => by simp [smallGroups]) (fun _ => rfl) (fun _ => rfl) _ (fun a g w => by simp [smalls]) (fun _ _ _ => rfl) (fun _ _ _ => rfl) t y0 y1 ⟨y1.val - 0, by omega⟩ (by show 0 + (y1.val - 0) = y1.val; omega)
    · exact small_zero m c 1 16 (broadcastInDim S1024x48 ![] bcast_S_S1024x48 (constant (F := Ideal) S_ .f32 0x00000000#32)) (fun k u => by pointwise []) (fun w => by simp [smallGroups]) (fun _ => rfl) (fun _ => rfl) (Cert.Reference7Ideal.Read.val_main_v22 (F := Ideal)) (fun k u => by pointwise [Cert.Reference7Ideal.Read.val_main_v22, Cert.Reference7Ideal.Read.val_main_cst_2]) (fun a g w => by simp [smalls]) (fun _ _ _ => rfl) (fun _ _ _ => rfl) t y0 y1 ⟨y1.val - 16, by omega⟩ (by show 16 + (y1.val - 16) = y1.val; omega)
  · rcases Nat.lt_or_ge y1.val 96 with h' | h'
    · exact small_ref m c 2 64 3728 slices_S1024x3760_S1024x32_0_3728 (fun w => by simp [smallGroups]) (fun _ => rfl) (fun _ => rfl) _ (fun a g w => by simp [smalls]) (fun _ _ _ => rfl) (fun _ _ _ => rfl) t y0 y1 ⟨y1.val - 64, by omega⟩ (by show 64 + (y1.val - 64) = y1.val; omega)
    · exact small_zero m c 3 96 (broadcastInDim S1024x32 ![] bcast_S_S1024x32 (constant (F := Ideal) S_ .f32 0x00000000#32)) (fun k u => by pointwise []) (fun w => by simp [smallGroups]) (fun _ => rfl) (fun _ => rfl) (Cert.Reference7Ideal.Read.val_main_v23 (F := Ideal)) (fun k u => by pointwise [Cert.Reference7Ideal.Read.val_main_v23, Cert.Reference7Ideal.Read.val_main_cst_3]) (fun a g w => by simp [smalls]) (fun _ _ _ => rfl) (fun _ _ _ => rfl) t y0 y1 ⟨y1.val - 96, by omega⟩ (by show 96 + (y1.val - 96) = y1.val; omega)

end Cert.Kernel7Ideal.InProjOdd

end
-- ==== Proof.InProjClaim.lean ====
module

public import proofs.«01_k».proof.Defs
public import proofs.«01_k».proof.Proof.InProj
public import proofs.«01_k».proof.Proof.InProjOdd
public import proofs.«01_k».proof.Proof.Gen.Kernel4.Frame
public import proofs.«01_k».proof.Proof.Gen.Reference4Ideal.Run
public import proofs.«01_k».proof.Proof.Gen.Kernel7.Frame
public import proofs.«01_k».proof.Proof.Gen.Reference7Ideal.Run

@[expose] public section

set_option maxRecDepth 16384

noncomputable section

open Idealize.ShloMosaic Idealize.ShloMosaic.TcCoe Idealize.SL.Sem

namespace Cert.Proof.InProjClaims

/-- The printed kernel's frame: the even layer's input projection. -/
theorem frame_k : Cert.quiescent_Kernel4 := fun m ρ _ => Cert.Kernel4.Gen.frame m ρ

/-- The idealized kernel's frame: the even layer's input projection. -/
theorem frame_ki : Cert.quiescent_Kernel4Ideal := fun m ρ _ => Cert.Kernel4Ideal.Gen.frame m ρ

/-- The reference's frame: its run, read at the arguments; it declares no semaphore. -/
theorem frame_ri : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The idealizing pass renamed nothing here. -/
theorem preserves : Cert.preserves_Kernel4_Kernel4Ideal := trivial

/-- The even layer's input projection and its reference end with equal results over the extended reals. -/
theorem algebraic : Cert.algebraic_Kernel4Ideal_Reference4Ideal := by
  intro m ρ m' ρ' _ hag
  refine ⟨fun c => Cert.Reference4Ideal.Read.val_main_v19 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v20 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v22 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v23 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v26 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)), ?_, ?_⟩
  · exact (θ_run Cert.Kernel4Ideal.defs _ _).mono
      (fun _ h c => ⟨(h c).1.trans (Cert.Kernel4Ideal.InProj.final3 m c),
        (h c).2.1.trans (Cert.Kernel4Ideal.InProj.final4 m c),
        (h c).2.2.1.trans (Cert.Kernel4Ideal.InProj.final5 m c),
        (h c).2.2.2.1.trans (Cert.Kernel4Ideal.InProj.final6 m c),
        (h c).2.2.2.2.1.trans (Cert.Kernel4Ideal.InProj.final7 m c), (h c).2.2.2.2.2⟩)
      (Cert.Kernel4Ideal.Value.run_blocks (F := Ideal) m ρ)
  · refine (θ_run Cert.Reference4Ideal.defs _ _).mono (fun _ h c => ?_) (Cert.Reference4Ideal.Value.run (F := Ideal) m' ρ')
    obtain ⟨h0, h1, h2, h3⟩ := hag c
    exact ⟨(h c).1.trans ((Cert.Reference4Ideal.Read.val_main_v19_eq _ _ _ _).trans (by rw [h0, h1, h2, h3])),
      (h c).2.1.trans ((Cert.Reference4Ideal.Read.val_main_v20_eq _ _ _ _).trans (by rw [h0, h1, h2, h3])),
      (h c).2.2.1.trans ((Cert.Reference4Ideal.Read.val_main_v22_eq _ _ _ _).trans (by rw [h0, h1, h2, h3])),
      (h c).2.2.2.1.trans ((Cert.Reference4Ideal.Read.val_main_v23_eq _ _ _ _).trans (by rw [h0, h1, h2, h3])),
      (h c).2.2.2.2.1.trans ((Cert.Reference4Ideal.Read.val_main_v26_eq _ _ _ _).trans (by rw [h0, h1, h2, h3])), (h c).2.2.2.2.2⟩

end Cert.Proof.InProjClaims

namespace Cert.Proof.InProjOddClaims

/-- The printed kernel's frame: the odd layer's input projection. -/
theorem frame_k : Cert.quiescent_Kernel7 := fun m ρ _ => Cert.Kernel7.Gen.frame m ρ

/-- The idealized kernel's frame: the odd layer's input projection. -/
theorem frame_ki : Cert.quiescent_Kernel7Ideal := fun m ρ _ => Cert.Kernel7Ideal.Gen.frame m ρ

/-- The reference's frame: its run, read at the arguments; it declares no semaphore. -/
theorem frame_ri : Cert.quiescent_Reference7Ideal := fun m ρ _ =>
  (θ_run Cert.Reference7Ideal.defs _ _).mono (fun r h => ⟨fun c => (h c).2.2.2.2.2.2.2, sem_eq_zero_of_no_sems (by decide) r.2⟩)
    (Cert.Reference7Ideal.Value.run (F := Ideal) m ρ)

/-- The idealizing pass renamed nothing here. -/
theorem preserves : Cert.preserves_Kernel7_Kernel7Ideal := trivial

/-- The odd layer's input projection and its reference end with equal results over the extended reals. -/
theorem algebraic : Cert.algebraic_Kernel7Ideal_Reference7Ideal := by
  intro m ρ m' ρ' _ hag
  refine ⟨fun c => Cert.Reference7Ideal.Read.val_main_v14 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v15 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v16 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v18 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v19 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v20 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v24 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)), ?_, ?_⟩
  · exact (θ_run Cert.Kernel7Ideal.defs _ _).mono
      (fun _ h c => ⟨(h c).1.trans (Cert.Kernel7Ideal.InProjOdd.final3 m c),
        (h c).2.1.trans (Cert.Kernel7Ideal.InProjOdd.final4 m c),
        (h c).2.2.1.trans (Cert.Kernel7Ideal.InProjOdd.final5 m c),
        (h c).2.2.2.1.trans (Cert.Kernel7Ideal.InProjOdd.final6 m c),
        (h c).2.2.2.2.1.trans (Cert.Kernel7Ideal.InProjOdd.final7 m c),
        (h c).2.2.2.2.2.1.trans (Cert.Kernel7Ideal.InProjOdd.final8 m c),
        (h c).2.2.2.2.2.2.1.trans (Cert.Kernel7Ideal.InProjOdd.final9 m c), (h c).2.2.2.2.2.2.2⟩)
      (Cert.Kernel7Ideal.Value.run_blocks (F := Ideal) m ρ)
  · refine (θ_run Cert.Reference7Ideal.defs _ _).mono (fun _ h c => ?_) (Cert.Reference7Ideal.Value.run (F := Ideal) m' ρ')
    obtain ⟨h0, h1, h2⟩ := hag c
    exact ⟨(h c).1.trans ((Cert.Reference7Ideal.Read.val_main_v14_eq _ _ _).trans (by rw [h0, h1, h2])),
      (h c).2.1.trans ((Cert.Reference7Ideal.Read.val_main_v15_eq _ _ _).trans (by rw [h0, h1, h2])),
      (h c).2.2.1.trans ((Cert.Reference7Ideal.Read.val_main_v16_eq _ _ _).trans (by rw [h0, h1, h2])),
      (h c).2.2.2.1.trans ((Cert.Reference7Ideal.Read.val_main_v18_eq _ _ _).trans (by rw [h0, h1, h2])),
      (h c).2.2.2.2.1.trans ((Cert.Reference7Ideal.Read.val_main_v19_eq _ _ _).trans (by rw [h0, h1, h2])),
      (h c).2.2.2.2.2.1.trans ((Cert.Reference7Ideal.Read.val_main_v20_eq _ _ _).trans (by rw [h0, h1, h2])),
      (h c).2.2.2.2.2.2.1.trans ((Cert.Reference7Ideal.Read.val_main_v24_eq _ _ _).trans (by rw [h0, h1, h2])), (h c).2.2.2.2.2.2.2⟩

end Cert.Proof.InProjOddClaims

end
-- ==== Proof.OutProj.lean ====
module

public import proofs.«01_k».proof.Proof.Gen.Kernel5Ideal.Value
public import proofs.«01_k».proof.Proof.Gen.Reference5Ideal.Read
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Kernel5Ideal.OutProj

open Cert.Kernel5Ideal Cert.Kernel5Ideal.Gen Cert.Work

/-- One column chunk's product at one element. -/
theorem mm (x : Vec Ideal S384x2048 .f32) (w : FVec Ideal S2048x512 .bf16) (p : Fin 384) (q : Fin 512) :
    matmul dot_S384x2048_S2048x512_S384x512_1_0_0_1_n_n none (k0_pay1 (View.ld x r0_0)) (shapeCast S2048x512 w shapeCasts_S2048x512_S2048x512)
      (constant S384x512 .f32 0x00000000#32) (ix2 p q) = ∑ k : Fin 2048, x (ix2 p k) * w (ix2 k q) := by
  have e0 : View.ld x r0_0 = x := View.ld_unit_lit _ _ (by decide)
  rw [e0]
  pointwise [k0_pay1]

/-- The block that a grid point leaves: the product of its rows with the weights, plus the residual. -/
theorem out_apply (x0 : Vec Ideal S384x2048 .f32) (x1 : Vec Ideal S2048x1024 .bf16) (x2 : Vec Ideal S384x1024 .f32) (y : S384x1024.Idx) :
    out0_3 x0 x1 x2 y = gemm (N := 1024) (fun p k => x0 (ix2 p k)) x1 0 (by decide) y + x2 y := by
  refine View.canon_apply_of_pieces (Val := Elt Ideal) (fun y => gemm (N := 1024) (fun p k => x0 (ix2 p k)) x1 0 (by decide) y + x2 y : S384x1024.Idx → EReal) _ ?_ y (cover0_3 _ _ y)
  intro pc hpc x
  simp only [List.mem_cons, List.not_mem_nil, or_false] at hpc
  rcases hpc with rfl | rfl
  · exact congrArg (· + x2 _) (gemm_piece (W := 512) _ x1 0 _ 512 inb_S2048x1024_S2048x512_0_512 inb_S384x1024_S384x512_0_512 _ (fun p q => mm x0 _ p q) x)
  · exact congrArg (· + x2 _) (gemm_piece (W := 512) _ x1 0 _ 0 inb_S2048x1024_S2048x512_0_0 inb_S384x1024_S384x512_0_0 _ (fun p q => mm x0 _ p q) x)

/-- The reference's result at one element. -/
theorem ref_apply (x : FVec Ideal S16512x2048 .f32) (w : FVec Ideal S2048x1024 .f32) (r : FVec Ideal S16512x1024 .f32) (i : Fin 16512) (q : Fin 1024) :
    Cert.Reference5Ideal.Read.val_main_v1 (F := Ideal) x w r (ix2 i q) = r (ix2 i q) + ∑ k : Fin 2048, x (ix2 i k) * w (ix2 k q) := by
  pointwise [Cert.Reference5Ideal.Read.val_main_v1, Cert.Reference5Ideal.Read.val_main_v0]

/-- The windows' block indices: the rows follow the grid point, the weights stay. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The result array after the run is the reference's. -/
theorem final : (dats m 0 c).arrAt 3 (cfgs 0).N
    = Cert.Reference5Ideal.Read.val_main_v1 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  refine (out_apply _ _ _ _).trans ?_
  idx_vars y
  have ht : t.val < 43 := lt_of_lt_of_eq t.isLt (by decide +kernel)
  have hp : t.val * 384 + y0.val < 16512 := by omega
  have he : ((View.whole main_v1).slice (win0_3.rect t)).emb (ix2 y0 y1) = (ix2 ⟨t.val * 384 + y0.val, hp⟩ y1 : S16512x1024.Idx) := by
    blk_ext [idx t]
  have hx (k : Fin 2048) : iblk m c 0 t (ix2 y0 k) = (m ((c : Thread nD τ).loc main_arg0) : FVec Ideal S16512x2048 .f32) (ix2 ⟨t.val * 384 + y0.val, hp⟩ k) := by
    blk_ext! [iblk, V, idx t]
  have hw (k : Fin 2048) (q : Fin 1024) : iblk m c 1 t (ix2 k q) = (m ((c : Thread nD τ).loc main_arg1) : FVec Ideal S2048x1024 .f32) (ix2 k q) := by
    blk_ext! [iblk, V, idx t]
  have hr : iblk m c 2 t (ix2 y0 y1) = (m ((c : Thread nD τ).loc main_arg2) : FVec Ideal S16512x1024 .f32) (ix2 ⟨t.val * 384 + y0.val, hp⟩ y1) := by
    blk_ext! [iblk, V, idx t]
  rw [he]
  rw [ref_apply]
  refine (add_comm _ _).trans (congrArg₂ (fun a b : EReal => a + b) hr ?_)
  exact gemm_at _ (iblk m c 1 t) 0 _ y0 y1 y1 (Nat.zero_add _).symm _ _ hx fun k => hw k y1

end Cert.Kernel5Ideal.OutProj

end
-- ==== Proof.OutProjOdd.lean ====
module

public import proofs.«01_k».proof.Proof.Gen.Kernel6Ideal.Value
public import proofs.«01_k».proof.Proof.Gen.Reference6Ideal.Read
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Kernel6Ideal.OutProjOdd

open Cert.Kernel6Ideal Cert.Kernel6Ideal.Gen Cert.Work

/-- One column chunk's product at one element. -/
theorem mm (x : Vec Ideal S384x1536 .f32) (w : FVec Ideal S1536x512 .bf16) (p : Fin 384) (q : Fin 512) :
    matmul dot_S384x1536_S1536x512_S384x512_1_0_0_1_n_n none (k0_pay1 (View.ld x r0_0)) (shapeCast S1536x512 w shapeCasts_S1536x512_S1536x512)
      (constant S384x512 .f32 0x00000000#32) (ix2 p q) = ∑ k : Fin 1536, x (ix2 p k) * w (ix2 k q) := by
  have e0 : View.ld x r0_0 = x := View.ld_unit_lit _ _ (by decide)
  rw [e0]
  pointwise [k0_pay1]

/-- The odd layer: the block that a grid point leaves: the product of its rows with the weights, plus the residual. -/
theorem out_apply (x0 : Vec Ideal S384x1536 .f32) (x1 : Vec Ideal S1536x1024 .bf16) (x2 : Vec Ideal S384x1024 .f32) (y : S384x1024.Idx) :
    out0_3 x0 x1 x2 y = gemm (N := 1024) (fun p k => x0 (ix2 p k)) x1 0 (by decide) y + x2 y := by
  refine View.canon_apply_of_pieces (Val := Elt Ideal) (fun y => gemm (N := 1024) (fun p k => x0 (ix2 p k)) x1 0 (by decide) y + x2 y : S384x1024.Idx → EReal) _ ?_ y (cover0_3 _ _ y)
  intro pc hpc x
  simp only [List.mem_cons, List.not_mem_nil, or_false] at hpc
  rcases hpc with rfl | rfl
  · exact congrArg (· + x2 _) (gemm_piece (W := 512) _ x1 0 _ 512 inb_S1536x1024_S1536x512_0_512 inb_S384x1024_S384x512_0_512 _ (fun p q => mm x0 _ p q) x)
  · exact congrArg (· + x2 _) (gemm_piece (W := 512) _ x1 0 _ 0 inb_S1536x1024_S1536x512_0_0 inb_S384x1024_S384x512_0_0 _ (fun p q => mm x0 _ p q) x)

/-- The reference's result at one element. -/
theorem ref_apply (x : FVec Ideal S16512x1536 .f32) (w : FVec Ideal S1536x1024 .f32) (r : FVec Ideal S16512x1024 .f32) (i : Fin 16512) (q : Fin 1024) :
    Cert.Reference6Ideal.Read.val_main_v1 (F := Ideal) x w r (ix2 i q) = r (ix2 i q) + ∑ k : Fin 1536, x (ix2 i k) * w (ix2 k q) := by
  pointwise [Cert.Reference6Ideal.Read.val_main_v1, Cert.Reference6Ideal.Read.val_main_v0]

/-- The windows' block indices: the rows follow the grid point, the weights stay. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The odd layer: the result array after the run is the reference's. -/
theorem final : (dats m 0 c).arrAt 3 (cfgs 0).N
    = Cert.Reference6Ideal.Read.val_main_v1 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  refine (out_apply _ _ _ _).trans ?_
  idx_vars y
  have ht : t.val < 43 := lt_of_lt_of_eq t.isLt (by decide +kernel)
  have hp : t.val * 384 + y0.val < 16512 := by omega
  have he : ((View.whole main_v1).slice (win0_3.rect t)).emb (ix2 y0 y1) = (ix2 ⟨t.val * 384 + y0.val, hp⟩ y1 : S16512x1024.Idx) := by
    blk_ext [idx t]
  have hx (k : Fin 1536) : iblk m c 0 t (ix2 y0 k) = (m ((c : Thread nD τ).loc main_arg0) : FVec Ideal S16512x1536 .f32) (ix2 ⟨t.val * 384 + y0.val, hp⟩ k) := by
    blk_ext! [iblk, V, idx t]
  have hw (k : Fin 1536) (q : Fin 1024) : iblk m c 1 t (ix2 k q) = (m ((c : Thread nD τ).loc main_arg1) : FVec Ideal S1536x1024 .f32) (ix2 k q) := by
    blk_ext! [iblk, V, idx t]
  have hr : iblk m c 2 t (ix2 y0 y1) = (m ((c : Thread nD τ).loc main_arg2) : FVec Ideal S16512x1024 .f32) (ix2 ⟨t.val * 384 + y0.val, hp⟩ y1) := by
    blk_ext! [iblk, V, idx t]
  rw [he]
  rw [ref_apply]
  refine (add_comm _ _).trans (congrArg₂ (fun a b : EReal => a + b) hr ?_)
  exact gemm_at _ (iblk m c 1 t) 0 _ y0 y1 y1 (Nat.zero_add _).symm _ _ hx fun k => hw k y1

end Cert.Kernel6Ideal.OutProjOdd

end
-- ==== Proof.OutProjClaim.lean ====
module

public import proofs.«01_k».proof.Defs
public import proofs.«01_k».proof.Proof.OutProj
public import proofs.«01_k».proof.Proof.OutProjOdd
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run

@[expose] public section

set_option maxRecDepth 16384

noncomputable section

open Idealize.ShloMosaic Idealize.ShloMosaic.TcCoe Idealize.SL.Sem

namespace Cert.Proof.OutProjClaims

/-- The printed kernel's frame: the even layer's output projection. -/
theorem frame_k : Cert.quiescent_Kernel5 := fun m ρ _ => Cert.Kernel5.Gen.frame m ρ

/-- The idealized kernel's frame: the even layer's output projection. -/
theorem frame_ki : Cert.quiescent_Kernel5Ideal := fun m ρ _ => Cert.Kernel5Ideal.Gen.frame m ρ

/-- The reference's frame: its run, read at the arguments; it declares no semaphore. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealizing pass renamed nothing here. -/
theorem preserves : Cert.preserves_Kernel5_Kernel5Ideal := trivial

/-- The even layer's output projection and its reference end with equal results over the extended reals. -/
theorem algebraic : Cert.algebraic_Kernel5Ideal_Reference5Ideal := by
  intro m ρ m' ρ' _ hag
  refine ⟨fun c => Cert.Reference5Ideal.Read.val_main_v1 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)), ?_, ?_⟩
  · exact (θ_run Cert.Kernel5Ideal.defs _ _).mono
      (fun _ h c => ⟨(h c).1.trans (Cert.Kernel5Ideal.OutProj.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2⟩ := hag c
    rw [Cert.Reference5Ideal.Read.val_main_v1_eq, h0, h1, h2]

end Cert.Proof.OutProjClaims

namespace Cert.Proof.OutProjOddClaims

/-- The printed kernel's frame: the odd layer's output projection. -/
theorem frame_k : Cert.quiescent_Kernel6 := fun m ρ _ => Cert.Kernel6.Gen.frame m ρ

/-- The idealized kernel's frame: the odd layer's output projection. -/
theorem frame_ki : Cert.quiescent_Kernel6Ideal := fun m ρ _ => Cert.Kernel6Ideal.Gen.frame m ρ

/-- The reference's frame: its run, read at the arguments; it declares no semaphore. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealizing pass renamed nothing here. -/
theorem preserves : Cert.preserves_Kernel6_Kernel6Ideal := trivial

/-- The odd layer's output projection and its reference end with equal results over the extended reals. -/
theorem algebraic : Cert.algebraic_Kernel6Ideal_Reference6Ideal := by
  intro m ρ m' ρ' _ hag
  refine ⟨fun c => Cert.Reference6Ideal.Read.val_main_v1 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)), ?_, ?_⟩
  · exact (θ_run Cert.Kernel6Ideal.defs _ _).mono
      (fun _ h c => ⟨(h c).1.trans (Cert.Kernel6Ideal.OutProjOdd.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨h0, h1, h2⟩ := hag c
    rw [Cert.Reference6Ideal.Read.val_main_v1_eq, h0, h1, h2]

end Cert.Proof.OutProjOddClaims

end
-- ==== Proof.PrepRef.lean ====
module

public import proofs.«01_k».proof.Proof.Gen.Kernel8Ideal.Value
public import proofs.«01_k».proof.Proof.Gen.Reference8Ideal.Read
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Kernel8Ideal.Prep

open Cert.Reference8Ideal.Read

/-- The norm of a row `x` of `n` values with gain `g`, at column `j`; the word `d` is the number `n` as a float. -/
def norm {n : ℕ} (d : BitVec 32) (x g : Fin n → EReal) (j : Fin n) : EReal :=
  x j * Ideal.rsqrt (Ideal.div (∑ k, x k * x k) (Ideal.ofBits .f32 d) + Ideal.ofBits .f32 0x358637BD#32) * g j

/-- The rotation frequency of a lane: the sixteen frequencies repeat. -/
def freq (l : ℕ) : EReal := val_main_v43 (F := Ideal) (ix1 (⟨l % 16, Nat.mod_lt _ (by decide)⟩ : Fin 16))

/-- The cosine of the angle of a lane at a position. -/
def cosE (z : BitVec 32) (l : ℕ) : EReal := Ideal.cos (FloatOps.sitofp (F := Ideal) .f32 z * freq l)

/-- The sine of the angle of a lane at a position. -/
def sinE (z : BitVec 32) (l : ℕ) : EReal := Ideal.sin (FloatOps.sitofp (F := Ideal) .f32 z * freq l)

/-- The position of a row: the prompts' rows count through each prompt, the samples' rows all follow the same past. -/
def place (i : ℕ) : BitVec 32 := if i < 16384 then BitVec.ofNat 32 (i % 2048) else 8192#32

/-- The rotation of the lanes 64 to 95 of a row of lanes `f`, sixteen pairs; the lanes before pass, the lanes after are zero. -/
def rope (f : ℕ → EReal) (z : BitVec 32) (l : ℕ) : EReal :=
  if l < 64 then f l else if l < 80 then f l * cosE z l - f (l + 16) * sinE z l
    else if l < 96 then f l * cosE z l + f (l - 16) * sinE z l else 0

theorem rope_low (f : ℕ → EReal) (z : BitVec 32) (l : ℕ) (h1 : ¬ l < 64) (h2 : l < 80) : rope f z l = f l * cosE z l - f (l + 16) * sinE z l := by
  unfold rope
  rw [if_neg h1, if_pos h2]

theorem rope_high (f : ℕ → EReal) (z : BitVec 32) (l : ℕ) (h2 : ¬ l < 80) (h3 : l < 96) : rope f z l = f l * cosE z l + f (l - 16) * sinE z l := by
  unfold rope
  rw [if_neg (by omega), if_neg h2, if_pos h3]

/-- The reference's position of a row. -/
theorem place_ref (i : Fin 16512) : val_main_v5 (F := Ideal) (ix1 i) = place i.val := by
  have e : val_main_v4 (F := Ideal) = val_main_v3 (F := Ideal) := rfl
  pointwise [val_main_v5, e, val_main_v3, val_main_c, val_main_v2, val_main_v1, val_main_v0, place]
  by_cases h : i.val < 16384
  · rw [dif_pos h, if_pos h]
  · rw [dif_neg h, if_neg h]

theorem freq_eq (l : ℕ) (j : Fin 16) (h : l % 16 = j.val) : freq l = val_main_v43 (F := Ideal) (ix1 j) :=
  congrArg (fun a => val_main_v43 (F := Ideal) (ix1 a)) (Fin.ext h)

/-- The reference's cosines. -/
theorem cos_ref (i : Fin 16512) (j : Fin 16) (l : ℕ) (h : l % 16 = j.val) : val_main_v50 (F := Ideal) (ix3 i 0 j) = cosE (place i.val) l := by
  unfold cosE
  rw [freq_eq l j h, ← place_ref]
  pointwise [val_main_v50, val_main_v49, val_main_v48, val_main_v47, val_main_v46, val_main_v45, val_main_v44]

/-- The reference's sines. -/
theorem sin_ref (i : Fin 16512) (j : Fin 16) (l : ℕ) (h : l % 16 = j.val) : val_main_v51 (F := Ideal) (ix3 i 0 j) = sinE (place i.val) l := by
  unfold sinE
  rw [freq_eq l j h, ← place_ref]
  pointwise [val_main_v51, val_main_v49, val_main_v48, val_main_v47, val_main_v46, val_main_v45, val_main_v44]

theorem cos75 : val_main_v75 (F := Ideal) = val_main_v50 (F := Ideal) := rfl
theorem sin76 : val_main_v76 (F := Ideal) = val_main_v51 (F := Ideal) := rfl

section Q

variable (x0 : FVec Ideal Cert.Reference8Ideal.S16512x384 .f32) (x3 : FVec Ideal Cert.Reference8Ideal.S384 .f32)
  (x4 : FVec Ideal Cert.Reference8Ideal.S384x768 .f32)

/-- The query lanes of head `h` before the rotation. -/
def qf (i : Fin 16512) (h : Fin 8) (l : ℕ) : EReal :=
  if hl : l < 96 then ∑ k : Fin 384, norm 0x43C00000#32 (fun j => x0 (ix2 i j)) (fun j => x3 (ix1 j)) k * x4 (ix2 k ⟨h.val * 96 + l, by omega⟩) else 0

theorem qn_ref (i : Fin 16512) (k : Fin 384) : val_main_v18 (F := Ideal) x0 x3 (ix2 i k) = norm 0x43C00000#32 (fun j => x0 (ix2 i j)) (fun j => x3 (ix1 j)) k := by
  pointwise [val_main_v18, val_main_v17, val_main_v16, val_main_v15, val_main_v14, val_main_v13, val_main_v12, val_main_v11, val_main_v10, val_main_v9, val_main_v8, val_main_v7, val_main_v6, val_main_cst, val_main_cst_0, val_main_cst_1, norm]

theorem qd_ref (i : Fin 16512) (n : Fin 768) : val_main_v19 (F := Ideal) x0 x3 x4 (ix2 i n)
    = ∑ k : Fin 384, norm 0x43C00000#32 (fun j => x0 (ix2 i j)) (fun j => x3 (ix1 j)) k * x4 (ix2 k n) := by
  have e : val_main_v19 (F := Ideal) x0 x3 x4 (ix2 i n) = ∑ k : Fin 384, val_main_v18 (F := Ideal) x0 x3 (ix2 i k) * x4 (ix2 k n) := by
    pointwise [val_main_v19]
  rw [e]
  simp only [qn_ref]

theorem ql_ref (i : Fin 16512) (h : Fin 8) (l : ℕ) (hl : l < 96) (n : Fin 768) (hn : n.val = h.val * 96 + l) :
    val_main_v19 (F := Ideal) x0 x3 x4 (ix2 i n) = qf x0 x3 x4 i h l := by
  obtain ⟨n, hb⟩ := n
  dsimp only at hn
  subst hn
  unfold qf
  rw [dif_pos hl]
  exact qd_ref x0 x3 x4 i _

/-- The reference's rotated query lanes. -/
theorem qr_ref (i : Fin 16512) (h : Fin 8) (q : Fin 32) (l : ℕ) (hl : l = 64 + q.val) :
    val_main_v89 (F := Ideal) x0 x3 x4 (ix3 i h q) = rope (qf x0 x3 x4 i h) (place i.val) l := by
  pointwise [val_main_v20, val_main_v89, val_main_v83, val_main_v88, val_main_v80, val_main_v82, val_main_v85, val_main_v87, val_main_v77, val_main_v78, val_main_v79, val_main_v81, val_main_v84, val_main_v86, val_main_v62, cos75, sin76]
  by_cases h2 : q.val < 16
  · refine (dif_pos h2).trans ?_
    rw [rope_low _ _ _ (by omega) (by omega), ql_ref x0 x3 x4 i h l (by omega) _ (by dsimp only; omega), ql_ref x0 x3 x4 i h (l + 16) (by omega) _ (by dsimp only; omega),
      cos_ref i _ l (by dsimp only; omega), sin_ref i _ l (by dsimp only; omega)]
  · refine (dif_neg h2).trans ?_
    rw [rope_high _ _ _ (by omega) (by omega), ql_ref x0 x3 x4 i h l (by omega) _ (by dsimp only; omega), ql_ref x0 x3 x4 i h (l - 16) (by omega) _ (by dsimp only; omega),
      cos_ref i _ l (by dsimp only; omega), sin_ref i _ l (by dsimp only; omega)]

theorem q3_ref (i : Fin 16512) (h : Fin 8) (l : Fin 128) : val_main_v91 (F := Ideal) x0 x3 x4 (ix3 i h l) = rope (qf x0 x3 x4 i h) (place i.val) l.val := by
  pointwise [val_main_v91, val_main_v61, val_main_v20, val_main_v90, val_main_cst_9]
  by_cases h1 : l.val < 64
  · rw [dif_pos h1, ql_ref x0 x3 x4 i h l.val (by omega) _ rfl]
    unfold rope
    rw [if_pos h1]
  rw [dif_neg h1]
  by_cases h3 : l.val < 96
  · rw [dif_pos (by omega), qr_ref x0 x3 x4 i h _ l.val (by dsimp only; omega)]
  · rw [dif_neg (by omega)]
    unfold rope
    rw [if_neg h1, if_neg (by omega), if_neg h3]

/-- The reference's first result. -/
theorem q_ref (i : Fin 16512) (n : Fin 1024) :
    val_main_v92 (F := Ideal) x0 x3 x4 (ix2 i n) = rope (qf x0 x3 x4 i ⟨n.val / 128, by omega⟩) (place i.val) (n.val % 128) := by
  have e : val_main_v92 (F := Ideal) x0 x3 x4 (ix2 i n) = val_main_v91 (F := Ideal) x0 x3 x4 (ix3 i ⟨n.val / 128, by omega⟩ ⟨n.val % 128, by omega⟩) := by
    pointwise [val_main_v92]
  rw [e, q3_ref]

end Q

section Key

/-- A row of lanes, zero outside. -/
def lanes (x : FVec Ideal Cert.Reference8Ideal.S16512x128 .f32) (i : Fin 16512) (l : ℕ) : EReal := if h : l < 128 then x (ix2 i ⟨l, h⟩) else 0

/-- The rotated lanes alone: the lanes before them are zero too. -/
def kropeE (f : ℕ → EReal) (z : BitVec 32) (l : ℕ) : EReal := if l < 64 then 0 else rope f z l

variable (x2 : FVec Ideal Cert.Reference8Ideal.S16512x128 .f32)

theorem lanes_eq (i : Fin 16512) (l : ℕ) (n : Fin 128) (h : n.val = l) : x2 (ix2 i n) = lanes x2 i l := by
  subst h
  unfold lanes
  rw [dif_pos n.isLt]

/-- The reference's rotated lanes. -/
theorem rot_ref (i : Fin 16512) (q : Fin 32) (l : ℕ) (h : l = 64 + q.val) : val_main_v60 (F := Ideal) x2 (ix3 i 0 q) = rope (lanes x2 i) (place i.val) l := by
  pointwise [val_main_v60, val_main_v56, val_main_v59, val_main_v54, val_main_v55, val_main_v57, val_main_v58, val_main_v52, val_main_v53, val_main_v37, val_main_v36]
  by_cases h2 : q.val < 16
  · refine (dif_pos h2).trans ?_
    rw [rope_low _ _ _ (by omega) (by omega), lanes_eq x2 i l _ (by dsimp only; omega), lanes_eq x2 i (l + 16) _ (by dsimp only; omega),
      cos_ref i _ l (by dsimp only; omega), sin_ref i _ l (by dsimp only; omega)]
  · refine (dif_neg h2).trans ?_
    rw [rope_high _ _ _ (by omega) (by omega), lanes_eq x2 i l _ (by dsimp only; omega), lanes_eq x2 i (l - 16) _ (by dsimp only; omega),
      cos_ref i _ l (by dsimp only; omega), sin_ref i _ l (by dsimp only; omega)]

/-- The reference's last result. -/
theorem kr_ref (i : Fin 16512) (l : Fin 128) : val_main_v107 (F := Ideal) x2 (ix2 i l) = kropeE (lanes x2 i) (place i.val) l.val := by
  pointwise [val_main_v107, val_main_v106, val_main_v104, val_main_v105, val_main_cst_12, val_main_cst_13]
  unfold kropeE
  by_cases h1 : l.val < 64
  · rw [dif_pos h1, if_pos h1]
  rw [dif_neg h1, if_neg h1]
  by_cases h3 : l.val < 96
  · rw [dif_pos (by omega), rot_ref x2 i _ l.val (by dsimp only; omega)]
  · rw [dif_neg (by omega)]
    unfold rope
    rw [if_neg h1, if_neg (by omega), if_neg h3]

variable (x1 : FVec Ideal Cert.Reference8Ideal.S16512x256 .f32) (x5 : FVec Ideal Cert.Reference8Ideal.S256 .f32)
  (x6 : FVec Ideal Cert.Reference8Ideal.S256x1024 .f32)

/-- The reference's second result. -/
theorem lat_ref (i : Fin 16512) (k : Fin 256) : val_main_v33 (F := Ideal) x1 x5 (ix2 i k) = norm 0x43800000#32 (fun j => x1 (ix2 i j)) (fun j => x5 (ix1 j)) k := by
  pointwise [val_main_v33, val_main_v32, val_main_v31, val_main_v30, val_main_v29, val_main_v28, val_main_v27, val_main_v26, val_main_v25, val_main_v24, val_main_v23, val_main_v22, val_main_v21, val_main_cst_2, val_main_cst_3, val_main_cst_4, norm]

/-- A column of the latent's product. -/
def kvf (i : Fin 16512) (n : Fin 1024) : EReal :=
  ∑ k : Fin 256, norm 0x43800000#32 (fun j => x1 (ix2 i j)) (fun j => x5 (ix1 j)) k * x6 (ix2 k n)

theorem kv_ref (i : Fin 16512) (n : Fin 1024) : val_main_v34 (F := Ideal) x1 x5 x6 (ix2 i n) = kvf x1 x5 x6 i n := by
  have e : val_main_v34 (F := Ideal) x1 x5 x6 (ix2 i n) = ∑ k : Fin 256, val_main_v33 (F := Ideal) x1 x5 (ix2 i k) * x6 (ix2 k n) := by
    pointwise [val_main_v34]
  rw [e]
  unfold kvf
  simp only [lat_ref]

/-- The reference's third result. -/
theorem k_ref (i : Fin 16512) (n : Fin 1024) : val_main_v98 (F := Ideal) x1 x2 x5 x6 (ix2 i n)
    = if n.val % 128 < 64 then kvf x1 x5 x6 i n else rope (lanes x2 i) (place i.val) (n.val % 128) := by
  pointwise [val_main_v98, val_main_v97, val_main_v96, val_main_v93, val_main_v35, val_main_v94, val_main_v95, val_main_cst_10]
  by_cases h1 : n.val % 128 < 64
  · rw [dif_pos h1, if_pos h1, kv_ref]
  rw [dif_neg h1, if_neg h1]
  by_cases h3 : n.val % 128 < 96
  · rw [dif_pos (by omega), rot_ref x2 i _ (n.val % 128) (by dsimp only; omega)]
  · rw [dif_neg (by omega)]
    unfold rope
    rw [if_neg h1, if_neg (by omega), if_neg h3]

/-- The reference's fourth result. -/
theorem v_ref (i : Fin 16512) (n : Fin 1024) : val_main_v103 (F := Ideal) x1 x5 x6 (ix2 i n)
    = if h : n.val % 128 < 64 then kvf x1 x5 x6 i ⟨n.val + 64, by omega⟩ else 0 := by
  pointwise [val_main_v103, val_main_v102, val_main_v101, val_main_v99, val_main_v35, val_main_v100, val_main_cst_11]
  by_cases h1 : n.val % 128 < 64
  · rw [dif_pos h1, dif_pos h1, kv_ref]
    exact congrArg (kvf x1 x5 x6 i) (Fin.ext (by dsimp only; omega))
  · rw [dif_neg h1, dif_neg h1]

end Key

end Cert.Kernel8Ideal.Prep

end
-- ==== Proof.PrepHost.lean ====
module

public import proofs.«01_k».proof.Proof.Gen.Kernel8Ideal.Value
public import proofs.«01_k».proof.Proof.Gen.Reference8Ideal.Read
public import proofs.«01_k».proof.Proof.PrepRef

@[expose] public section

set_option maxRecDepth 16384

noncomputable section

open Idealize.ShloMosaic Idealize.ShloMosaic.TcCoe Idealize.SL.Sem
open Idealize.ShloMosaic.Pipeline (Dat)

namespace Cert.Kernel8Ideal.Prep

open Cert.Kernel8Ideal Cert.Kernel8Ideal.Gen

theorem zero_word : (FloatOps.sitofp (F := Ideal) .f32 0#32 : EReal) = 0 := by
  simp [FloatOps.sitofp]

/-- The padding value: the integer zero as a float. -/
def padv : FVec Ideal S_ .f32 := sitofp .f32 (constantI S_ 32 0#32)

/-- The query weights the kernel reads: each head's 96 columns, then 32 zero columns. -/
def wtsQ (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96) padv
    pads_S384x8x96_S384x8x128_000_000_0320 h_S_) shapeCasts_S384x8x128_S384x1024) bitsLt_bf16_f32

theorem wtsQ_apply (w : FVec Ideal S384x768 .f32) (k : Fin 384) (n : Fin 1024) : wtsQ w (ix2 k n)
    = if h : n.val % 128 < 96 then w (ix2 k ⟨n.val / 128 * 96 + n.val % 128, by omega⟩) else 0 := by
  pointwise [wtsQ, padv]
  by_cases h : n.val % 128 < 96
  · rw [dif_pos ⟨by omega, h⟩, dif_pos h]
  · rw [dif_neg (fun a => h a.2), dif_neg h]
    exact zero_word

/-- The key weights the kernel reads: the first 64 columns of each head, then 64 zero columns. -/
def wtsK (w : FVec Ideal S256x1024 .f32) : FVec Ideal S256x1024 .bf16 :=
  truncf .bf16 (shapeCast S256x1024 (pad S256x8x128 ![0, 0, 0] ![0, 0, 64] ![0, 0, 0]
    (extractStridedSlice S256x8x64 ![0, 0, 0] (shapeCast S256x8x128 w shapeCasts_S256x1024_S256x8x128) slices_S256x8x128_S256x8x64_0_0_0) padv
    pads_S256x8x64_S256x8x128_000_000_0640 h_S_) shapeCasts_S256x8x128_S256x1024) bitsLt_bf16_f32

theorem wtsK_apply (w : FVec Ideal S256x1024 .f32) (k : Fin 256) (n : Fin 1024) : wtsK w (ix2 k n)
    = if h : n.val % 128 < 64 then w (ix2 k ⟨n.val + 0, by omega⟩) else 0 := by
  pointwise [wtsK, padv]
  by_cases h : n.val % 128 < 64
  · rw [dif_pos ⟨by omega, h⟩, dif_pos h]
  · rw [dif_neg (fun a => h a.2), dif_neg h]
    exact zero_word

/-- The value weights the kernel reads: the last 64 columns of each head, then 64 zero columns. -/
def wtsV (w : FVec Ideal S256x1024 .f32) : FVec Ideal S256x1024 .bf16 :=
  truncf .bf16 (shapeCast S256x1024 (pad S256x8x128 ![0, 0, 0] ![0, 0, 64] ![0, 0, 0]
    (extractStridedSlice S256x8x64 ![0, 0, 64] (shapeCast S256x8x128 w shapeCasts_S256x1024_S256x8x128) slices_S256x8x128_S256x8x64_0_0_64) padv
    pads_S256x8x64_S256x8x128_000_000_0640 h_S_) shapeCasts_S256x8x128_S256x1024) bitsLt_bf16_f32

theorem wtsV_apply (w : FVec Ideal S256x1024 .f32) (k : Fin 256) (n : Fin 1024) : wtsV w (ix2 k n)
    = if h : n.val % 128 < 64 then w (ix2 k ⟨n.val + 64, by omega⟩) else 0 := by
  pointwise [wtsV, padv]
  by_cases h : n.val % 128 < 64
  · rw [dif_pos ⟨by omega, h⟩, dif_pos h]
    refine congrArg (fun a => w (ix2 k a)) (Fin.ext ?_)
    show n.val / 128 * 128 + (64 + n.val % 128) = n.val + 64
    omega
  · rw [dif_neg (fun a => h a.2), dif_neg h]
    exact zero_word

/-- The angles of the prompt rows' positions. -/
def angP : FVec Ideal S2048x16 .f32 :=
  mulf (broadcastInDim S2048x16 ![0, 1] bcast_S2048x1_S2048x16_0_1 (broadcastInDim S2048x1 ![0] bcast_S2048_S2048x1_0 (sitofp .f32 (iotaInDim S2048 32 0 : IVec S2048 32))))
    (broadcastInDim S2048x16 ![0, 1] bcast_S1x16_S2048x16_0_1 (broadcastInDim S1x16 ![1] bcast_S16_S1x16_1 (Cert.Reference8Ideal.Read.val_main_v43 (F := Ideal))))

/-- A table of the prompt rows: 64 lanes of one constant, two groups of sixteen lanes, 32 zero lanes. -/
def tabP (b : BitVec 32) (x y : FVec Ideal S2048x16 .f32) : FVec Ideal S2048x128 .f32 :=
  concatenate S2048x128 1 [⟨S2048x64, broadcastInDim S2048x64 ![] bcast_S_S2048x64 (constant (F := Ideal) S_ .f32 b)⟩, ⟨S2048x16, x⟩, ⟨S2048x16, y⟩,
    ⟨S2048x32, broadcastInDim S2048x32 ![] bcast_S_S2048x32 (constant (F := Ideal) S_ .f32 0x00000000#32)⟩]
    concatenates_S2048x64_S2048x16_S2048x16_S2048x32_S2048x128_d1

/-- Sixteen zero lanes. -/
def zeroP : FVec Ideal S2048x16 .f32 := broadcastInDim S2048x16 ![] bcast_S_S2048x16 (constant (F := Ideal) S_ .f32 0x00000000#32)

theorem tabP_apply (b : BitVec 32) (x y : FVec Ideal S2048x16 .f32) (r : Fin 2048) (l : Fin 128) : tabP b x y (ix2 r l)
    = if h1 : l.val < 64 then Ideal.ofBits .f32 b else if h2 : l.val < 80 then x (ix2 r ⟨l.val - 64, by omega⟩)
      else if h3 : l.val < 96 then y (ix2 r ⟨l.val - 80, by omega⟩) else 0 := by
  pointwise [tabP]
  by_cases h1 : l.val < 64
  · rw [dif_pos h1, dif_pos h1]
  rw [dif_neg h1, dif_neg h1]
  by_cases h2 : l.val < 80
  · rw [dif_pos (by omega), dif_pos h2]
  rw [dif_neg (by omega), dif_neg h2]
  by_cases h3 : l.val < 96
  · rw [dif_pos (by omega), dif_pos h3]
    exact congrArg (fun a => y (ix2 r a)) (Fin.ext (by dsimp only; omega))
  · rw [dif_neg (by omega), dif_neg h3]

/-- The angles of the sample rows' positions. -/
def angS : FVec Ideal S128x16 .f32 :=
  mulf (broadcastInDim S128x16 ![0, 1] bcast_S128x1_S128x16_0_1 (broadcastInDim S128x1 ![0] bcast_S128_S128x1_0 (sitofp .f32 (shapeCast S128 (broadcastInDim S128x1 ![0, 1] bcast_S1x1_S128x1_0_1 (shapeCast S1x1 (addi (broadcastInDim S1 ![] bcast_S_S1 (constantI S_ 32 8192#32)) (iotaInDim S1 32 0)) shapeCasts_S1_S1x1)) shapeCasts_S128x1_S128 : IVec S128 32))))
    (broadcastInDim S128x16 ![0, 1] bcast_S1x16_S128x16_0_1 (broadcastInDim S1x16 ![1] bcast_S16_S1x16_1 (Cert.Reference8Ideal.Read.val_main_v43 (F := Ideal))))

/-- A table of the sample rows: 64 lanes of one constant, two groups of sixteen lanes, 32 zero lanes. -/
def tabS (b : BitVec 32) (x y : FVec Ideal S128x16 .f32) : FVec Ideal S128x128 .f32 :=
  concatenate S128x128 1 [⟨S128x64, broadcastInDim S128x64 ![] bcast_S_S128x64 (constant (F := Ideal) S_ .f32 b)⟩, ⟨S128x16, x⟩, ⟨S128x16, y⟩,
    ⟨S128x32, broadcastInDim S128x32 ![] bcast_S_S128x32 (constant (F := Ideal) S_ .f32 0x00000000#32)⟩]
    concatenates_S128x64_S128x16_S128x16_S128x32_S128x128_d1

/-- Sixteen zero lanes. -/
def zeroS : FVec Ideal S128x16 .f32 := broadcastInDim S128x16 ![] bcast_S_S128x16 (constant (F := Ideal) S_ .f32 0x00000000#32)

theorem tabS_apply (b : BitVec 32) (x y : FVec Ideal S128x16 .f32) (r : Fin 128) (l : Fin 128) : tabS b x y (ix2 r l)
    = if h1 : l.val < 64 then Ideal.ofBits .f32 b else if h2 : l.val < 80 then x (ix2 r ⟨l.val - 64, by omega⟩)
      else if h3 : l.val < 96 then y (ix2 r ⟨l.val - 80, by omega⟩) else 0 := by
  pointwise [tabS]
  by_cases h1 : l.val < 64
  · rw [dif_pos h1, dif_pos h1]
  rw [dif_neg h1, dif_neg h1]
  by_cases h2 : l.val < 80
  · rw [dif_pos (by omega), dif_pos h2]
  rw [dif_neg (by omega), dif_neg h2]
  by_cases h3 : l.val < 96
  · rw [dif_pos (by omega), dif_pos h3]
    exact congrArg (fun a => y (ix2 r a)) (Fin.ext (by dsimp only; omega))
  · rw [dif_neg (by omega), dif_neg h3]

theorem angP_apply (r : Fin 2048) (j : Fin 16) (l : ℕ) (h : l % 16 = j.val) :
    angP (ix2 r j) = FloatOps.sitofp (F := Ideal) .f32 (BitVec.ofNat 32 r.val) * freq l := by
  rw [freq_eq l j h]
  pointwise [angP]

theorem angS_apply (r : Fin 128) (j : Fin 16) (l : ℕ) (h : l % 16 = j.val) :
    angS (ix2 r j) = FloatOps.sitofp (F := Ideal) .f32 8192#32 * freq l := by
  rw [freq_eq l j h]
  pointwise [angS]
  rfl

theorem cosP_apply (r : Fin 2048) (j : Fin 16) (l : ℕ) (h : l % 16 = j.val) : Host.cos angP (ix2 r j) = cosE (BitVec.ofNat 32 r.val) l :=
  congrArg Ideal.cos (angP_apply r j l h)

theorem sinP_apply (r : Fin 2048) (j : Fin 16) (l : ℕ) (h : l % 16 = j.val) : Host.sin angP (ix2 r j) = sinE (BitVec.ofNat 32 r.val) l :=
  congrArg Ideal.sin (angP_apply r j l h)

theorem negP_apply (r : Fin 2048) (j : Fin 16) (l : ℕ) (h : l % 16 = j.val) : Host.negf (Host.sin angP) (ix2 r j) = -sinE (BitVec.ofNat 32 r.val) l :=
  congrArg (fun a : EReal => -a) (sinP_apply r j l h)

theorem zeroP_apply (r : Fin 2048) (j : Fin 16) : zeroP (ix2 r j) = 0 := by
  pointwise [zeroP]

theorem cosS_apply (r : Fin 128) (j : Fin 16) (l : ℕ) (h : l % 16 = j.val) : Host.cos angS (ix2 r j) = cosE 8192#32 l :=
  congrArg Ideal.cos (angS_apply r j l h)

theorem sinS_apply (r : Fin 128) (j : Fin 16) (l : ℕ) (h : l % 16 = j.val) : Host.sin angS (ix2 r j) = sinE 8192#32 l :=
  congrArg Ideal.sin (angS_apply r j l h)

theorem negS_apply (r : Fin 128) (j : Fin 16) (l : ℕ) (h : l % 16 = j.val) : Host.negf (Host.sin angS) (ix2 r j) = -sinE 8192#32 l :=
  congrArg (fun a : EReal => -a) (sinS_apply r j l h)

theorem zeroS_apply (r : Fin 128) (j : Fin 16) : zeroS (ix2 r j) = 0 := by
  pointwise [zeroS]

/-- The factor of a lane itself. -/
def facC (z : BitVec 32) (l : ℕ) : EReal := if l < 64 then 1 else if l < 96 then cosE z l else 0

/-- The factor of the lane sixteen to the right. -/
def facR (z : BitVec 32) (l : ℕ) : EReal := if l < 64 then 0 else if l < 80 then -sinE z l else 0

/-- The factor of the lane sixteen to the left. -/
def facL (z : BitVec 32) (l : ℕ) : EReal := if l < 80 then 0 else if l < 96 then sinE z l else 0

/-- The position of a table row. -/
def tpos (r : ℕ) : BitVec 32 := if r < 2048 then BitVec.ofNat 32 r else 8192#32

/-- The two tables one above the other. -/
def both (x : FVec Ideal S2048x128 .f32) (y : FVec Ideal S128x128 .f32) : FVec Ideal S2176x128 .f32 :=
  concatenate S2176x128 0 [⟨S2048x128, x⟩, ⟨S128x128, y⟩] concatenates_S2048x128_S128x128_S2176x128_d0

theorem both_apply (x : FVec Ideal S2048x128 .f32) (y : FVec Ideal S128x128 .f32) (f : BitVec 32 → EReal) (r : Fin 2176) (l : Fin 128)
    (hx : ∀ r : Fin 2048, x (ix2 r l) = f (BitVec.ofNat 32 r.val)) (hy : ∀ r : Fin 128, y (ix2 r l) = f 8192#32) :
    both x y (ix2 r l) = f (tpos r.val) := by
  pointwise [both]
  unfold tpos
  by_cases h : r.val < 2048
  · rw [dif_pos h, if_pos h, hx]
  · rw [dif_neg h, if_neg h, hy]

/-- The table of the cosines. -/
def tabC : FVec Ideal S2176x128 .f32 := both (tabP 0x3F800000#32 (Host.cos angP) (Host.cos angP)) (tabS 0x3F800000#32 (Host.cos angS) (Host.cos angS))

theorem tabC_apply (r : Fin 2176) (l : Fin 128) : tabC (ix2 r l) = facC (tpos r.val) l.val := by
  refine both_apply _ _ (fun z => facC z l.val) r l (fun r => ?_) (fun r => ?_)
  · refine (tabP_apply _ _ _ r l).trans ?_
    unfold facC
    split_ifs
    all_goals first | rfl | omega | exact Ideal.ofBits_one_f32 | exact Ideal.ofBits_zero_f32 | exact zeroP_apply _ _ | exact cosP_apply _ _ _ (by dsimp only; omega) | exact negP_apply _ _ _ (by dsimp only; omega) | exact sinP_apply _ _ _ (by dsimp only; omega)
  · refine (tabS_apply _ _ _ r l).trans ?_
    unfold facC
    split_ifs
    all_goals first | rfl | omega | exact Ideal.ofBits_one_f32 | exact Ideal.ofBits_zero_f32 | exact zeroS_apply _ _ | exact cosS_apply _ _ _ (by dsimp only; omega) | exact negS_apply _ _ _ (by dsimp only; omega) | exact sinS_apply _ _ _ (by dsimp only; omega)

/-- The table of the negated sines. -/
def tabR : FVec Ideal S2176x128 .f32 := both (tabP 0x00000000#32 (Host.negf (Host.sin angP)) zeroP) (tabS 0x00000000#32 (Host.negf (Host.sin angS)) zeroS)

theorem tabR_apply (r : Fin 2176) (l : Fin 128) : tabR (ix2 r l) = facR (tpos r.val) l.val := by
  refine both_apply _ _ (fun z => facR z l.val) r l (fun r => ?_) (fun r => ?_)
  · refine (tabP_apply _ _ _ r l).trans ?_
    unfold facR
    split_ifs
    all_goals first | rfl | omega | exact Ideal.ofBits_one_f32 | exact Ideal.ofBits_zero_f32 | exact zeroP_apply _ _ | exact cosP_apply _ _ _ (by dsimp only; omega) | exact negP_apply _ _ _ (by dsimp only; omega) | exact sinP_apply _ _ _ (by dsimp only; omega)
  · refine (tabS_apply _ _ _ r l).trans ?_
    unfold facR
    split_ifs
    all_goals first | rfl | omega | exact Ideal.ofBits_one_f32 | exact Ideal.ofBits_zero_f32 | exact zeroS_apply _ _ | exact cosS_apply _ _ _ (by dsimp only; omega) | exact negS_apply _ _ _ (by dsimp only; omega) | exact sinS_apply _ _ _ (by dsimp only; omega)

/-- The table of the sines. -/
def tabL : FVec Ideal S2176x128 .f32 := both (tabP 0x00000000#32 zeroP (Host.sin angP)) (tabS 0x00000000#32 zeroS (Host.sin angS))

theorem tabL_apply (r : Fin 2176) (l : Fin 128) : tabL (ix2 r l) = facL (tpos r.val) l.val := by
  refine both_apply _ _ (fun z => facL z l.val) r l (fun r => ?_) (fun r => ?_)
  · refine (tabP_apply _ _ _ r l).trans ?_
    unfold facL
    split_ifs
    all_goals first | rfl | omega | exact Ideal.ofBits_one_f32 | exact Ideal.ofBits_zero_f32 | exact zeroP_apply _ _ | exact cosP_apply _ _ _ (by dsimp only; omega) | exact negP_apply _ _ _ (by dsimp only; omega) | exact sinP_apply _ _ _ (by dsimp only; omega)
  · refine (tabS_apply _ _ _ r l).trans ?_
    unfold facL
    split_ifs
    all_goals first | rfl | omega | exact Ideal.ofBits_one_f32 | exact Ideal.ofBits_zero_f32 | exact zeroS_apply _ _ | exact cosS_apply _ _ _ (by dsimp only; omega) | exact negS_apply _ _ _ (by dsimp only; omega) | exact sinS_apply _ _ _ (by dsimp only; omega)

variable (m : (ℓ : Loc nD τ sig) → Buf (Elt Ideal) ℓ) (c : Dev nD)

theorem V_wq : (V m c main_v65 : FVec Ideal S384x1024 .bf16) = wtsQ (m ((c : Thread nD τ).loc main_arg4)) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_wk : (V m c main_v70 : FVec Ideal S256x1024 .bf16) = wtsK (m ((c : Thread nD τ).loc main_arg6)) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_wv : (V m c main_v75 : FVec Ideal S256x1024 .bf16) = wtsV (m ((c : Thread nD τ).loc main_arg6)) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_c : (V m c main_v59 : FVec Ideal S2176x128 .f32) = tabC := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_r : (V m c main_v60 : FVec Ideal S2176x128 .f32) = tabR := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_l : (V m c main_v61 : FVec Ideal S2176x128 .f32) = tabL := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_gq : (V m c main_v76 : FVec Ideal S1x384 .f32) = shapeCast S1x384 (m ((c : Thread nD τ).loc main_arg3) : FVec Ideal S384 .f32) shapeCasts_S384_S1x384 := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_gk : (V m c main_v77 : FVec Ideal S1x256 .f32) = shapeCast S1x256 (m ((c : Thread nD τ).loc main_arg5) : FVec Ideal S256 .f32) shapeCasts_S256_S1x256 := by
  dsimp only [V]
  simp only [hostOps0, hostOps0_1, hostOps0_2, hostOps0_3, hostOps0_4, hostOps0_5, hostOps0_6, List.flatten_cons, List.flatten_nil, List.append_nil, List.cons_append, List.nil_append]
  after_results
  rfl

end Cert.Kernel8Ideal.Prep

end
-- ==== Proof.Prep.lean ====
module

public import proofs.«01_k».proof.Proof.Gen.Kernel8Ideal.Value
public import proofs.«01_k».proof.Proof.Gen.Reference8Ideal.Read
public import proofs.«01_k».proof.Proof.Cols
public import proofs.«01_k».proof.Proof.PrepHost

@[expose] public section

set_option maxRecDepth 16384

noncomputable section

open Idealize.ShloMosaic Idealize.ShloMosaic.TcCoe Idealize.SL.Sem
open Idealize.ShloMosaic.Pipeline (Dat)

namespace Cert.Kernel8Ideal.Prep

open Cert.Kernel8Ideal Cert.Kernel8Ideal.Gen Cert.Work

/-- The kernel's rotation of a block: each lane and its two neighbours at distance sixteen, each times its factor. -/
def ropeBlk (x a b d : FVec Ideal S128x128 .f32) : FVec Ideal S128x128 .f32 :=
  addf (addf (mulf x a) (mulf (dynamicRotate 1 112#32 none x rotates_S128x128_d1) b)) (mulf (dynamicRotate 1 16#32 none x rotates_S128x128_d1) d)

/-- The rotation of a block at one element is the rotation of its row, when the factors are those of the row's position. -/
theorem ropeBlk_apply (x a b d : FVec Ideal S128x128 .f32) (f : ℕ → EReal) (z : BitVec 32) (p q : Fin 128) (hx : ∀ l : Fin 128, x (ix2 p l) = f l.val)
    (ha : ∀ l : Fin 128, a (ix2 p l) = facC z l.val) (hb : ∀ l : Fin 128, b (ix2 p l) = facR z l.val) (hd : ∀ l : Fin 128, d (ix2 p l) = facL z l.val) :
    ropeBlk x a b d (ix2 p q) = rope f z q.val := by
  pointwise [ropeBlk]
  rw [ha, hb, hd, hx, hx, hx]
  dsimp only
  unfold facC facR facL rope
  by_cases h1 : q.val < 64
  · rw [if_pos h1, if_pos h1, if_pos (by omega), if_pos h1]
    simp
  by_cases h2 : q.val < 80
  · rw [if_neg h1, if_neg h1, if_pos h2, if_pos h2, if_pos (by omega), if_neg h1, if_pos h2, show (q.val + 128 - 112) % 128 = q.val + 16 by omega, mul_zero, add_zero,
      mul_neg, sub_eq_add_neg]
  by_cases h3 : q.val < 96
  · rw [if_neg h1, if_neg h1, if_neg h2, if_neg h2, if_pos h3, if_pos h3, if_neg h1, if_neg h2, if_pos h3, show (q.val + 128 - 16) % 128 = q.val - 16 by omega, mul_zero, add_zero]
  · rw [if_neg h1, if_neg h1, if_neg h2, if_neg h2, if_neg h3, if_neg h3, if_neg h1, if_neg h2, if_neg h3]
    simp

section Out

variable (x0 : Vec Ideal S128x384 .f32) (x1 : Vec Ideal S128x256 .f32) (x2 : Vec Ideal S128x128 .f32) (x3 : Vec Ideal S1x384 .f32)
  (x4 : Vec Ideal S1x256 .f32) (x5 : Vec Ideal S384x1024 .bf16) (x6 : Vec Ideal S256x1024 .bf16) (x7 : Vec Ideal S256x1024 .bf16)
  (x8 : Vec Ideal S128x128 .f32) (x9 : Vec Ideal S128x128 .f32) (x10 : Vec Ideal S128x128 .f32)

theorem pay35_eq (p l : Fin 128) : k0_pay35 (F := Ideal) x0 x1 x2 x3 x4 x5 x6 x7 x8 x9 x10 (ix2 p l) = x8 (ix2 p l) := by
  have e : View.ld x8 r0_0 = x8 := View.ld_unit_lit _ _ (by decide)
  pointwise [k0_pay35, e, k0_pay5]

theorem pay36_eq (p l : Fin 128) : k0_pay36 (F := Ideal) x0 x1 x2 x3 x4 x5 x6 x7 x8 x9 x10 (ix2 p l) = x9 (ix2 p l) := by
  have e : View.ld x9 r0_0 = x9 := View.ld_unit_lit _ _ (by decide)
  pointwise [k0_pay36, e, k0_pay6]

theorem pay37_eq (p l : Fin 128) : k0_pay37 (F := Ideal) x0 x1 x2 x3 x4 x5 x6 x7 x8 x9 x10 (ix2 p l) = x10 (ix2 p l) := by
  have e : View.ld x10 r0_0 = x10 := View.ld_unit_lit _ _ (by decide)
  pointwise [k0_pay37, e, k0_pay7]

/-- The query lanes before the rotation, at one element. -/
theorem pay38_eq (p : Fin 128) (n : Fin 1024) : k0_pay38 (F := Ideal) x0 x1 x2 x3 x4 x5 x6 x7 x8 x9 x10 (ix2 p n)
    = ∑ k : Fin 384, norm 0x43C00000#32 (fun j => x0 (ix2 p j)) (fun j => x3 (ix2 0 j)) k * x5 (ix2 k n) := by
  have e0 : View.ld x0 r0_1 = x0 := View.ld_unit_lit _ _ (by decide)
  have e3 : View.ld x3 r0_2 = x3 := View.ld_unit_lit _ _ (by decide)
  have e5 : View.ld x5 r0_3 = x5 := View.ld_unit_lit _ _ (by decide)
  pointwise [k0_pay38, e0, e3, e5, k0_pay8, norm]

/-- The latent, at one element. -/
theorem lat_eq (p : Fin 128) (k : Fin 256) : k0_pay11 (F := Ideal) (View.ld x1 r0_4) (k0_pay39 x0 x1 x2 x3 x4 x5 x6 x7 x8 x9 x10) (k0_pay40 x0 x1 x2 x3 x4 x5 x6 x7 x8 x9 x10) (ix2 p k)
    = norm 0x43800000#32 (fun j => x1 (ix2 p j)) (fun j => x4 (ix2 0 j)) k := by
  have e1 : View.ld x1 r0_4 = x1 := View.ld_unit_lit _ _ (by decide)
  have e4 : View.ld x4 r0_5 = x4 := View.ld_unit_lit _ _ (by decide)
  pointwise [k0_pay11, k0_pay39, k0_pay40, e1, e4, k0_pay9, k0_pay10, norm]

/-- A product of the latent, at one element. -/
theorem mmL (h : FVec Ideal S128x256 .bf16) (w : FVec Ideal S256x1024 .bf16) (p : Fin 128) (n : Fin 1024) :
    matmul dot_S128x256_S256x1024_S128x1024_1_0_0_1_n_n none h (shapeCast S256x1024 w shapeCasts_S256x1024_S256x1024)
      (constant S128x1024 .f32 0x00000000#32) (ix2 p n) = ∑ k : Fin 256, h (ix2 p k) * w (ix2 k n) := by
  pointwise []

theorem pay41_eq (p : Fin 128) (n : Fin 1024) : k0_pay41 (F := Ideal) x0 x1 x2 x3 x4 x5 x6 x7 x8 x9 x10 (ix2 p n)
    = ∑ k : Fin 256, norm 0x43800000#32 (fun j => x1 (ix2 p j)) (fun j => x4 (ix2 0 j)) k * x6 (ix2 k n) := by
  have e6 : View.ld x6 r0_6 = x6 := View.ld_unit_lit _ _ (by decide)
  refine (mmL _ _ p n).trans ?_
  rw [e6]
  exact Finset.sum_congr rfl fun k _ => congrArg (fun a : EReal => a * x6 (ix2 k n)) (lat_eq x0 x1 x2 x3 x4 x5 x6 x7 x8 x9 x10 p k)

theorem val_eq (p : Fin 128) (n : Fin 1024) : k0_pay14 (F := Ideal) (View.ld x1 r0_4) (k0_pay39 x0 x1 x2 x3 x4 x5 x6 x7 x8 x9 x10) (k0_pay40 x0 x1 x2 x3 x4 x5 x6 x7 x8 x9 x10) (View.ld x7 r0_6) (ix2 p n)
    = ∑ k : Fin 256, norm 0x43800000#32 (fun j => x1 (ix2 p j)) (fun j => x4 (ix2 0 j)) k * x7 (ix2 k n) := by
  have e7 : View.ld x7 r0_6 = x7 := View.ld_unit_lit _ _ (by decide)
  refine (mmL _ _ p n).trans ?_
  rw [e7]
  exact Finset.sum_congr rfl fun k _ => congrArg (fun a : EReal => a * x7 (ix2 k n)) (lat_eq x0 x1 x2 x3 x4 x5 x6 x7 x8 x9 x10 p k)

theorem sge_eq : ∀ q : Fin 128, IntOp.cmpi CmpIPredicate.sge (BitVec.ofNat 32 q.val) 64#32 = if q.val < 64 then 0#1 else 1#1 := by
  decide +kernel

/-- The shared key's lanes, at one element: zero before the rotated lanes, the rotation from there. -/
theorem mask_eq (p q : Fin 128) : k0_pay42 (F := Ideal) x0 x1 x2 x3 x4 x5 x6 x7 x8 x9 x10 (ix2 p q)
    = if q.val < 64 then 0 else ropeBlk x2 (k0_pay35 x0 x1 x2 x3 x4 x5 x6 x7 x8 x9 x10) (k0_pay36 x0 x1 x2 x3 x4 x5 x6 x7 x8 x9 x10) (k0_pay37 x0 x1 x2 x3 x4 x5 x6 x7 x8 x9 x10) (ix2 p q) := by
  have e : View.ld x2 r0_0 = x2 := View.ld_unit_lit _ _ (by decide)
  pointwise [k0_pay42, k0_pay15, k0_pay34, e]
  rw [sge_eq]
  by_cases h : q.val < 64
  · rw [if_pos h, if_pos h]
    rfl
  · rw [if_neg h, if_neg h]
    pointwise [ropeBlk]

/-- The blocks' factors are those of the rows' positions `z`. -/
theorem rope_eq (x : FVec Ideal S128x128 .f32) (f : ℕ → EReal) (z : BitVec 32) (p q : Fin 128) (hx : ∀ l : Fin 128, x (ix2 p l) = f l.val)
    (ha : ∀ l : Fin 128, x8 (ix2 p l) = facC z l.val) (hb : ∀ l : Fin 128, x9 (ix2 p l) = facR z l.val) (hd : ∀ l : Fin 128, x10 (ix2 p l) = facL z l.val) :
    ropeBlk x (k0_pay35 x0 x1 x2 x3 x4 x5 x6 x7 x8 x9 x10) (k0_pay36 x0 x1 x2 x3 x4 x5 x6 x7 x8 x9 x10) (k0_pay37 x0 x1 x2 x3 x4 x5 x6 x7 x8 x9 x10) (ix2 p q) = rope f z q.val :=
  ropeBlk_apply x _ _ _ f z p q hx (fun l => (pay35_eq x0 x1 x2 x3 x4 x5 x6 x7 x8 x9 x10 p l).trans (ha l)) (fun l => (pay36_eq x0 x1 x2 x3 x4 x5 x6 x7 x8 x9 x10 p l).trans (hb l))
    (fun l => (pay37_eq x0 x1 x2 x3 x4 x5 x6 x7 x8 x9 x10 p l).trans (hd l))

/-- The block of the last result, at one element. -/
theorem out15 (f : ℕ → EReal) (z : BitVec 32) (p q : Fin 128) (hx : ∀ l : Fin 128, x2 (ix2 p l) = f l.val)
    (ha : ∀ l : Fin 128, x8 (ix2 p l) = facC z l.val) (hb : ∀ l : Fin 128, x9 (ix2 p l) = facR z l.val) (hd : ∀ l : Fin 128, x10 (ix2 p l) = facL z l.val) :
    k0_pay42 (F := Ideal) x0 x1 x2 x3 x4 x5 x6 x7 x8 x9 x10 (ix2 p q) = kropeE f z q.val := by
  rw [mask_eq]
  unfold kropeE
  by_cases h : q.val < 64
  · rw [if_pos h, if_pos h]
  · rw [if_neg h, if_neg h, rope_eq x0 x1 x2 x3 x4 x5 x6 x7 x8 x9 x10 x2 f z p q hx ha hb hd]

/-- A stored head of the queries is its part of the block. -/
theorem head_q (f : Fin 128 → Fin 8 → ℕ → EReal) (z : Fin 128 → BitVec 32)
    (ha : ∀ p l : Fin 128, x8 (ix2 p l) = facC (z p) l.val) (hb : ∀ p l : Fin 128, x9 (ix2 p l) = facR (z p) l.val)
    (hd : ∀ p l : Fin 128, x10 (ix2 p l) = facL (z p) l.val)
    (hf : ∀ (p : Fin 128) (h : Fin 8) (l : Fin 128), k0_pay38 (F := Ideal) x0 x1 x2 x3 x4 x5 x6 x7 x8 x9 x10 (ix2 p ⟨h.val * 128 + l.val, by omega⟩) = f p h l.val)
    (h : Fin 8) (o : ℕ) (ho : o = h.val * 128) (hs : S128x1024.Slices ![0, o] S128x128)
    (b : ∀ a, (![0, o] : Fin 2 → ℕ) a + S128x128.size a ≤ S128x1024.size a) (x : S128x128.Idx) :
    ropeBlk (extractStridedSlice S128x128 ![0, o] (k0_pay38 (F := Ideal) x0 x1 x2 x3 x4 x5 x6 x7 x8 x9 x10) hs) (k0_pay35 x0 x1 x2 x3 x4 x5 x6 x7 x8 x9 x10) (k0_pay36 x0 x1 x2 x3 x4 x5 x6 x7 x8 x9 x10) (k0_pay37 x0 x1 x2 x3 x4 x5 x6 x7 x8 x9 x10) x
      = (fun y : S128x1024.Idx => rope (f (y 0) ⟨(y 1).val / 128, Nat.div_lt_of_lt_mul (y 1).isLt⟩) (z (y 0)) ((y 1).val % 128))
          ((Rect.unit (s := S128x1024) ![0, o] S128x128.size b).emb x) := by
  obtain ⟨p, q, rfl⟩ : ∃ p q, x = ix2 p q := ⟨x 0, x 1, eq_ix2 x⟩
  rw [rope_eq x0 x1 x2 x3 x4 x5 x6 x7 x8 x9 x10 _ (f p h) (z p) p q (fun l => (slice_cols _ o hs p l ⟨h.val * 128 + l.val, by omega⟩ (by dsimp only; omega)).trans (hf p h l)) (ha p) (hb p) (hd p)]
  have e : (Rect.unit (s := S128x1024) ![0, o] S128x128.size b).emb (ix2 p q) = ix2 p ⟨o + q.val, col_lt b q⟩ := emb_cols b p q
  rw [e]
  have e1 : (⟨(o + q.val) / 128, by omega⟩ : Fin 8) = h := Fin.ext (by dsimp only; omega)
  have e2 : (o + q.val) % 128 = q.val := by omega
  show rope (f p h) (z p) q.val = rope (f p ⟨(o + q.val) / 128, _⟩) (z p) ((o + q.val) % 128)
  rw [e1, e2]

/-- The block of the first result. -/
theorem out11 (f : Fin 128 → Fin 8 → ℕ → EReal) (z : Fin 128 → BitVec 32)
    (ha : ∀ p l : Fin 128, x8 (ix2 p l) = facC (z p) l.val) (hb : ∀ p l : Fin 128, x9 (ix2 p l) = facR (z p) l.val)
    (hd : ∀ p l : Fin 128, x10 (ix2 p l) = facL (z p) l.val)
    (hf : ∀ (p : Fin 128) (h : Fin 8) (l : Fin 128), k0_pay38 (F := Ideal) x0 x1 x2 x3 x4 x5 x6 x7 x8 x9 x10 (ix2 p ⟨h.val * 128 + l.val, by omega⟩) = f p h l.val)
    (y : S128x1024.Idx) : out0_11 (F := Ideal) x0 x1 x2 x3 x4 x5 x6 x7 x8 x9 x10 y
      = rope (f (y 0) ⟨(y 1).val / 128, Nat.div_lt_of_lt_mul (y 1).isLt⟩) (z (y 0)) ((y 1).val % 128) := by
  refine View.canon_apply_of_pieces (Val := Elt Ideal)
    (fun y : S128x1024.Idx => rope (f (y 0) ⟨(y 1).val / 128, Nat.div_lt_of_lt_mul (y 1).isLt⟩) (z (y 0)) ((y 1).val % 128)) _ ?_ y (cover0_11 _ _ _ _ _ _ _ _ y)
  intro pc hpc x
  simp only [List.mem_cons, List.not_mem_nil, or_false] at hpc
  rcases hpc with rfl | rfl | rfl | rfl | rfl | rfl | rfl | rfl
  · exact head_q x0 x1 x2 x3 x4 x5 x6 x7 x8 x9 x10 f z ha hb hd hf 7 896 rfl slices_S128x1024_o0_896_S128x128 inb_S128x1024_S128x128_0_896 x
  · exact head_q x0 x1 x2 x3 x4 x5 x6 x7 x8 x9 x10 f z ha hb hd hf 6 768 rfl slices_S128x1024_o0_768_S128x128 inb_S128x1024_S128x128_0_768 x
  · exact head_q x0 x1 x2 x3 x4 x5 x6 x7 x8 x9 x10 f z ha hb hd hf 5 640 rfl slices_S128x1024_o0_640_S128x128 inb_S128x1024_S128x128_0_640 x
  · exact head_q x0 x1 x2 x3 x4 x5 x6 x7 x8 x9 x10 f z ha hb hd hf 4 512 rfl slices_S128x1024_o0_512_S128x128 inb_S128x1024_S128x128_0_512 x
  · exact head_q x0 x1 x2 x3 x4 x5 x6 x7 x8 x9 x10 f z ha hb hd hf 3 384 rfl slices_S128x1024_o0_384_S128x128 inb_S128x1024_S128x128_0_384 x
  · exact head_q x0 x1 x2 x3 x4 x5 x6 x7 x8 x9 x10 f z ha hb hd hf 2 256 rfl slices_S128x1024_o0_256_S128x128 inb_S128x1024_S128x128_0_256 x
  · exact head_q x0 x1 x2 x3 x4 x5 x6 x7 x8 x9 x10 f z ha hb hd hf 1 128 rfl slices_S128x1024_o0_128_S128x128 inb_S128x1024_S128x128_0_128 x
  · exact head_q x0 x1 x2 x3 x4 x5 x6 x7 x8 x9 x10 f z ha hb hd hf 0 0 rfl slices_S128x1024_o0_0_S128x128 inb_S128x1024_S128x128_0_0 x

/-- A stored head of the keys is its part of the block. -/
theorem head_k (h : Fin 8) (o : ℕ) (ho : o = h.val * 128) (hs : S128x1024.Slices ![0, o] S128x128)
    (b : ∀ a, (![0, o] : Fin 2 → ℕ) a + S128x128.size a ≤ S128x1024.size a) (x : S128x128.Idx) :
    addf (F := Ideal) (extractStridedSlice S128x128 ![0, o] (k0_pay41 (F := Ideal) x0 x1 x2 x3 x4 x5 x6 x7 x8 x9 x10) hs) (k0_pay42 x0 x1 x2 x3 x4 x5 x6 x7 x8 x9 x10) x
      = (fun y : S128x1024.Idx => (k0_pay41 (F := Ideal) x0 x1 x2 x3 x4 x5 x6 x7 x8 x9 x10 y + k0_pay42 (F := Ideal) x0 x1 x2 x3 x4 x5 x6 x7 x8 x9 x10 (ix2 (y 0) ⟨(y 1).val % 128, Nat.mod_lt _ (by decide)⟩) : EReal))
          ((Rect.unit (s := S128x1024) ![0, o] S128x128.size b).emb x) := by
  obtain ⟨p, q, rfl⟩ : ∃ p q, x = ix2 p q := ⟨x 0, x 1, eq_ix2 x⟩
  have e : (Rect.unit (s := S128x1024) ![0, o] S128x128.size b).emb (ix2 p q) = ix2 p ⟨o + q.val, col_lt b q⟩ := emb_cols b p q
  rw [e]
  refine congrArg₂ (fun a b : EReal => a + b) (slice_cols _ o hs p q _ rfl) (congrArg (fun l => k0_pay42 (F := Ideal) x0 x1 x2 x3 x4 x5 x6 x7 x8 x9 x10 (ix2 p l)) (Fin.ext ?_))
  show q.val = (o + q.val) % 128
  omega

/-- The block of the third result. -/
theorem out13 (y : S128x1024.Idx) : out0_13 (F := Ideal) x0 x1 x2 x3 x4 x5 x6 x7 x8 x9 x10 y
    = (k0_pay41 (F := Ideal) x0 x1 x2 x3 x4 x5 x6 x7 x8 x9 x10 y + k0_pay42 (F := Ideal) x0 x1 x2 x3 x4 x5 x6 x7 x8 x9 x10 (ix2 (y 0) ⟨(y 1).val % 128, Nat.mod_lt _ (by decide)⟩) : EReal) := by
  refine View.canon_apply_of_pieces (Val := Elt Ideal)
    (fun y : S128x1024.Idx => (k0_pay41 (F := Ideal) x0 x1 x2 x3 x4 x5 x6 x7 x8 x9 x10 y + k0_pay42 (F := Ideal) x0 x1 x2 x3 x4 x5 x6 x7 x8 x9 x10 (ix2 (y 0) ⟨(y 1).val % 128, Nat.mod_lt _ (by decide)⟩) : EReal)) _ ?_ y (cover0_13 _ _ _ _ _ _ _ _ y)
  intro pc hpc x
  simp only [List.mem_cons, List.not_mem_nil, or_false] at hpc
  rcases hpc with rfl | rfl | rfl | rfl | rfl | rfl | rfl | rfl
  · exact head_k x0 x1 x2 x3 x4 x5 x6 x7 x8 x9 x10 7 896 rfl slices_S128x1024_o0_896_S128x128 inb_S128x1024_S128x128_0_896 x
  · exact head_k x0 x1 x2 x3 x4 x5 x6 x7 x8 x9 x10 6 768 rfl slices_S128x1024_o0_768_S128x128 inb_S128x1024_S128x128_0_768 x
  · exact head_k x0 x1 x2 x3 x4 x5 x6 x7 x8 x9 x10 5 640 rfl slices_S128x1024_o0_640_S128x128 inb_S128x1024_S128x128_0_640 x
  · exact head_k x0 x1 x2 x3 x4 x5 x6 x7 x8 x9 x10 4 512 rfl slices_S128x1024_o0_512_S128x128 inb_S128x1024_S128x128_0_512 x
  · exact head_k x0 x1 x2 x3 x4 x5 x6 x7 x8 x9 x10 3 384 rfl slices_S128x1024_o0_384_S128x128 inb_S128x1024_S128x128_0_384 x
  · exact head_k x0 x1 x2 x3 x4 x5 x6 x7 x8 x9 x10 2 256 rfl slices_S128x1024_o0_256_S128x128 inb_S128x1024_S128x128_0_256 x
  · exact head_k x0 x1 x2 x3 x4 x5 x6 x7 x8 x9 x10 1 128 rfl slices_S128x1024_o0_128_S128x128 inb_S128x1024_S128x128_0_128 x
  · exact head_k x0 x1 x2 x3 x4 x5 x6 x7 x8 x9 x10 0 0 rfl slices_S128x1024_o0_0_S128x128 inb_S128x1024_S128x128_0_0 x

/-- A block stored whole is what is stored. -/
theorem whole_piece {n : ℕ} {e : EltTy} (P : Vec Ideal (⟨2, ![128, n]⟩ : Shape) e) (b : ∀ a, (![0, 0] : Fin 2 → ℕ) a + (![128, n] : Fin 2 → ℕ) a ≤ (![128, n] : Fin 2 → ℕ) a)
    (x : (⟨2, ![128, n]⟩ : Shape).Idx) : P x = P ((Rect.unit (s := (⟨2, ![128, n]⟩ : Shape)) ![0, 0] ![128, n] b).emb x) := by
  obtain ⟨p, q, rfl⟩ : ∃ p q, x = ix2 p q := ⟨x 0, x 1, eq_ix2 x⟩
  rw [emb_cols b]
  exact congrArg (fun a => P (ix2 p a)) (Fin.ext (Nat.zero_add _).symm)

/-- The block of the second result. -/
theorem out12 (y : S128x256.Idx) : out0_12 (F := Ideal) x0 x1 x2 x3 x4 x5 x6 x7 x8 x9 x10 y = k0_pay11 (F := Ideal) (View.ld x1 r0_4) (k0_pay39 x0 x1 x2 x3 x4 x5 x6 x7 x8 x9 x10) (k0_pay40 x0 x1 x2 x3 x4 x5 x6 x7 x8 x9 x10) y := by
  refine View.canon_apply_of_pieces (Val := Elt Ideal) (k0_pay11 (F := Ideal) (View.ld x1 r0_4) (k0_pay39 x0 x1 x2 x3 x4 x5 x6 x7 x8 x9 x10) (k0_pay40 x0 x1 x2 x3 x4 x5 x6 x7 x8 x9 x10) : S128x256.Idx → EReal) _ ?_ y (cover0_12 _ y)
  intro pc hpc x
  simp only [List.mem_cons, List.not_mem_nil, or_false] at hpc
  obtain rfl := hpc
  exact whole_piece (n := 256) (e := .f32) _ inb_S128x256_S128x256_0_0 x

/-- The block of the fourth result. -/
theorem out14 (y : S128x1024.Idx) : out0_14 (F := Ideal) x0 x1 x2 x3 x4 x5 x6 x7 x8 x9 x10 y
    = k0_pay14 (F := Ideal) (View.ld x1 r0_4) (k0_pay39 x0 x1 x2 x3 x4 x5 x6 x7 x8 x9 x10) (k0_pay40 x0 x1 x2 x3 x4 x5 x6 x7 x8 x9 x10) (View.ld x7 r0_6) y := by
  refine View.canon_apply_of_pieces (Val := Elt Ideal)
    (k0_pay14 (F := Ideal) (View.ld x1 r0_4) (k0_pay39 x0 x1 x2 x3 x4 x5 x6 x7 x8 x9 x10) (k0_pay40 x0 x1 x2 x3 x4 x5 x6 x7 x8 x9 x10) (View.ld x7 r0_6) : S128x1024.Idx → EReal) _ ?_ y (cover0_14 _ y)
  intro pc hpc x
  simp only [List.mem_cons, List.not_mem_nil, or_false] at hpc
  obtain rfl := hpc
  exact whole_piece (n := 1024) (e := .bf16) _ inb_S128x1024_S128x1024_0_0 x

/-- The block of the fifth result is what is stored. -/
theorem out15_store (y : S128x128.Idx) : out0_15 (F := Ideal) x0 x1 x2 x3 x4 x5 x6 x7 x8 x9 x10 y = k0_pay42 (F := Ideal) x0 x1 x2 x3 x4 x5 x6 x7 x8 x9 x10 y := by
  refine View.canon_apply_of_pieces (Val := Elt Ideal) (k0_pay42 (F := Ideal) x0 x1 x2 x3 x4 x5 x6 x7 x8 x9 x10 : S128x128.Idx → EReal) _ ?_ y (cover0_15 _ y)
  intro pc hpc x
  simp only [List.mem_cons, List.not_mem_nil, or_false] at hpc
  obtain rfl := hpc
  exact whole_piece (n := 128) (e := .f32) (k0_pay42 (F := Ideal) x0 x1 x2 x3 x4 x5 x6 x7 x8 x9 x10) inb_S128x128_S128x128_0_0 x

end Out

variable (m : (ℓ : Loc nD τ sig) → Buf (Elt Ideal) ℓ) (c : Dev nD)

/-- The windows' block indices: the rows follow the grid point, the weights stay, and the tables' rows repeat for each prompt. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![if t.val < 128 then t.val % 16 else 16, 0] ∧ win0_9.index t = ![if t.val < 128 then t.val % 16 else 16, 0]
    ∧ win0_10.index t = ![if t.val < 128 then t.val % 16 else 16, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

theorem t_lt (t : Fin cfg0.N) : t.val < 129 := lt_of_lt_of_eq t.isLt (by decide +kernel)

/-- The rows of a grid point. -/
theorem row_lt (t : Fin cfg0.N) (p : Fin 128) : t.val * 128 + p.val < 16512 := by
  have ht := t_lt t
  omega

/-- A row of a grid point. -/
abbrev row (t : Fin cfg0.N) (p : Fin 128) : Fin 16512 := ⟨t.val * 128 + p.val, row_lt t p⟩

theorem trow_lt (t : Fin cfg0.N) (p : Fin 128) : (if t.val < 128 then t.val % 16 else 16) * 128 + p.val < 2176 := by
  have ht := t_lt t
  split <;> omega

/-- The table row a row of a grid point reads. -/
abbrev trow (t : Fin cfg0.N) (p : Fin 128) : Fin 2176 := ⟨(if t.val < 128 then t.val % 16 else 16) * 128 + p.val, trow_lt t p⟩

/-- The table row's position is the row's. -/
theorem tpos_eq (t : Fin cfg0.N) (p : Fin 128) : tpos (trow t p).val = place (row t p).val := by
  have ht := t_lt t
  dsimp only [trow, row]
  unfold tpos place
  by_cases h : t.val < 128
  · rw [if_pos h, if_pos (by omega), if_pos (by omega), show t.val % 16 * 128 + p.val = (t.val * 128 + p.val) % 2048 by omega]
  · rw [if_neg h, if_neg (by omega), if_neg (by omega)]

theorem fac_c (t : Fin cfg0.N) (p l : Fin 128) : iblk m c 8 t (ix2 p l) = facC (place (row t p).val) l.val := by
  have e : iblk m c 8 t (ix2 p l) = (V m c main_v59 : FVec Ideal S2176x128 .f32) (ix2 (trow t p) l) := by
    blk_ext [iblk, idx t]
  rw [e, V_c, tabC_apply, tpos_eq]

theorem fac_r (t : Fin cfg0.N) (p l : Fin 128) : iblk m c 9 t (ix2 p l) = facR (place (row t p).val) l.val := by
  have e : iblk m c 9 t (ix2 p l) = (V m c main_v60 : FVec Ideal S2176x128 .f32) (ix2 (trow t p) l) := by
    blk_ext [iblk, idx t]
  rw [e, V_r, tabR_apply, tpos_eq]

theorem fac_l (t : Fin cfg0.N) (p l : Fin 128) : iblk m c 10 t (ix2 p l) = facL (place (row t p).val) l.val := by
  have e : iblk m c 10 t (ix2 p l) = (V m c main_v61 : FVec Ideal S2176x128 .f32) (ix2 (trow t p) l) := by
    blk_ext [iblk, idx t]
  rw [e, V_l, tabL_apply, tpos_eq]

/-- The call's arguments. -/
abbrev a0 : FVec Ideal S16512x384 .f32 := m ((c : Thread nD τ).loc main_arg0)
abbrev a1 : FVec Ideal S16512x256 .f32 := m ((c : Thread nD τ).loc main_arg1)
abbrev a2 : FVec Ideal S16512x128 .f32 := m ((c : Thread nD τ).loc main_arg2)
abbrev a3 : FVec Ideal S384 .f32 := m ((c : Thread nD τ).loc main_arg3)
abbrev a4 : FVec Ideal S384x768 .f32 := m ((c : Thread nD τ).loc main_arg4)
abbrev a5 : FVec Ideal S256 .f32 := m ((c : Thread nD τ).loc main_arg5)
abbrev a6 : FVec Ideal S256x1024 .f32 := m ((c : Thread nD τ).loc main_arg6)

theorem x0_eq (t : Fin cfg0.N) (p : Fin 128) (j : Fin 384) : iblk m c 0 t (ix2 p j) = a0 m c (ix2 (row t p) j) := by
  have e : iblk m c 0 t (ix2 p j) = (V m c main_arg0 : FVec Ideal S16512x384 .f32) (ix2 (row t p) j) := by
    blk_ext [iblk, idx t]
  exact e.trans (congrFun (V_main_arg0 m c) _)

theorem gq_eq (j : Fin 384) : (V m c main_v76 : FVec Ideal S1x384 .f32) (ix2 0 j) = a3 m c (ix1 j) := by
  rw [V_gq]
  pointwise []

theorem x3_eq (t : Fin cfg0.N) (j : Fin 384) : iblk m c 3 t (ix2 0 j) = (V m c main_v76 : FVec Ideal S1x384 .f32) (ix2 0 j) := by
  blk_ext [iblk, idx t]

/-- The rows of the query input a grid point reads, normalized. -/
theorem normQ_eq (t : Fin cfg0.N) (p : Fin 128) : norm 0x43C00000#32 (fun j : Fin 384 => iblk m c 0 t (ix2 p j)) (fun j => iblk m c 3 t (ix2 0 j))
    = norm 0x43C00000#32 (fun j => a0 m c (ix2 (row t p) j)) (fun j => a3 m c (ix1 j)) :=
  congrArg₂ (norm 0x43C00000#32) (funext (x0_eq m c t p)) (funext fun j => (x3_eq m c t j).trans (gq_eq m c j))

theorem x1_eq (t : Fin cfg0.N) (p : Fin 128) (j : Fin 256) : iblk m c 1 t (ix2 p j) = a1 m c (ix2 (row t p) j) := by
  have e : iblk m c 1 t (ix2 p j) = (V m c main_arg1 : FVec Ideal S16512x256 .f32) (ix2 (row t p) j) := by
    blk_ext [iblk, idx t]
  exact e.trans (congrFun (V_main_arg1 m c) _)

theorem gk_eq (j : Fin 256) : (V m c main_v77 : FVec Ideal S1x256 .f32) (ix2 0 j) = a5 m c (ix1 j) := by
  rw [V_gk]
  pointwise []

theorem x4_eq (t : Fin cfg0.N) (j : Fin 256) : iblk m c 4 t (ix2 0 j) = (V m c main_v77 : FVec Ideal S1x256 .f32) (ix2 0 j) := by
  blk_ext [iblk, idx t]

/-- The rows of the latent input a grid point reads, normalized. -/
theorem normL_eq (t : Fin cfg0.N) (p : Fin 128) : norm 0x43800000#32 (fun j : Fin 256 => iblk m c 1 t (ix2 p j)) (fun j => iblk m c 4 t (ix2 0 j))
    = norm 0x43800000#32 (fun j => a1 m c (ix2 (row t p) j)) (fun j => a5 m c (ix1 j)) :=
  congrArg₂ (norm 0x43800000#32) (funext (x1_eq m c t p)) (funext fun j => (x4_eq m c t j).trans (gk_eq m c j))

theorem wq_eq (t : Fin cfg0.N) (k : Fin 384) (n : Fin 1024) : iblk m c 5 t (ix2 k n)
    = if h : n.val % 128 < 96 then a4 m c (ix2 k ⟨n.val / 128 * 96 + n.val % 128, by omega⟩) else 0 := by
  have e : iblk m c 5 t (ix2 k n) = (V m c main_v65 : FVec Ideal S384x1024 .bf16) (ix2 k n) := by
    blk_ext [iblk, idx t]
  rw [e, V_wq, wtsQ_apply]

theorem wk_eq (t : Fin cfg0.N) (k : Fin 256) (n : Fin 1024) : iblk m c 6 t (ix2 k n)
    = if h : n.val % 128 < 64 then a6 m c (ix2 k ⟨n.val + 0, by omega⟩) else 0 := by
  have e : iblk m c 6 t (ix2 k n) = (V m c main_v70 : FVec Ideal S256x1024 .bf16) (ix2 k n) := by
    blk_ext [iblk, idx t]
  rw [e, V_wk, wtsK_apply]

theorem wv_eq (t : Fin cfg0.N) (k : Fin 256) (n : Fin 1024) : iblk m c 7 t (ix2 k n)
    = if h : n.val % 128 < 64 then a6 m c (ix2 k ⟨n.val + 64, by omega⟩) else 0 := by
  have e : iblk m c 7 t (ix2 k n) = (V m c main_v75 : FVec Ideal S256x1024 .bf16) (ix2 k n) := by
    blk_ext [iblk, idx t]
  rw [e, V_wv, wtsV_apply]

/-- The lanes of the shared key a grid point reads. -/
theorem lanes_blk (t : Fin cfg0.N) (p l : Fin 128) : iblk m c 2 t (ix2 p l) = lanes (a2 m c) (row t p) l.val := by
  have e : iblk m c 2 t (ix2 p l) = (V m c main_arg2 : FVec Ideal S16512x128 .f32) (ix2 (row t p) l) := by
    blk_ext [iblk, idx t]
  rw [e, V_main_arg2]
  exact lanes_eq (a2 m c) (row t p) l.val l rfl

/-- The query lanes of a grid point before the rotation. -/
theorem qf_blk (t : Fin cfg0.N) (p : Fin 128) (h : Fin 8) (l : Fin 128) :
    k0_pay38 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p ⟨h.val * 128 + l.val, by omega⟩) = qf (a0 m c) (a3 m c) (a4 m c) (row t p) h l.val := by
  rw [pay38_eq, normQ_eq]
  simp only [wq_eq]
  unfold qf
  by_cases hl : l.val < 96
  · rw [dif_pos hl]
    refine Finset.sum_congr rfl fun k _ => ?_
    rw [dif_pos (by omega)]
    refine congrArg (fun a => norm 0x43C00000#32 (fun j => a0 m c (ix2 (row t p) j)) (fun j => a3 m c (ix1 j)) k * a4 m c (ix2 k a)) (Fin.ext ?_)
    show (h.val * 128 + l.val) / 128 * 96 + (h.val * 128 + l.val) % 128 = h.val * 96 + l.val
    omega
  · rw [dif_neg hl]
    refine Finset.sum_eq_zero fun k _ => ?_
    rw [dif_neg (by omega)]
    exact mul_zero _

/-- The key columns of a grid point: the reference's, zero past each head's first 64 lanes. -/
theorem kf_blk (t : Fin cfg0.N) (p : Fin 128) (n : Fin 1024) : k0_pay41 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p n)
    = if n.val % 128 < 64 then kvf (a1 m c) (a5 m c) (a6 m c) (row t p) n else 0 := by
  rw [pay41_eq, normL_eq]
  simp only [wk_eq]
  by_cases hn : n.val % 128 < 64
  · rw [if_pos hn]
    unfold kvf
    refine Finset.sum_congr rfl fun k _ => ?_
    rw [dif_pos hn]
    rfl
  · rw [if_neg hn]
    refine Finset.sum_eq_zero fun k _ => ?_
    rw [dif_neg hn]
    exact mul_zero _

/-- The value columns of a grid point: the reference's, zero past each head's first 64 lanes. -/
theorem vf_blk (t : Fin cfg0.N) (p : Fin 128) (n : Fin 1024) :
    k0_pay14 (F := Ideal) (View.ld (iblk m c 1 t) r0_4) (k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_6) (ix2 p n)
      = if h : n.val % 128 < 64 then kvf (a1 m c) (a5 m c) (a6 m c) (row t p) ⟨n.val + 64, by omega⟩ else 0 := by
  refine (val_eq (iblk m c 0 t) (iblk m c 1 t) (iblk m c 2 t) (iblk m c 3 t) (iblk m c 4 t) (iblk m c 5 t) (iblk m c 6 t) (iblk m c 7 t) (iblk m c 8 t) (iblk m c 9 t) (iblk m c 10 t) p n).trans ?_
  rw [normL_eq]
  simp only [wv_eq]
  by_cases hn : n.val % 128 < 64
  · rw [dif_pos hn]
    unfold kvf
    refine Finset.sum_congr rfl fun k _ => ?_
    rw [dif_pos hn]
  · rw [dif_neg hn]
    refine Finset.sum_eq_zero fun k _ => ?_
    rw [dif_neg hn]
    exact mul_zero _

/-- The shared key's rotated lanes of a grid point. -/
theorem kr_blk (t : Fin cfg0.N) (p q : Fin 128) :
    k0_pay42 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = kropeE (lanes (a2 m c) (row t p)) (place (row t p).val) q.val :=
  out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (lanes (a2 m c) (row t p)) (place (row t p).val) p q (lanes_blk m c t p) (fac_c m c t p) (fac_r m c t p) (fac_l m c t p)

/-- The first result array after the run is the reference's. -/
theorem final11 : (dats m 0 c).arrAt 11 (cfgs 0).N = Cert.Reference8Ideal.Read.val_main_v92 (F := Ideal) (a0 m c) (a3 m c) (a4 m c) := by
  refine (dats m 0 c).arrAt_eq_of_covers 11 _ (by decide +kernel) fun t _ y => ?_
  blk_simp
  rw [after0_11]
  idx_vars y
  have he : ((View.whole main_v78_0).slice (win0_11.rect t)).emb (ix2 y0 y1) = (ix2 (row t y0) y1 : S16512x1024.Idx) := by
    blk_ext [idx t]
  rw [he]
  rw [q_ref]
  exact out11 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun p h => qf (a0 m c) (a3 m c) (a4 m c) (row t p) h) (fun p => place (row t p).val) (fac_c m c t) (fac_r m c t) (fac_l m c t) (qf_blk m c t) (ix2 y0 y1)

/-- The second result array after the run is the reference's. -/
theorem final12 : (dats m 0 c).arrAt 12 (cfgs 0).N = Cert.Reference8Ideal.Read.val_main_v33 (F := Ideal) (a1 m c) (a5 m c) := by
  refine (dats m 0 c).arrAt_eq_of_covers 12 _ (by decide +kernel) fun t _ y => ?_
  blk_simp
  rw [after0_12]
  idx_vars y
  have he : ((View.whole main_v78_1).slice (win0_12.rect t)).emb (ix2 y0 y1) = (ix2 (row t y0) y1 : S16512x256.Idx) := by
    blk_ext [idx t]
  rw [he]
  rw [out12, lat_eq, normL_eq]
  exact (lat_ref _ _ _ _).symm

/-- The third result array after the run is the reference's. -/
theorem final13 : (dats m 0 c).arrAt 13 (cfgs 0).N = Cert.Reference8Ideal.Read.val_main_v98 (F := Ideal) (a1 m c) (a2 m c) (a5 m c) (a6 m c) := by
  refine (dats m 0 c).arrAt_eq_of_covers 13 _ (by decide +kernel) fun t _ y => ?_
  blk_simp
  rw [after0_13]
  idx_vars y
  have he : ((View.whole main_v78_2).slice (win0_13.rect t)).emb (ix2 y0 y1) = (ix2 (row t y0) y1 : S16512x1024.Idx) := by
    blk_ext [idx t]
  rw [he]
  rw [k_ref]
  refine (out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans ((congrArg₂ (fun a b : EReal => a + b) (kf_blk m c t y0 y1) (kr_blk m c t y0 ⟨y1.val % 128, Nat.mod_lt _ (by decide)⟩)).trans ?_)
  dsimp only
  unfold kropeE
  by_cases h : y1.val % 128 < 64
  · rw [if_pos h, if_pos h, if_pos h, add_zero]
  · rw [if_neg h, if_neg h, if_neg h, zero_add]

/-- The fourth result array after the run is the reference's. -/
theorem final14 : (dats m 0 c).arrAt 14 (cfgs 0).N = Cert.Reference8Ideal.Read.val_main_v103 (F := Ideal) (a1 m c) (a5 m c) (a6 m c) := by
  refine (dats m 0 c).arrAt_eq_of_covers 14 _ (by decide +kernel) fun t _ y => ?_
  blk_simp
  rw [after0_14]
  idx_vars y
  have he : ((View.whole main_v78_3).slice (win0_14.rect t)).emb (ix2 y0 y1) = (ix2 (row t y0) y1 : S16512x1024.Idx) := by
    blk_ext [idx t]
  rw [he]
  exact (out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans ((vf_blk m c t y0 y1).trans (v_ref _ _ _ _ _).symm)

/-- The fifth result array after the run is the reference's. -/
theorem final15 : (dats m 0 c).arrAt 15 (cfgs 0).N = Cert.Reference8Ideal.Read.val_main_v107 (F := Ideal) (a2 m c) := by
  refine (dats m 0 c).arrAt_eq_of_covers 15 _ (by decide +kernel) fun t _ y => ?_
  blk_simp
  rw [after0_15]
  idx_vars y
  have he : ((View.whole main_v78_4).slice (win0_15.rect t)).emb (ix2 y0 y1) = (ix2 (row t y0) y1 : S16512x128.Idx) := by
    blk_ext [idx t]
  rw [he]
  rw [out15_store, kr_blk]
  exact (kr_ref _ _ _).symm

end Cert.Kernel8Ideal.Prep

end
-- ==== Proof.PrepClaim.lean ====
module

public import proofs.«01_k».proof.Defs
public import proofs.«01_k».proof.Proof.Prep
public import proofs.«01_k».proof.Proof.Gen.Kernel8.Frame
public import proofs.«01_k».proof.Proof.Gen.Reference8Ideal.Run

@[expose] public section

set_option maxRecDepth 16384

noncomputable section

open Idealize.ShloMosaic Idealize.ShloMosaic.TcCoe Idealize.SL.Sem

namespace Cert.Proof.PrepClaims

/-- The printed kernel's frame: the heads' preparation. -/
theorem frame_k : Cert.quiescent_Kernel8 := fun m ρ _ => Cert.Kernel8.Gen.frame m ρ

/-- The idealized kernel's frame: the heads' preparation. -/
theorem frame_ki : Cert.quiescent_Kernel8Ideal := fun m ρ _ => Cert.Kernel8Ideal.Gen.frame m ρ

/-- The reference's frame: its run, read at the arguments; it declares no semaphore. -/
theorem frame_ri : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

/-- The idealizing pass renamed nothing here. -/
theorem preserves : Cert.preserves_Kernel8_Kernel8Ideal := trivial

/-- The heads' preparation and its reference end with equal results over the extended reals. -/
theorem algebraic : Cert.algebraic_Kernel8Ideal_Reference8Ideal := by
  intro m ρ m' ρ' _ hag
  refine ⟨fun c => Cert.Reference8Ideal.Read.val_main_v92 (F := Ideal) (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4)),
    fun c => Cert.Reference8Ideal.Read.val_main_v33 (F := Ideal) (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg5)),
    fun c => Cert.Reference8Ideal.Read.val_main_v98 (F := Ideal) (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg5))
      (m ((c.tc : Thread Cert.Kernel8Ideal.nD Cert.Kernel8Ideal.τ).loc Cert.Kernel8Ideal.main_arg6)),
    fun c => Cert.Reference8Ideal.Read.val_main_v103 (F := Ideal) (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg5))
      (m ((c.tc : Thread Cert.Kernel8Ideal.nD Cert.Kernel8Ideal.τ).loc Cert.Kernel8Ideal.main_arg6)),
    fun c => Cert.Reference8Ideal.Read.val_main_v107 (F := Ideal) (m ((c.tc : Thread Cert.Kernel8Ideal.nD Cert.Kernel8Ideal.τ).loc Cert.Kernel8Ideal.main_arg2)), ?_, ?_⟩
  · exact (θ_run Cert.Kernel8Ideal.defs _ _).mono
      (fun _ h c => ⟨(h c).1.trans (Cert.Kernel8Ideal.Prep.final11 m c),
        (h c).2.1.trans (Cert.Kernel8Ideal.Prep.final12 m c),
        (h c).2.2.1.trans (Cert.Kernel8Ideal.Prep.final13 m c),
        (h c).2.2.2.1.trans (Cert.Kernel8Ideal.Prep.final14 m c),
        (h c).2.2.2.2.1.trans (Cert.Kernel8Ideal.Prep.final15 m c), (h c).2.2.2.2.2⟩)
      (Cert.Kernel8Ideal.Value.run_blocks (F := Ideal) m ρ)
  · refine (θ_run Cert.Reference8Ideal.defs _ _).mono (fun _ h c => ?_) (Cert.Reference8Ideal.Value.run (F := Ideal) m' ρ')
    obtain ⟨h0, h1, h2, h3, h4, h5, h6⟩ := hag c
    exact ⟨(h c).1.trans ((Cert.Reference8Ideal.Read.val_main_v92_eq m' c).trans (by rw [h0, h3, h4])),
      (h c).2.1.trans ((Cert.Reference8Ideal.Read.val_main_v33_eq _ _).trans (by rw [h1, h5])),
      (h c).2.2.1.trans ((Cert.Reference8Ideal.Read.val_main_v98_eq m' c).trans (by rw [h1, h2, h5, h6])),
      (h c).2.2.2.1.trans ((Cert.Reference8Ideal.Read.val_main_v103_eq _ _ _).trans (by rw [h1, h5, h6])),
      (h c).2.2.2.2.1.trans ((Cert.Reference8Ideal.Read.val_main_v107_eq m' c).trans (by rw [h2])), (h c).2.2.2.2.2⟩

end Cert.Proof.PrepClaims

end
-- ==== Proof.Softplus.lean ====
module

public import Idealize.ShloMosaic.Lib.IdealHost
public import Idealize.ShloMosaic.Lib.Pipeline.ValueKit

@[expose] public section

noncomputable section

open Idealize.ShloMosaic

namespace Cert.Work

/-- The softplus: `log (1 + e^x)`, from the positive part and the logarithm of one plus a small exponential. -/
def softplus (x : EReal) : EReal := max x 0 + Ideal.log1p (Ideal.exp (-(max x (-x))))

/-- The logarithm of one plus `u`, as a kernel without that operation computes it: for `u` finite and not negative, `u` itself when
    one plus `u` is one, and otherwise the logarithm times a quotient that is one. -/
theorem log1p_eq (u : EReal) (h0 : 0 ≤ u) (h1 : u ≠ ⊤) :
    (if 1 + u = 1 then u else Ideal.log (1 + u) * Ideal.div u (1 + u - 1)) = Ideal.log1p u := by
  obtain ⟨r, rfl⟩ : ∃ r : ℝ, u = r := by
    induction u with
    | bot => exact absurd h0 (by simp)
    | top => exact absurd rfl h1
    | coe r => exact ⟨r, rfl⟩
  have hr : (0 : ℝ) ≤ r := by exact_mod_cast h0
  have e1 : (1 : EReal) + (r : EReal) = ((1 + r : ℝ) : EReal) := by norm_cast
  have e2 : (1 : EReal) + (r : EReal) - 1 = (r : EReal) := by
    rw [e1, ← EReal.coe_one, ← EReal.coe_sub]
    congr 1
    ring
  rw [e2]
  unfold Ideal.log1p
  by_cases hz : r = 0
  · subst hz
    rw [if_pos (by simp)]
    rw [e1]
    show (0 : EReal) = if (1 + 0 : ℝ) ≤ 0 then ⊥ else ((Real.log (1 + 0) : ℝ) : EReal)
    rw [if_neg (by norm_num), add_zero, Real.log_one]
    rfl
  · rw [if_neg]
    · have hn : (r : EReal) ≠ 0 := by exact_mod_cast hz
      have hd : Ideal.div (r : EReal) (r : EReal) = 1 := by
        unfold Ideal.div
        rw [if_neg hn, ← EReal.coe_inv, ← EReal.coe_mul, mul_inv_cancel₀ hz]
        rfl
      rw [hd, mul_one]
    · have hne : (1 : EReal) + (r : EReal) ≠ 1 := by
        rw [e1, ← EReal.coe_one]
        intro h
        have : (1 + r : ℝ) = 1 := by exact_mod_cast h
        exact hz (by linarith)
      exact hne

/-- The exponential of the negated absolute value is not negative, and finite. -/
theorem exp_abs (x : EReal) : 0 ≤ Ideal.exp (-(max x (-x))) ∧ Ideal.exp (-(max x (-x))) ≠ ⊤ := by
  induction x with
  | bot =>
    have e : -(max (⊥ : EReal) (-⊥)) = ⊥ := by simp
    rw [e]
    exact ⟨le_refl (0 : EReal), EReal.zero_ne_top⟩
  | top =>
    have e : -(max (⊤ : EReal) (-⊤)) = ⊥ := by simp
    rw [e]
    exact ⟨le_refl (0 : EReal), EReal.zero_ne_top⟩
  | coe r =>
    have e : -(max (r : EReal) (-(r : EReal))) = ((-(max r (-r)) : ℝ) : EReal) := by
      rw [← EReal.coe_neg, EReal.coe_neg (max r (-r))]
      congr 1
    rw [e]
    constructor
    · show (0 : EReal) ≤ ((Real.exp _ : ℝ) : EReal)
      exact_mod_cast (Real.exp_pos _).le
    · exact EReal.coe_ne_top _

/-- The softplus as the kernels compute it. -/
theorem softplus_eq (x : EReal) :
    max x 0 + (if 1 + Ideal.exp (-(max x (-x))) = 1 then Ideal.exp (-(max x (-x)))
      else Ideal.log (1 + Ideal.exp (-(max x (-x)))) * Ideal.div (Ideal.exp (-(max x (-x)))) (1 + Ideal.exp (-(max x (-x))) - 1)) = softplus x :=
  congrArg (fun a => max x 0 + a) (log1p_eq _ (exp_abs x).1 (exp_abs x).2)

end Cert.Work

end
-- ==== Proof.GlaStepRef.lean ====
module

public import proofs.«01_k».proof.Proof.Gen.Reference9Ideal.Read
public import proofs.«01_k».proof.Proof.Softplus

@[expose] public section

set_option maxRecDepth 16384

noncomputable section

open Idealize.ShloMosaic Idealize.ShloMosaic.TcCoe Idealize.SL.Sem

namespace Cert.Reference9Ideal.GlaStep

open Cert.Reference9Ideal Cert.Reference9Ideal.Read Cert.Work

/-- The column of a head's key lane. -/
abbrev kcol (h : Fin 4) (l : Fin 128) : Fin 512 := ⟨h.val * 128 + l.val, by omega⟩

/-- The column of a head's value lane. -/
abbrev vcol (h : Fin 4) (j : Fin 256) : Fin 1024 := ⟨h.val * 256 + j.val, by omega⟩

section Row

variable (lg q k : Fin 512 → EReal) (v r : Fin 1024 → EReal) (s : Fin 4 → Fin 128 → Fin 256 → EReal) (g : Fin 256 → EReal)

/-- The logarithm of a row's decay, from its logits. -/
def gate (n : Fin 512) : EReal := Ideal.div (-(softplus (-(lg n)))) (Ideal.ofBits .f32 0x41800000#32)

/-- A row's decay. -/
def dec (n : Fin 512) : EReal := Ideal.exp (gate lg n)

/-- The scaled query with the decay. -/
def qd (n : Fin 512) : EReal := q n * Ideal.ofBits .f32 0x3DB504F3#32 * dec lg n

/-- The key without the decay. -/
def kd (n : Fin 512) : EReal := k n * Ideal.exp (-(gate lg n))

/-- A head's output: the row's own value by the score of its key, and what the state holds for the query. -/
def head (h : Fin 4) (j : Fin 256) : EReal :=
  (∑ l : Fin 128, qd lg q (kcol h l) * kd lg k (kcol h l)) * v (vcol h j) + ∑ l : Fin 128, qd lg q (kcol h l) * s h l j

/-- A head's output divided by its root mean square. -/
def normed (o : Fin 256 → EReal) (j : Fin 256) : EReal :=
  o j * Ideal.rsqrt (Ideal.div (∑ j, o j * o j) (Ideal.ofBits .f32 0x43800000#32) + Ideal.ofBits .f32 0x358637BD#32)

/-- The row's result: the normed head with its gain, gated. -/
def res (n : Fin 1024) : EReal :=
  normed (head lg q k v s ⟨n.val / 256, by omega⟩) ⟨n.val % 256, Nat.mod_lt _ (by decide)⟩ * g ⟨n.val % 256, Nat.mod_lt _ (by decide)⟩
    * (r n * Ideal.logistic (r n))

/-- The row's new state: the old one with the decay, and the product of key and value. -/
def next (h : Fin 4) (l : Fin 128) (j : Fin 256) : EReal := dec lg (kcol h l) * s h l j + k (kcol h l) * v (vcol h j)

end Row

section Ref

variable (x0 x1 : FVec Ideal S128x512 .f32) (x2 x3 : FVec Ideal S128x1024 .f32) (x4 : FVec Ideal S128x128 .f32)
  (x5 : FVec Ideal S128x4x128x256 .f32) (x6 : FVec Ideal S16x512 .f32) (x7 : FVec Ideal S512 .f32) (x8 : FVec Ideal S256 .f32)

/-- The logits of a row's decay. -/
def logits (i : Fin 128) (n : Fin 512) : EReal := (∑ k : Fin 16, x4 (ix2 i ⟨k.val, by omega⟩) * x6 (ix2 k n)) + x7 (ix1 n)

theorem logits_ref (i : Fin 128) (n : Fin 512) : val_main_v4 (F := Ideal) x4 x6 x7 (ix2 i n) = logits x4 x6 x7 i n := by
  pointwise [val_main_v4, val_main_v3, val_main_v2, val_main_v1, val_main_v0, logits]

theorem sp_ref (i : Fin 128) (n : Fin 512) : val_main_call0_v1 (F := Ideal) x4 x6 x7 (ix2 i n) = softplus (-(logits x4 x6 x7 i n)) := by
  pointwise [val_main_call0_v1, val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2, val_main_call0_call0_v1,
    val_main_call0_call0_v0, val_main_call0_call0_cst, val_main_call0_v0]
  rw [logits_ref]
  unfold softplus
  simp [Ideal.cmp, Ideal.absf_def]

theorem gate_ref (i : Fin 128) (h : Fin 4) (l : Fin 128) : val_main_v8 (F := Ideal) x4 x6 x7 (ix3 i h l) = gate (logits x4 x6 x7 i) (kcol h l) := by
  have e : val_main_v8 (F := Ideal) x4 x6 x7 (ix3 i h l) = val_main_v7 (F := Ideal) x4 x6 x7 (ix2 i (kcol h l)) := by
    pointwise [val_main_v8]
  rw [e]
  pointwise [val_main_v7, val_main_v6, val_main_cst, val_main_v5]
  rw [sp_ref]
  rfl

theorem qd_ref (i : Fin 128) (h : Fin 4) (l : Fin 128) :
    val_main_v15 (F := Ideal) x0 x4 x6 x7 (ix3 i h l) = qd (logits x4 x6 x7 i) (fun n => x0 (ix2 i n)) (kcol h l) := by
  pointwise [val_main_v15, val_main_v14, val_main_v11, val_main_v10, val_main_v9, val_main_cst_0]
  rw [gate_ref]
  rfl

theorem kd_ref (i : Fin 128) (h : Fin 4) (l : Fin 128) :
    val_main_v18 (F := Ideal) x1 x4 x6 x7 (ix3 i h l) = kd (logits x4 x6 x7 i) (fun n => x1 (ix2 i n)) (kcol h l) := by
  pointwise [val_main_v18, val_main_v17, val_main_v16, val_main_v12]
  rw [gate_ref]
  rfl

theorem head_ref (i : Fin 128) (h : Fin 4) (j : Fin 256) : val_main_v24 (F := Ideal) x0 x1 x2 x4 x5 x6 x7 (ix3 i h j)
    = head (logits x4 x6 x7 i) (fun n => x0 (ix2 i n)) (fun n => x1 (ix2 i n)) (fun n => x2 (ix2 i n)) (fun h l j => x5 (ix4 i h l j)) h j := by
  pointwise [val_main_v24, val_main_v23, val_main_v22, val_main_v21, val_main_v20, val_main_v19, val_main_v13]
  simp only [qd_ref, kd_ref]
  rfl

/-- The reference's first result. -/
theorem y_ref (i : Fin 128) (z : Fin 1) (n : Fin 1024) : val_main_v41 (F := Ideal) x0 x1 x2 x3 x4 x5 x6 x7 x8 (ix3 i z n)
    = res (logits x4 x6 x7 i) (fun n => x0 (ix2 i n)) (fun n => x1 (ix2 i n)) (fun n => x2 (ix2 i n)) (fun n => x3 (ix2 i n))
      (fun h l j => x5 (ix4 i h l j)) (fun j => x8 (ix1 j)) n := by
  pointwise [val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_cst_1, val_main_cst_2, val_main_cst_3,
    val_main_call1_v5, val_main_call1_v4, val_main_call1_v3, val_main_call1_v2, val_main_call1_v1, val_main_call1_v0, val_main_call1_cst, val_main_call1_cst_0]
  simp only [head_ref]
  unfold res normed Ideal.logistic
  rfl

/-- The reference's second result. -/
theorem s_ref (i : Fin 128) (h : Fin 4) (l : Fin 128) (j : Fin 256) : val_main_v50 (F := Ideal) x1 x2 x4 x5 x6 x7 (ix4 i h l j)
    = next (logits x4 x6 x7 i) (fun n => x1 (ix2 i n)) (fun n => x2 (ix2 i n)) (fun h l j => x5 (ix4 i h l j)) h l j := by
  pointwise [val_main_v50, val_main_v49, val_main_v48, val_main_v47, val_main_v46, val_main_v45, val_main_v44, val_main_v43, val_main_v42, val_main_v14,
    val_main_v13, val_main_v12]
  rw [gate_ref]
  rfl

end Ref

end Cert.Reference9Ideal.GlaStep

end
-- ==== Proof.GlaStep.lean ====
module

public import proofs.«01_k».proof.Proof.Gen.Kernel9Ideal.Value
public import proofs.«01_k».proof.Proof.Cols
public import proofs.«01_k».proof.Proof.GlaStepRef

@[expose] public section

set_option maxRecDepth 16384

noncomputable section

open Idealize.ShloMosaic Idealize.ShloMosaic.TcCoe Idealize.SL.Sem
open Idealize.ShloMosaic.Pipeline (Dat)

namespace Cert.Kernel9Ideal.GlaStep

open Cert.Kernel9Ideal Cert.Kernel9Ideal.Gen Cert.Work Cert.Reference9Ideal.GlaStep

/-- A load of columns `o …` of a block of one row, at one element. -/
theorem ld_row {N W o : ℕ} {e : EltTy} (X : Vec Ideal (⟨3, ![1, 1, N]⟩ : Shape) e)
    (b : ∀ a, (![0, 0, o] : Fin 3 → ℕ) a + (![1, 1, W] : Fin 3 → ℕ) a ≤ (![1, 1, N] : Fin 3 → ℕ) a) (q : Fin W) (n : Fin N) (hn : n.val = o + q.val) :
    View.ld X (Rect.unit (s := (⟨3, ![1, 1, N]⟩ : Shape)) ![0, 0, o] ![1, 1, W] b) (ix3 0 0 q) = X (ix3 0 0 n) := by
  refine congrArg X (funext fun a => Fin.ext ?_)
  match a with
  | ⟨0, _⟩ => rfl
  | ⟨1, _⟩ => rfl
  | ⟨2, _⟩ => show o + 1 * q.val = n.val; omega

/-- Where one head of the state stands in the state's block. -/
theorem emb_head (h : Fin 4) (b : ∀ a, (![0, h.val, 0, 0] : Fin 4 → ℕ) a + S1x1x128x256.size a ≤ S1x4x128x256.size a)
    (p0 p1 : Fin 1) (l : Fin 128) (j : Fin 256) :
    (Rect.unit (s := S1x4x128x256) ![0, h.val, 0, 0] S1x1x128x256.size b).emb (ix4 p0 p1 l j) = ix4 0 h l j := by
  refine funext fun a => Fin.ext ?_
  match a with
  | ⟨0, _⟩ => show 0 + 1 * p0.val = 0; omega
  | ⟨1, _⟩ => show h.val + 1 * p1.val = h.val; omega
  | ⟨2, _⟩ => show 0 + 1 * l.val = l.val; omega
  | ⟨3, _⟩ => show 0 + 1 * j.val = j.val; omega

/-- A head's output as the kernel computes it. -/
def headO (qs ks : FVec Ideal S1x128 .f32) (v : Vec Ideal S1x1x256 .f32) (st : Vec Ideal S1x1x128x256 .f32) : FVec Ideal S1x256 .f32 :=
  addf
    (mulf (broadcastTo S1x256 (extf .f32 (truncf .bf16 (shapeCast S1x1 (multiReduction (F := Ideal) .add [1] S1
        (mulf (extf .f32 (truncf .bf16 qs bitsLt_bf16_f32) bitsLt_bf16_f32) (extf .f32 (truncf .bf16 ks bitsLt_bf16_f32) bitsLt_bf16_f32))
        0x00000000#32 reduces_S1x128_S1 (.inl rfl) rfl) shapeCasts_S1_S1x1) bitsLt_bf16_f32) bitsLt_bf16_f32) broadcasts_S1x1_S1x256)
      (extf .f32 (truncf .bf16 (shapeCast S1x256 v shapeCasts_S1x1x256_S1x256) bitsLt_bf16_f32) bitsLt_bf16_f32))
    (extractStridedSlice S1x256 ![0, 0] (matmul dot_S8x128_S128x256_S8x256_1_0_0_1_n_n none
      (truncf .bf16 (broadcastTo S8x128 (shapeCast S1x128 (extf .f32 (truncf .bf16 qs bitsLt_bf16_f32) bitsLt_bf16_f32) shapeCasts_S1x128_S1x128)
        broadcasts_S1x128_S8x128) bitsLt_bf16_f32)
      (truncf .bf16 (shapeCast S128x256 st shapeCasts_S1x1x128x256_S128x256) bitsLt_bf16_f32)
      (constant S8x256 .f32 0x00000000#32)) slices_S8x256_o0_0_S1x256)

theorem headO_apply (qs ks : FVec Ideal S1x128 .f32) (v : Vec Ideal S1x1x256 .f32) (st : Vec Ideal S1x1x128x256 .f32) (j : Fin 256) :
    headO qs ks v st (ix2 0 j)
      = (∑ l : Fin 128, qs (ix2 0 l) * ks (ix2 0 l)) * v (ix3 0 0 j) + ∑ l : Fin 128, qs (ix2 0 l) * st (ix4 0 0 l j) := by
  pointwise [headO]

/-- A head's new state as the kernel computes it. -/
def headS (a : FVec Ideal S1x128 .f32) (k : Vec Ideal S1x1x128 .f32) (v : Vec Ideal S1x1x256 .f32) (st : Vec Ideal S1x1x128x256 .f32) :
    FVec Ideal S1x1x128x256 .f32 :=
  shapeCast S1x1x128x256 (addf
    (mulf (broadcastTo S128x256 (extractStridedSlice S128x1 ![0, 0] (transpose S128x128 [1, 0] (broadcastTo S128x128
        (shapeCast S1x128 a shapeCasts_S1x128_S1x128) broadcasts_S1x128_S128x128) transposes_S128x128_p1_0_S128x128) slices_S128x128_o0_0_S128x1)
        broadcasts_S128x1_S128x256) (shapeCast S128x256 st shapeCasts_S1x1x128x256_S128x256))
    (mulf (broadcastTo S128x256 (extractStridedSlice S128x1 ![0, 0] (transpose S128x128 [1, 0] (broadcastTo S128x128
        (shapeCast S1x128 (shapeCast S1x128 k shapeCasts_S1x1x128_S1x128) shapeCasts_S1x128_S1x128) broadcasts_S1x128_S128x128)
        transposes_S128x128_p1_0_S128x128) slices_S128x128_o0_0_S128x1) broadcasts_S128x1_S128x256)
      (broadcastTo S128x256 (shapeCast S1x256 v shapeCasts_S1x1x256_S1x256) broadcasts_S1x256_S128x256))) shapeCasts_S128x256_S1x1x128x256

theorem headS_apply (a : FVec Ideal S1x128 .f32) (k : Vec Ideal S1x1x128 .f32) (v : Vec Ideal S1x1x256 .f32) (st : Vec Ideal S1x1x128x256 .f32)
    (p0 p1 : Fin 1) (l : Fin 128) (j : Fin 256) :
    headS a k v st (ix4 p0 p1 l j) = a (ix2 0 l) * st (ix4 0 0 l j) + k (ix3 0 0 l) * v (ix3 0 0 j) := by
  pointwise [headS]

/-- A head's output divided by its root mean square, as the kernel computes it. -/
def headN (o : FVec Ideal S1x256 .f32) : FVec Ideal S1x256 .f32 :=
  mulf o (broadcastTo S1x256 (rsqrt (addf (divf (shapeCast S1x1 (multiReduction (F := Ideal) .add [1] S1 (mulf o o) 0x00000000#32 reduces_S1x256_S1 (.inl rfl) rfl)
    shapeCasts_S1_S1x1) (broadcast S1x1 (Scalar.ofBits .f32 0x43800000#32))) (broadcast S1x1 (Scalar.ofBits .f32 0x358637BD#32)))) broadcasts_S1x1_S1x256)

theorem headN_apply (o : FVec Ideal S1x256 .f32) (j : Fin 256) : headN o (ix2 0 j) = normed (fun j => o (ix2 0 j)) j := by
  pointwise [headN, normed]

section Out

variable (x0 : Vec Ideal S1x1x512 .f32) (x1 : Vec Ideal S1x1x512 .f32) (x2 : Vec Ideal S1x1x1024 .f32) (x3 : Vec Ideal S1x1x1024 .f32)
  (x4 : Vec Ideal S1x1x128 .f32) (x5 : Vec Ideal S1x4x128x256 .f32) (x6 : Vec Ideal S128x512 .bf16) (x7 : Vec Ideal S1x512 .f32)
  (x8 : Vec Ideal S1x1024 .f32)

/-- The block's logits. -/
def lgK (n : Fin 512) : EReal := (∑ k : Fin 128, x4 (ix3 0 0 k) * x6 (ix2 k n)) + x7 (ix2 0 n)

theorem pay2_eq (n : Fin 512) : k0_pay2 (F := Ideal) x4 x6 x7 (ix2 0 n) = gate (lgK x4 x6 x7) n := by
  unfold gate
  rw [← softplus_eq]
  pointwise [k0_pay2, lgK]
  simp only [Ideal.absf_def, zero_sub]

/-- A block's row of columns, by its column. -/
abbrev row {N : ℕ} (x : (⟨3, ![1, 1, N]⟩ : Shape).Idx → EReal) (n : Fin N) : EReal := x (ix3 0 0 n)

/-- The logarithm of the block's decay. -/
abbrev la : FVec Ideal S1x512 .f32 := k0_pay2 (F := Ideal) (View.ld x4 r0_0) (View.ld x6 r0_1) (View.ld x7 r0_2)

theorem la_eq (n : Fin 512) : la x4 x6 x7 (ix2 0 n) = gate (lgK x4 x6 x7) n := by
  have e4 : View.ld x4 r0_0 = x4 := View.ld_unit_lit _ _ (by decide)
  have e6 : View.ld x6 r0_1 = x6 := View.ld_unit_lit _ _ (by decide)
  have e7 : View.ld x7 r0_2 = x7 := View.ld_unit_lit _ _ (by decide)
  unfold la
  rw [e4, e6, e7]
  exact pay2_eq x4 x6 x7 n

theorem pay42_eq (n : Fin 512) : k0_pay42 (F := Ideal) x0 x1 x2 x3 x4 x5 x6 x7 x8 (ix2 0 n) = dec (lgK x4 x6 x7) n :=
  congrArg Ideal.exp (la_eq x4 x6 x7 n)

theorem pay44_eq (n : Fin 512) : k0_pay44 (F := Ideal) x0 x1 x2 x3 x4 x5 x6 x7 x8 (ix2 0 n) = qd (lgK x4 x6 x7) (row x0) n := by
  have e0 : View.ld x0 r0_3 = x0 := View.ld_unit_lit _ _ (by decide)
  have h : k0_pay44 (F := Ideal) x0 x1 x2 x3 x4 x5 x6 x7 x8 (ix2 0 n)
      = x0 (ix3 0 0 n) * Ideal.ofBits .f32 0x3DB504F3#32 * k0_pay42 (F := Ideal) x0 x1 x2 x3 x4 x5 x6 x7 x8 (ix2 0 n) := by
    pointwise [k0_pay44, k0_pay43, k0_pay5, k0_pay4, e0]
  exact h.trans (congrArg (fun a : EReal => x0 (ix3 0 0 n) * Ideal.ofBits .f32 0x3DB504F3#32 * a) (pay42_eq x0 x1 x2 x3 x4 x5 x6 x7 x8 n))

theorem pay45_eq (n : Fin 512) : k0_pay45 (F := Ideal) x0 x1 x2 x3 x4 x5 x6 x7 x8 (ix2 0 n) = kd (lgK x4 x6 x7) (row x1) n := by
  have e1 : View.ld x1 r0_3 = x1 := View.ld_unit_lit _ _ (by decide)
  have h : k0_pay45 (F := Ideal) x0 x1 x2 x3 x4 x5 x6 x7 x8 (ix2 0 n)
      = x1 (ix3 0 0 n) * Ideal.exp (-(k0_pay41 (F := Ideal) x0 x1 x2 x3 x4 x5 x6 x7 x8 (ix2 0 n))) := by
    pointwise [k0_pay45, k0_pay6, e1, zero_sub]
  exact h.trans (congrArg (fun a : EReal => x1 (ix3 0 0 n) * Ideal.exp (-a)) (la_eq x4 x6 x7 n))

/-- A head's output, at one element, from slices and loads that begin at the head's first columns. -/
theorem head_o (h : Fin 4) (o o' : ℕ) (ho : o = h.val * 128) (ho' : o' = h.val * 256) (hs : S1x512.Slices ![0, o] S1x128)
    (bv : ∀ a, (![0, 0, o'] : Fin 3 → ℕ) a + S1x1x256.size a ≤ S1x1x1024.size a)
    (bs : ∀ a, (![0, h.val, 0, 0] : Fin 4 → ℕ) a + S1x1x128x256.size a ≤ S1x4x128x256.size a) (j : Fin 256) :
    headO (extractStridedSlice S1x128 ![0, o] (k0_pay44 (F := Ideal) x0 x1 x2 x3 x4 x5 x6 x7 x8) hs)
        (extractStridedSlice S1x128 ![0, o] (k0_pay45 (F := Ideal) x0 x1 x2 x3 x4 x5 x6 x7 x8) hs)
        (View.ld x2 (Rect.unit (s := S1x1x1024) ![0, 0, o'] S1x1x256.size bv))
        (View.ld x5 (Rect.unit (s := S1x4x128x256) ![0, h.val, 0, 0] S1x1x128x256.size bs)) (ix2 0 j)
      = head (lgK x4 x6 x7) (row x0) (row x1) (row x2) (fun h l j => x5 (ix4 0 h l j)) h j := by
  have eq (l : Fin 128) := (slice_cols (k0_pay44 (F := Ideal) x0 x1 x2 x3 x4 x5 x6 x7 x8) o hs 0 l (kcol h l) (by dsimp only; omega)).trans
    (pay44_eq x0 x1 x2 x3 x4 x5 x6 x7 x8 (kcol h l))
  have ek (l : Fin 128) := (slice_cols (k0_pay45 (F := Ideal) x0 x1 x2 x3 x4 x5 x6 x7 x8) o hs 0 l (kcol h l) (by dsimp only; omega)).trans
    (pay45_eq x0 x1 x2 x3 x4 x5 x6 x7 x8 (kcol h l))
  refine (headO_apply _ _ _ _ j).trans ?_
  unfold head
  refine congrArg₂ (fun a b : EReal => a + b) (congrArg₂ (fun a b : EReal => a * b) (Finset.sum_congr rfl fun l _ =>
      congrArg₂ (fun a b : EReal => a * b) (eq l) (ek l)) (ld_row x2 bv j (vcol h j) (by dsimp only; omega)))
    (Finset.sum_congr rfl fun l _ => congrArg₂ (fun a b : EReal => a * b) (eq l) (congrArg x5 (emb_head h bs 0 0 l j)))

/-- A head's new state is its part of the state's block. -/
theorem head_s (h : Fin 4) (o o' : ℕ) (ho : o = h.val * 128) (ho' : o' = h.val * 256) (hs : S1x512.Slices ![0, o] S1x128)
    (bk : ∀ a, (![0, 0, o] : Fin 3 → ℕ) a + S1x1x128.size a ≤ S1x1x512.size a)
    (bv : ∀ a, (![0, 0, o'] : Fin 3 → ℕ) a + S1x1x256.size a ≤ S1x1x1024.size a)
    (bs : ∀ a, (![0, h.val, 0, 0] : Fin 4 → ℕ) a + S1x1x128x256.size a ≤ S1x4x128x256.size a) (x : S1x1x128x256.Idx) :
    headS (extractStridedSlice S1x128 ![0, o] (k0_pay42 (F := Ideal) x0 x1 x2 x3 x4 x5 x6 x7 x8) hs)
        (View.ld x1 (Rect.unit (s := S1x1x512) ![0, 0, o] S1x1x128.size bk))
        (View.ld x2 (Rect.unit (s := S1x1x1024) ![0, 0, o'] S1x1x256.size bv))
        (View.ld x5 (Rect.unit (s := S1x4x128x256) ![0, h.val, 0, 0] S1x1x128x256.size bs)) x
      = (fun y : S1x4x128x256.Idx => next (lgK x4 x6 x7) (row x1) (row x2) (fun h l j => x5 (ix4 0 h l j)) (y 1) (y 2) (y 3))
          ((Rect.unit (s := S1x4x128x256) ![0, h.val, 0, 0] S1x1x128x256.size bs).emb x) := by
  obtain ⟨p0, p1, l, j, rfl⟩ : ∃ p0 p1 l j, x = ix4 p0 p1 l j := ⟨x 0, x 1, x 2, x 3, eq_ix4 x⟩
  rw [emb_head h bs p0 p1 l j]
  refine (headS_apply _ _ _ _ p0 p1 l j).trans ?_
  refine congrArg₂ (fun a b : EReal => a + b) (congrArg₂ (fun a b : EReal => a * b)
      ((slice_cols (k0_pay42 (F := Ideal) x0 x1 x2 x3 x4 x5 x6 x7 x8) o hs 0 l (kcol h l) (by dsimp only; omega)).trans (pay42_eq x0 x1 x2 x3 x4 x5 x6 x7 x8 (kcol h l)))
      (congrArg x5 (emb_head h bs 0 0 l j)))
    (congrArg₂ (fun a b : EReal => a * b) (ld_row x1 bk l (kcol h l) (by dsimp only; omega)) (ld_row x2 bv j (vcol h j) (by dsimp only; omega)))

/-- The state's block after the grid point. -/
theorem out10 (y : S1x4x128x256.Idx) : out0_10 (F := Ideal) x0 x1 x2 x3 x4 x5 x6 x7 x8 y
    = next (lgK x4 x6 x7) (row x1) (row x2) (fun h l j => x5 (ix4 0 h l j)) (y 1) (y 2) (y 3) := by
  refine View.canon_apply_of_pieces (Val := Elt Ideal)
    (fun y : S1x4x128x256.Idx => next (lgK x4 x6 x7) (row x1) (row x2) (fun h l j => x5 (ix4 0 h l j)) (y 1) (y 2) (y 3)) _ ?_ y (cover0_10 _ _ _ _ y)
  intro pc hpc x
  simp only [List.mem_cons, List.not_mem_nil, or_false] at hpc
  rcases hpc with rfl | rfl | rfl | rfl
  · exact head_s x0 x1 x2 x3 x4 x5 x6 x7 x8 3 384 768 rfl rfl slices_S1x512_o0_384_S1x128 _ _ _ x
  · exact head_s x0 x1 x2 x3 x4 x5 x6 x7 x8 2 256 512 rfl rfl slices_S1x512_o0_256_S1x128 _ _ _ x
  · exact head_s x0 x1 x2 x3 x4 x5 x6 x7 x8 1 128 256 rfl rfl slices_S1x512_o0_128_S1x128 _ _ _ x
  · exact head_s x0 x1 x2 x3 x4 x5 x6 x7 x8 0 0 0 rfl rfl slices_S1x512_o0_0_S1x128 _ _ _ x

/-- The four heads' outputs side by side, gained and gated, at one element. -/
theorem pay40_eq (o : Fin 4 → FVec Ideal S1x256 .f32) (r : FVec Ideal S1x1024 .f32) (g : Vec Ideal S1x1024 .f32) (h : Fin 4) (j : Fin 256) :
    k0_pay40 (F := Ideal) (o 0) (o 1) (o 2) (o 3) r (k0_pay39 (o 0)) g (ix2 0 (vcol h j))
      = normed (fun j => o h (ix2 0 j)) j * g (ix2 0 (vcol h j)) * (r (ix2 0 (vcol h j)) * Ideal.logistic (r (ix2 0 (vcol h j)))) := by
  have e : k0_pay40 (F := Ideal) (o 0) (o 1) (o 2) (o 3) r (k0_pay39 (o 0)) g
      = mulf (mulf (concatenate S1x1024 1 [⟨S1x256, headN (o 0)⟩, ⟨S1x256, headN (o 1)⟩, ⟨S1x256, headN (o 2)⟩, ⟨S1x256, headN (o 3)⟩]
          concatenates_S1x256_S1x256_S1x256_S1x256_S1x1024_d1) (shapeCast S1x1024 g shapeCasts_S1x1024_S1x1024)) (mulf r (logistic r)) := rfl
  rw [e]
  have hc : concatenate S1x1024 1 [⟨S1x256, headN (o 0)⟩, ⟨S1x256, headN (o 1)⟩, ⟨S1x256, headN (o 2)⟩, ⟨S1x256, headN (o 3)⟩]
      concatenates_S1x256_S1x256_S1x256_S1x256_S1x1024_d1 (ix2 0 (vcol h j)) = headN (o h) (ix2 0 j) := by
    match h with
    | ⟨0, _⟩ => exact cat_cols _ _ 0 _ 0 (by simp) _ rfl 0 rfl j (by simp)
    | ⟨1, _⟩ => exact cat_cols _ _ 0 _ 1 (by simp) _ rfl 256 rfl j (by simp)
    | ⟨2, _⟩ => exact cat_cols _ _ 0 _ 2 (by simp) _ rfl 512 rfl j (by simp)
    | ⟨3, _⟩ => exact cat_cols _ _ 0 _ 3 (by simp) _ rfl 768 rfl j (by simp)
  generalize concatenate S1x1024 1 [⟨S1x256, headN (o 0)⟩, ⟨S1x256, headN (o 1)⟩, ⟨S1x256, headN (o 2)⟩, ⟨S1x256, headN (o 3)⟩]
      concatenates_S1x256_S1x256_S1x256_S1x256_S1x1024_d1 = C at hc ⊢
  pointwise []
  refine congrArg₂ (fun a b : EReal => a * b) (congrArg₂ (fun a b : EReal => a * b) (hc.trans (headN_apply (o h) j)) rfl) rfl

/-- The heads' outputs as the kernel computes them, by head. -/
def heads : Fin 4 → FVec Ideal S1x256 .f32
  | 0 => k0_pay46 (F := Ideal) x0 x1 x2 x3 x4 x5 x6 x7 x8
  | 1 => headO (extractStridedSlice S1x128 ![0, 128] (k0_pay44 (F := Ideal) x0 x1 x2 x3 x4 x5 x6 x7 x8) slices_S1x512_o0_128_S1x128)
      (extractStridedSlice S1x128 ![0, 128] (k0_pay45 (F := Ideal) x0 x1 x2 x3 x4 x5 x6 x7 x8) slices_S1x512_o0_128_S1x128) (View.ld x2 r0_7) (View.ld x5 r0_8)
  | 2 => headO (extractStridedSlice S1x128 ![0, 256] (k0_pay44 (F := Ideal) x0 x1 x2 x3 x4 x5 x6 x7 x8) slices_S1x512_o0_256_S1x128)
      (extractStridedSlice S1x128 ![0, 256] (k0_pay45 (F := Ideal) x0 x1 x2 x3 x4 x5 x6 x7 x8) slices_S1x512_o0_256_S1x128) (View.ld x2 r0_10) (View.ld x5 r0_11)
  | 3 => headO (extractStridedSlice S1x128 ![0, 384] (k0_pay44 (F := Ideal) x0 x1 x2 x3 x4 x5 x6 x7 x8) slices_S1x512_o0_384_S1x128)
      (extractStridedSlice S1x128 ![0, 384] (k0_pay45 (F := Ideal) x0 x1 x2 x3 x4 x5 x6 x7 x8) slices_S1x512_o0_384_S1x128) (View.ld x2 r0_13) (View.ld x5 r0_14)

theorem heads_eq (h : Fin 4) (j : Fin 256) : heads x0 x1 x2 x3 x4 x5 x6 x7 x8 h (ix2 0 j)
    = head (lgK x4 x6 x7) (row x0) (row x1) (row x2) (fun h l j => x5 (ix4 0 h l j)) h j := by
  match h with
  | ⟨0, _⟩ => exact head_o x0 x1 x2 x3 x4 x5 x6 x7 x8 0 0 0 rfl rfl slices_S1x512_o0_0_S1x128 _ _ j
  | ⟨1, _⟩ => exact head_o x0 x1 x2 x3 x4 x5 x6 x7 x8 1 128 256 rfl rfl slices_S1x512_o0_128_S1x128 _ _ j
  | ⟨2, _⟩ => exact head_o x0 x1 x2 x3 x4 x5 x6 x7 x8 2 256 512 rfl rfl slices_S1x512_o0_256_S1x128 _ _ j
  | ⟨3, _⟩ => exact head_o x0 x1 x2 x3 x4 x5 x6 x7 x8 3 384 768 rfl rfl slices_S1x512_o0_384_S1x128 _ _ j

/-- The first result's block after the grid point. -/
theorem out9 (h : Fin 4) (j : Fin 256) : out0_9 (F := Ideal) x0 x1 x2 x3 x4 x5 x6 x7 x8 (ix3 0 0 (vcol h j))
    = normed (head (lgK x4 x6 x7) (row x0) (row x1) (row x2) (fun h l j => x5 (ix4 0 h l j)) h) j * x8 (ix2 0 (vcol h j))
        * (row x3 (vcol h j) * Ideal.logistic (row x3 (vcol h j))) := by
  have e3 : View.ld x3 r0_16 = x3 := View.ld_unit_lit _ _ (by decide)
  have e8 : View.ld x8 r0_17 = x8 := View.ld_unit_lit _ _ (by decide)
  have e : out0_9 (F := Ideal) x0 x1 x2 x3 x4 x5 x6 x7 x8 = View.canon (Val := Elt Ideal) [⟨r0_16, k0_pay1 (k0_pay40 (heads x0 x1 x2 x3 x4 x5 x6 x7 x8 0)
      (heads x0 x1 x2 x3 x4 x5 x6 x7 x8 1) (heads x0 x1 x2 x3 x4 x5 x6 x7 x8 2) (heads x0 x1 x2 x3 x4 x5 x6 x7 x8 3) (k0_pay38 (View.ld x3 r0_16))
      (k0_pay39 (heads x0 x1 x2 x3 x4 x5 x6 x7 x8 0)) (View.ld x8 r0_17))⟩] := rfl
  rw [e, e3, e8, View.canon_unit_zero (by decide)]
  have h1 (u : FVec Ideal S1x1024 .f32) (n : Fin 1024) : k0_pay1 (F := Ideal) u (ix3 0 0 n) = u (ix2 0 n) := by pointwise [k0_pay1]
  have h2 (n : Fin 1024) : k0_pay38 (F := Ideal) x3 (ix2 0 n) = x3 (ix3 0 0 n) := by pointwise [k0_pay38]
  refine (h1 _ _).trans ((pay40_eq (heads x0 x1 x2 x3 x4 x5 x6 x7 x8) (k0_pay38 x3) x8 h j).trans ?_)
  rw [h2]
  exact congrArg (fun f : Fin 256 → EReal => normed f j * x8 (ix2 0 (vcol h j)) * (row x3 (vcol h j) * Ideal.logistic (row x3 (vcol h j))))
    (funext fun j => heads_eq x0 x1 x2 x3 x4 x5 x6 x7 x8 h j)

end Out

end Cert.Kernel9Ideal.GlaStep

end
-- ==== Proof.GlaStepFinal.lean ====
module

public import proofs.«01_k».proof.Proof.GlaStep

@[expose] public section

set_option maxRecDepth 16384

noncomputable section

open Idealize.ShloMosaic Idealize.ShloMosaic.TcCoe Idealize.SL.Sem
open Idealize.ShloMosaic.Pipeline (Dat)

namespace Cert.Kernel9Ideal.GlaStep

open Cert.Kernel9Ideal Cert.Kernel9Ideal.Gen Cert.Work Cert.Reference9Ideal.GlaStep

variable (m : (ℓ : Loc nD τ sig) → Buf (Elt Ideal) ℓ) (c : Dev nD)

/-- The windows' block indices: the rows follow the grid point, the weights stay. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0] ∧ win0_6.index t = ![0, 0]
    ∧ win0_7.index t = ![0, 0] ∧ win0_8.index t = ![0, 0] ∧ win0_9.index t = ![t.val, 0, 0] ∧ win0_10.index t = ![t.val, 0, 0, 0] :=
  (by decide +kernel : ∀ t : Fin grid0.N, _)

theorem t_lt (t : Fin cfg0.N) : t.val < 128 := lt_of_lt_of_eq t.isLt (by decide +kernel)

/-- The row of a grid point. -/
abbrev pt (t : Fin cfg0.N) : Fin 128 := ⟨t.val, t_lt t⟩

/-- The call's arguments. -/
abbrev a0 : FVec Ideal S128x512 .f32 := m ((c : Thread nD τ).loc main_arg0)
abbrev a1 : FVec Ideal S128x512 .f32 := m ((c : Thread nD τ).loc main_arg1)
abbrev a2 : FVec Ideal S128x1024 .f32 := m ((c : Thread nD τ).loc main_arg2)
abbrev a3 : FVec Ideal S128x1024 .f32 := m ((c : Thread nD τ).loc main_arg3)
abbrev a4 : FVec Ideal S128x128 .f32 := m ((c : Thread nD τ).loc main_arg4)
abbrev a5 : FVec Ideal S128x4x128x256 .f32 := m ((c : Thread nD τ).loc main_arg5)
abbrev a6 : FVec Ideal S16x512 .f32 := m ((c : Thread nD τ).loc main_arg6)
abbrev a7 : FVec Ideal S512 .f32 := m ((c : Thread nD τ).loc main_arg7)
abbrev a8 : FVec Ideal S256 .f32 := m ((c : Thread nD τ).loc main_arg8)

theorem V_q : (V m c main_v7 : FVec Ideal S128x1x512 .f32) = shapeCast S128x1x512 (a0 m c) shapeCasts_S128x512_S128x1x512 := by
  dsimp only [V]
  simp only [hostOps0, hostOps0_1, hostOps0_2, List.flatten_cons, List.flatten_nil, List.append_nil, List.cons_append, List.nil_append]
  after_results
  rfl

theorem V_k : (V m c main_v8 : FVec Ideal S128x1x512 .f32) = shapeCast S128x1x512 (a1 m c) shapeCasts_S128x512_S128x1x512 := by
  dsimp only [V]
  simp only [hostOps0, hostOps0_1, hostOps0_2, List.flatten_cons, List.flatten_nil, List.append_nil, List.cons_append, List.nil_append]
  after_results
  rfl

theorem V_v : (V m c main_v9 : FVec Ideal S128x1x1024 .f32) = shapeCast S128x1x1024 (a2 m c) shapeCasts_S128x1024_S128x1x1024 := by
  dsimp only [V]
  simp only [hostOps0, hostOps0_1, hostOps0_2, List.flatten_cons, List.flatten_nil, List.append_nil, List.cons_append, List.nil_append]
  after_results
  rfl

theorem V_r : (V m c main_v10 : FVec Ideal S128x1x1024 .f32) = shapeCast S128x1x1024 (a3 m c) shapeCasts_S128x1024_S128x1x1024 := by
  dsimp only [V]
  simp only [hostOps0, hostOps0_1, hostOps0_2, List.flatten_cons, List.flatten_nil, List.append_nil, List.cons_append, List.nil_append]
  after_results
  rfl

theorem V_s : (V m c main_v11 : FVec Ideal S128x1x128 .f32) = shapeCast S128x1x128 (a4 m c) shapeCasts_S128x128_S128x1x128 := by
  dsimp only [V]
  simp only [hostOps0, hostOps0_1, hostOps0_2, List.flatten_cons, List.flatten_nil, List.append_nil, List.cons_append, List.nil_append]
  after_results
  rfl

theorem V_w : (V m c main_v1 : FVec Ideal S128x512 .bf16)
    = truncf .bf16 (pad S128x512 ![0, 0] ![112, 0] ![0, 0] (a6 m c) (sitofp (F := Ideal) .f32 (constantI S_ 32 0#32)) pads_S16x512_S128x512_01120_000 h_S_) bitsLt_bf16_f32 := by
  dsimp only [V]
  simp only [hostOps0, hostOps0_1, hostOps0_2, List.flatten_cons, List.flatten_nil, List.append_nil, List.cons_append, List.nil_append]
  after_results
  rfl

theorem V_b : (V m c main_v2 : FVec Ideal S1x512 .f32) = shapeCast S1x512 (a7 m c) shapeCasts_S512_S1x512 := by
  dsimp only [V]
  simp only [hostOps0, hostOps0_1, hostOps0_2, List.flatten_cons, List.flatten_nil, List.append_nil, List.cons_append, List.nil_append]
  after_results
  rfl

theorem V_g : (V m c main_v6 : FVec Ideal S1x1024 .f32)
    = shapeCast S1x1024 (shapeCast S1024 (broadcastInDim S4x256 ![0, 1] bcast_S1x256_S4x256_0_1 (shapeCast S1x256 (a8 m c) shapeCasts_S256_S1x256)) shapeCasts_S4x256_S1024)
        shapeCasts_S1024_S1x1024 := by
  dsimp only [V]
  simp only [hostOps0, hostOps0_1, hostOps0_2, List.flatten_cons, List.flatten_nil, List.append_nil, List.cons_append, List.nil_append]
  after_results
  rfl

theorem x0_eq (t : Fin cfg0.N) : row (N := 512) (iblk m c 0 t) = fun n => a0 m c (ix2 (pt t) n) := by
  funext n
  have e : iblk m c 0 t (ix3 0 0 n) = (V m c main_v7 : FVec Ideal S128x1x512 .f32) (ix3 (pt t) 0 n) := by
    blk_ext [iblk, idx t]
  refine e.trans ?_
  rw [V_q]
  pointwise []

theorem x1_eq (t : Fin cfg0.N) : row (N := 512) (iblk m c 1 t) = fun n => a1 m c (ix2 (pt t) n) := by
  funext n
  have e : iblk m c 1 t (ix3 0 0 n) = (V m c main_v8 : FVec Ideal S128x1x512 .f32) (ix3 (pt t) 0 n) := by
    blk_ext [iblk, idx t]
  refine e.trans ?_
  rw [V_k]
  pointwise []

theorem x2_eq (t : Fin cfg0.N) : row (N := 1024) (iblk m c 2 t) = fun n => a2 m c (ix2 (pt t) n) := by
  funext n
  have e : iblk m c 2 t (ix3 0 0 n) = (V m c main_v9 : FVec Ideal S128x1x1024 .f32) (ix3 (pt t) 0 n) := by
    blk_ext [iblk, idx t]
  refine e.trans ?_
  rw [V_v]
  pointwise []

theorem x3_eq (t : Fin cfg0.N) : row (N := 1024) (iblk m c 3 t) = fun n => a3 m c (ix2 (pt t) n) := by
  funext n
  have e : iblk m c 3 t (ix3 0 0 n) = (V m c main_v10 : FVec Ideal S128x1x1024 .f32) (ix3 (pt t) 0 n) := by
    blk_ext [iblk, idx t]
  refine e.trans ?_
  rw [V_r]
  pointwise []

theorem x4_eq (t : Fin cfg0.N) (k : Fin 128) : iblk m c 4 t (ix3 0 0 k) = a4 m c (ix2 (pt t) k) := by
  have e : iblk m c 4 t (ix3 0 0 k) = (V m c main_v11 : FVec Ideal S128x1x128 .f32) (ix3 (pt t) 0 k) := by
    blk_ext [iblk, idx t]
  refine e.trans ?_
  rw [V_s]
  pointwise []

theorem x5_eq (t : Fin cfg0.N) : (fun (h : Fin 4) (l : Fin 128) (j : Fin 256) => iblk m c 5 t (ix4 0 h l j)) = fun h l j => a5 m c (ix4 (pt t) h l j) := by
  funext h l j
  have e : iblk m c 5 t (ix4 0 h l j) = (V m c main_arg5 : FVec Ideal S128x4x128x256 .f32) (ix4 (pt t) h l j) := by
    blk_ext [iblk, idx t]
  exact e.trans (congrFun (V_main_arg5 m c) _)

theorem x6_eq (t : Fin cfg0.N) (k : Fin 128) (n : Fin 512) : iblk m c 6 t (ix2 k n) = if h : k.val < 16 then a6 m c (ix2 ⟨k.val, h⟩ n) else 0 := by
  have e : iblk m c 6 t (ix2 k n) = (V m c main_v1 : FVec Ideal S128x512 .bf16) (ix2 k n) := by
    blk_ext [iblk, idx t]
  refine e.trans ?_
  rw [V_w]
  pointwise []
  by_cases h : k.val < 16
  · refine (dif_pos (by omega)).trans ?_
    rw [dif_pos h]
  · refine (dif_neg (by omega)).trans ?_
    rw [dif_neg h]
    simp [FloatOps.sitofp]

theorem x7_eq (t : Fin cfg0.N) (n : Fin 512) : iblk m c 7 t (ix2 0 n) = a7 m c (ix1 n) := by
  have e : iblk m c 7 t (ix2 0 n) = (V m c main_v2 : FVec Ideal S1x512 .f32) (ix2 0 n) := by
    blk_ext [iblk, idx t]
  refine e.trans ?_
  rw [V_b]
  pointwise []

theorem x8_eq (t : Fin cfg0.N) (n : Fin 1024) : iblk m c 8 t (ix2 0 n) = a8 m c (ix1 ⟨n.val % 256, Nat.mod_lt _ (by decide)⟩) := by
  have e : iblk m c 8 t (ix2 0 n) = (V m c main_v6 : FVec Ideal S1x1024 .f32) (ix2 0 n) := by
    blk_ext [iblk, idx t]
  refine e.trans ?_
  rw [V_g]
  pointwise []

/-- The logits of a grid point: the lanes past the sixteenth meet rows of zeros. -/
theorem lg_eq (t : Fin cfg0.N) : lgK (iblk m c 4 t) (iblk m c 6 t) (iblk m c 7 t) = logits (a4 m c) (a6 m c) (a7 m c) (pt t) := by
  funext n
  unfold lgK logits
  refine congrArg₂ (fun a b : EReal => a + b) ?_ (x7_eq m c t n)
  have e (k : Fin 128) : (fun a b : EReal => a * b) (iblk m c 4 t (ix3 0 0 k)) (iblk m c 6 t (ix2 k n))
      = if h : k.val < 16 then a4 m c (ix2 (pt t) k) * a6 m c (ix2 ⟨k.val, h⟩ n) else 0 := by
    refine (congrArg₂ (fun a b : EReal => a * b) (x4_eq m c t k) (x6_eq m c t k n)).trans ?_
    by_cases h : k.val < 16
    · rw [dif_pos h, dif_pos h]
    · rw [dif_neg h, dif_neg h]
      exact mul_zero _
  refine (Finset.sum_congr rfl fun k _ => e k).trans ?_
  refine (Fin.sum_univ_add (a := 16) (b := 112) _).trans ?_
  have hz : (∑ i : Fin 112, if h : (Fin.natAdd 16 i).val < 16 then a4 m c (ix2 (pt t) (Fin.natAdd 16 i)) * a6 m c (ix2 ⟨(Fin.natAdd 16 i).val, h⟩ n) else 0) = (0 : EReal) :=
    Finset.sum_eq_zero fun i _ => dif_neg (by simp)
  refine (congrArg₂ (fun a b : EReal => a + b) (Finset.sum_congr rfl fun i _ => dif_pos i.isLt) hz).trans ?_
  rw [add_zero]
  rfl

/-- The first result array after the run is the reference's. -/
theorem final9 : (dats m 0 c).arrAt 9 (cfgs 0).N = Cert.Reference9Ideal.Read.val_main_v41 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  blk_simp
  rw [after0_9]
  idx_vars y
  have he : ((View.whole main_v12_0).slice (win0_9.rect t)).emb (ix3 y0 y1 y2) = (ix3 (pt t) 0 y2 : S128x1x1024.Idx) := by
    blk_ext [idx t]
  rw [he, y_ref]
  obtain ⟨h, j, rfl⟩ : ∃ h j, y2 = vcol h j := ⟨⟨y2.val / 256, by omega⟩, ⟨y2.val % 256, by omega⟩, Fin.ext (by dsimp only; omega)⟩
  obtain rfl : y0 = 0 := Subsingleton.elim _ _
  obtain rfl : y1 = 0 := Subsingleton.elim _ _
  refine (out9 (iblk m c 0 t) (iblk m c 1 t) (iblk m c 2 t) (iblk m c 3 t) (iblk m c 4 t) (iblk m c 5 t) (iblk m c 6 t) (iblk m c 7 t) (iblk m c 8 t) h j).trans ?_
  rw [lg_eq, x0_eq, x1_eq, x2_eq, x3_eq, x5_eq, x8_eq]
  unfold res
  have e1 : (⟨(vcol h j).val / 256, by omega⟩ : Fin 4) = h := Fin.ext (by dsimp only; omega)
  have e2 : (⟨(vcol h j).val % 256, Nat.mod_lt _ (by decide)⟩ : Fin 256) = j := Fin.ext (by dsimp only; omega)
  rw [e1, e2]

/-- The second result array after the run is the reference's. -/
theorem final10 : (dats m 0 c).arrAt 10 (cfgs 0).N = Cert.Reference9Ideal.Read.val_main_v50 (F := Ideal) (a1 m c) (a2 m c) (a4 m c) (a5 m c) (a6 m c) (a7 m c) := by
  refine (dats m 0 c).arrAt_eq_of_covers 10 _ (by decide +kernel) fun t _ y => ?_
  blk_simp
  rw [after0_10]
  idx_vars y
  have he : ((View.whole main_v12_1).slice (win0_10.rect t)).emb (ix4 y0 y1 y2 y3) = (ix4 (pt t) y1 y2 y3 : S128x4x128x256.Idx) := by
    blk_ext [idx t]
  rw [he, s_ref]
  refine (out10 (iblk m c 0 t) (iblk m c 1 t) (iblk m c 2 t) (iblk m c 3 t) (iblk m c 4 t) (iblk m c 5 t) (iblk m c 6 t) (iblk m c 7 t) (iblk m c 8 t) (ix4 y0 y1 y2 y3)).trans ?_
  rw [lg_eq, x1_eq, x2_eq, x5_eq]
  rfl

end Cert.Kernel9Ideal.GlaStep

end
-- ==== Proof.GlaStepClaim.lean ====
module

public import proofs.«01_k».proof.Defs
public import proofs.«01_k».proof.Proof.GlaStepFinal
public import proofs.«01_k».proof.Proof.Gen.Kernel9.Frame
public import proofs.«01_k».proof.Proof.Gen.Reference9Ideal.Run

@[expose] public section

set_option maxRecDepth 16384

noncomputable section

open Idealize.ShloMosaic Idealize.ShloMosaic.TcCoe Idealize.SL.Sem

namespace Cert.Proof.GlaStepClaims

/-- The printed kernel's frame: the samples' step of the gated linear attention. -/
theorem frame_k : Cert.quiescent_Kernel9 := fun m ρ _ => Cert.Kernel9.Gen.frame m ρ

/-- The idealized kernel's frame: the samples' step of the gated linear attention. -/
theorem frame_ki : Cert.quiescent_Kernel9Ideal := fun m ρ _ => Cert.Kernel9Ideal.Gen.frame m ρ

/-- The reference's frame: its run, read at the arguments; it declares no semaphore. -/
theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The idealizing pass renamed nothing here. -/
theorem preserves : Cert.preserves_Kernel9_Kernel9Ideal := trivial

/-- The samples' step of the gated linear attention and its reference end with equal results over the extended reals. -/
theorem algebraic : Cert.algebraic_Kernel9Ideal_Reference9Ideal := by
  intro m ρ m' ρ' _ hag
  refine ⟨fun c => Cert.Reference9Ideal.Read.val_main_v41 (F := Ideal) (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3))
      (m ((c.tc : Thread Cert.Kernel9Ideal.nD Cert.Kernel9Ideal.τ).loc Cert.Kernel9Ideal.main_arg4))
      (m ((c.tc : Thread Cert.Kernel9Ideal.nD Cert.Kernel9Ideal.τ).loc Cert.Kernel9Ideal.main_arg5))
      (m ((c.tc : Thread Cert.Kernel9Ideal.nD Cert.Kernel9Ideal.τ).loc Cert.Kernel9Ideal.main_arg6))
      (m ((c.tc : Thread Cert.Kernel9Ideal.nD Cert.Kernel9Ideal.τ).loc Cert.Kernel9Ideal.main_arg7))
      (m ((c.tc : Thread Cert.Kernel9Ideal.nD Cert.Kernel9Ideal.τ).loc Cert.Kernel9Ideal.main_arg8)),
    fun c => Cert.Reference9Ideal.Read.val_main_v50 (F := Ideal) (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg4))
      (m ((c.tc : Thread Cert.Kernel9Ideal.nD Cert.Kernel9Ideal.τ).loc Cert.Kernel9Ideal.main_arg5))
      (m ((c.tc : Thread Cert.Kernel9Ideal.nD Cert.Kernel9Ideal.τ).loc Cert.Kernel9Ideal.main_arg6))
      (m ((c.tc : Thread Cert.Kernel9Ideal.nD Cert.Kernel9Ideal.τ).loc Cert.Kernel9Ideal.main_arg7)), ?_, ?_⟩
  · exact (θ_run Cert.Kernel9Ideal.defs _ _).mono
      (fun _ h c => ⟨(h c).1.trans (Cert.Kernel9Ideal.GlaStep.final9 m c),
        (h c).2.1.trans (Cert.Kernel9Ideal.GlaStep.final10 m c), (h c).2.2⟩)
      (Cert.Kernel9Ideal.Value.run_blocks (F := Ideal) m ρ)
  · refine (θ_run Cert.Reference9Ideal.defs _ _).mono (fun _ h c => ?_) (Cert.Reference9Ideal.Value.run (F := Ideal) m' ρ')
    obtain ⟨h0, h1, h2, h3, h4, h5, h6, h7, h8⟩ := hag c
    exact ⟨(h c).1.trans ((Cert.Reference9Ideal.Read.val_main_v41_eq m' c).trans (by rw [h0, h1, h2, h3, h4, h5, h6, h7, h8])),
      (h c).2.1.trans ((Cert.Reference9Ideal.Read.val_main_v50_eq _ _ _ _ _ _).trans (by rw [h1, h2, h4, h5, h6, h7])), (h c).2.2⟩

end Cert.Proof.GlaStepClaims

end
-- ==== Proof.SsdStepRef.lean ====
module

public import proofs.«01_k».proof.Proof.Gen.Reference10Ideal.Read
public import proofs.«01_k».proof.Proof.Softplus

@[expose] public section

set_option maxRecDepth 16384

noncomputable section

open Idealize.ShloMosaic Idealize.ShloMosaic.TcCoe Idealize.SL.Sem

namespace Cert.Reference10Ideal.SsdStep

open Cert.Reference10Ideal Cert.Reference10Ideal.Read Cert.Work

section Row

variable (xb : Fin 1536 → EReal) (cs : Fin 3 → Fin 1536 → EReal) (cw : Fin 4 → Fin 1536 → EReal) (cb : Fin 1536 → EReal)
  (sm db al dk : Fin 16 → EReal) (st : Fin 1024 → Fin 128 → EReal) (z g : Fin 1024 → EReal)

/-- The head of a column. -/
abbrev hd (c : Fin 1024) : Fin 16 := ⟨c.val / 64, by omega⟩

/-- The column of the convolved row that holds the group's key for a column of values. -/
abbrev bcol (c : Fin 1024) (n : Fin 128) : Fin 1536 := ⟨1024 + c.val / 512 * 128 + n.val, by omega⟩

/-- The column of the convolved row that holds the group's query for a column of values. -/
abbrev ccol (c : Fin 1024) (n : Fin 128) : Fin 1536 := ⟨1280 + c.val / 512 * 128 + n.val, by omega⟩

/-- The column of the convolved row that holds a value. -/
abbrev xcol (c : Fin 1024) : Fin 1536 := ⟨c.val, by omega⟩

/-- The convolution of the new row with the three before it. -/
def conv (n : Fin 1536) : EReal := cb n + cw 3 n * xb n + cw 0 n * cs 0 n + cw 1 n * cs 1 n + cw 2 n * cs 2 n

/-- The convolved row after its activation. -/
def xc (n : Fin 1536) : EReal := conv xb cs cw cb n * Ideal.logistic (conv xb cs cw cb n)

/-- A head's step. -/
def dt (h : Fin 16) : EReal := softplus (sm h + db h)

/-- A head's decay. -/
def dec (h : Fin 16) : EReal := Ideal.exp (dt sm db h * -(Ideal.exp (al h)))

/-- The new state: the old one with the decay, and the product of the value times its step with the key. -/
def next (c : Fin 1024) (n : Fin 128) : EReal :=
  dec sm db al (hd c) * st c n + xc xb cs cw cb (xcol c) * dt sm db (hd c) * xc xb cs cw cb (bcol c n)

/-- What the new state holds for the query, with the value's own part, gated. -/
def gated (c : Fin 1024) : EReal :=
  ((∑ n : Fin 128, xc xb cs cw cb (ccol c n) * next xb cs cw cb sm db al st c n) + xc xb cs cw cb (xcol c) * dk (hd c))
    * (z c * Ideal.logistic (z c))

/-- A column of a group. -/
abbrev gcol (c : Fin 1024) (q : Fin 512) : Fin 1024 := ⟨c.val / 512 * 512 + q.val, by omega⟩

/-- The row's result: the gated outputs, each divided by its group's root mean square, with the gain. -/
def res (c : Fin 1024) : EReal :=
  gated xb cs cw cb sm db al dk st z c
    * Ideal.rsqrt (Ideal.div (∑ q : Fin 512, gated xb cs cw cb sm db al dk st z (gcol c q) * gated xb cs cw cb sm db al dk st z (gcol c q))
        (Ideal.ofBits .f32 0x44000000#32) + Ideal.ofBits .f32 0x358637BD#32) * g c

end Row

section Ref

variable (x0 : FVec Ideal S128x1024 .f32) (x1 : FVec Ideal S128x1536 .f32) (x2 : FVec Ideal S128x128 .f32) (x3 : FVec Ideal S128x3x1536 .f32)
  (x4 : FVec Ideal S128x16x64x128 .f32) (x5 : FVec Ideal S4x1536 .f32) (x6 : FVec Ideal S1536 .f32) (x7 x8 x9 : FVec Ideal S16 .f32)
  (x10 : FVec Ideal S1024 .f32)

/-- The reference's window: the three rows before, and the new one. -/
theorem win_old (i : Fin 128) (k : Fin 4) (k' : Fin 3) (h : k'.val = k.val) (n : Fin 1536) :
    val_main_v1 (F := Ideal) x1 x3 (ix3 i k n) = x3 (ix3 i k' n) := by
  unfold val_main_v1
  refine concatenate_apply_piece (t := S128x4x1536) 1 _ _ (ix3 i k n) 0 (by simp) S128x3x1536 x3 rfl rfl 0 rfl
    (ix3 i k' n) (fun b hb => ?_) ((Nat.zero_add _).trans h)
  match b with
  | ⟨0, _⟩ => rfl
  | ⟨1, _⟩ => exact absurd rfl hb
  | ⟨2, _⟩ => rfl

theorem win_new (i : Fin 128) (n : Fin 1536) : val_main_v1 (F := Ideal) x1 x3 (ix3 i 3 n) = x1 (ix2 i n) := by
  unfold val_main_v1
  have e : val_main_v0 (F := Ideal) x1 (ix3 i 0 n) = x1 (ix2 i n) := by pointwise [val_main_v0]
  refine (concatenate_apply_piece (t := S128x4x1536) 1 _ _ (ix3 i 3 n) 1 (by simp) S128x1x1536
    (val_main_v0 (F := Ideal) x1) rfl rfl 3 rfl (ix3 i 0 n) (fun b hb => ?_) rfl).trans e
  match b with
  | ⟨0, _⟩ => rfl
  | ⟨1, _⟩ => exact absurd rfl hb
  | ⟨2, _⟩ => rfl

/-- The arguments of one row, as the row's functions take them. -/
abbrev cvR (i : Fin 128) : Fin 1536 → EReal := xc (fun n => x1 (ix2 i n)) (fun k n => x3 (ix3 i k n)) (fun k n => x5 (ix2 k n)) (fun n => x6 (ix1 n))

theorem conv_ref (i : Fin 128) (n : Fin 1536) : val_main_v6 (F := Ideal) x1 x3 x5 x6 (ix2 i n)
    = conv (fun n => x1 (ix2 i n)) (fun k n => x3 (ix3 i k n)) (fun k n => x5 (ix2 k n)) (fun n => x6 (ix1 n)) n := by
  pointwise [val_main_v6, val_main_v5, val_main_v4, val_main_v3, val_main_v2]
  rw [Fin.sum_univ_four, win_old x1 x3 i 0 0 rfl n, win_old x1 x3 i 1 1 rfl n, win_old x1 x3 i 2 2 rfl n, win_new]
  unfold conv
  dsimp only
  ac_rfl

theorem xc_ref (i : Fin 128) (n : Fin 1536) : val_main_v7 (F := Ideal) x1 x3 x5 x6 (ix2 i n) = cvR x1 x3 x5 x6 i n := by
  pointwise [val_main_v7, val_main_call0_v5, val_main_call0_v4, val_main_call0_v3, val_main_call0_v2, val_main_call0_v1, val_main_call0_v0,
    val_main_call0_cst, val_main_call0_cst_0]
  rw [conv_ref]
  unfold cvR xc Ideal.logistic
  rfl

theorem dt_ref (i : Fin 128) (h : Fin 16) : val_main_v16 (F := Ideal) x2 x7 (ix2 i h)
    = dt (fun h => x2 (ix2 i ⟨h.val, by omega⟩)) (fun h => x7 (ix1 h)) h := by
  pointwise [val_main_v16, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst, val_main_v15,
    val_main_v14, val_main_v13, val_main_v12]
  unfold dt softplus
  simp [Ideal.cmp, Ideal.absf_def]

theorem dec_ref (i : Fin 128) (h : Fin 16) : val_main_v22 (F := Ideal) x2 x7 x8 (ix2 i h)
    = dec (fun h => x2 (ix2 i ⟨h.val, by omega⟩)) (fun h => x7 (ix1 h)) (fun h => x8 (ix1 h)) h := by
  pointwise [val_main_v22, val_main_v21, val_main_v20, val_main_v19, val_main_v18, val_main_v17]
  rw [dt_ref]
  rfl

/-- A column's lane within its head. -/
abbrev lane (c : Fin 1024) : Fin 64 := ⟨c.val % 64, Nat.mod_lt _ (by decide)⟩

theorem xs_ref (i : Fin 128) (c : Fin 1024) : val_main_v11 (F := Ideal) x1 x3 x5 x6 (ix3 i (hd c) (lane c)) = cvR x1 x3 x5 x6 i (xcol c) := by
  have e : val_main_v11 (F := Ideal) x1 x3 x5 x6 (ix3 i (hd c) (lane c)) = val_main_v7 (F := Ideal) x1 x3 x5 x6 (ix2 i (xcol c)) := by
    pointwise [val_main_v11, val_main_v8]
    exact congrArg (fun n => val_main_v7 (F := Ideal) x1 x3 x5 x6 (ix2 i n)) (Fin.ext (by dsimp only; omega))
  exact e.trans (xc_ref x1 x3 x5 x6 i _)

theorem b_ref (i : Fin 128) (c : Fin 1024) (n : Fin 128) : val_main_v32 (F := Ideal) x1 x3 x5 x6 (ix3 i (hd c) n) = cvR x1 x3 x5 x6 i (bcol c n) := by
  have e : val_main_v32 (F := Ideal) x1 x3 x5 x6 (ix3 i (hd c) n) = val_main_v7 (F := Ideal) x1 x3 x5 x6 (ix2 i (bcol c n)) := by
    pointwise [val_main_v32, val_main_v31, val_main_v30, val_main_v9]
    exact congrArg (fun n => val_main_v7 (F := Ideal) x1 x3 x5 x6 (ix2 i n)) (Fin.ext (by dsimp only; omega))
  exact e.trans (xc_ref x1 x3 x5 x6 i _)

theorem c_ref (i : Fin 128) (c : Fin 1024) (n : Fin 128) : val_main_v40 (F := Ideal) x1 x3 x5 x6 (ix3 i (hd c) n) = cvR x1 x3 x5 x6 i (ccol c n) := by
  have e : val_main_v40 (F := Ideal) x1 x3 x5 x6 (ix3 i (hd c) n) = val_main_v7 (F := Ideal) x1 x3 x5 x6 (ix2 i (ccol c n)) := by
    pointwise [val_main_v40, val_main_v39, val_main_v38, val_main_v10]
    exact congrArg (fun n => val_main_v7 (F := Ideal) x1 x3 x5 x6 (ix2 i n)) (Fin.ext (by dsimp only; omega))
  exact e.trans (xc_ref x1 x3 x5 x6 i _)

/-- The new state of one row, from the arguments. -/
abbrev nxR (i : Fin 128) : Fin 1024 → Fin 128 → EReal :=
  next (fun n => x1 (ix2 i n)) (fun k n => x3 (ix3 i k n)) (fun k n => x5 (ix2 k n)) (fun n => x6 (ix1 n))
    (fun h => x2 (ix2 i ⟨h.val, by omega⟩)) (fun h => x7 (ix1 h)) (fun h => x8 (ix1 h)) (fun c n => x4 (ix4 i (hd c) (lane c) n))

theorem next_ref (i : Fin 128) (c : Fin 1024) (n : Fin 128) : val_main_v37 (F := Ideal) x1 x2 x3 x4 x5 x6 x7 x8 (ix4 i (hd c) (lane c) n)
    = nxR x1 x2 x3 x4 x5 x6 x7 x8 i c n := by
  pointwise [val_main_v37, val_main_v36, val_main_v35, val_main_v34, val_main_v33, val_main_v29, val_main_v28, val_main_v27, val_main_v26, val_main_v25,
    val_main_v24, val_main_v23]
  rw [dec_ref, dt_ref, xs_ref, b_ref]
  rfl

/-- The gated outputs of one row, from the arguments. -/
abbrev gtR (i : Fin 128) : Fin 1024 → EReal :=
  gated (fun n => x1 (ix2 i n)) (fun k n => x3 (ix3 i k n)) (fun k n => x5 (ix2 k n)) (fun n => x6 (ix1 n))
    (fun h => x2 (ix2 i ⟨h.val, by omega⟩)) (fun h => x7 (ix1 h)) (fun h => x8 (ix1 h)) (fun h => x9 (ix1 h)) (fun c n => x4 (ix4 i (hd c) (lane c) n))
    (fun c => x0 (ix2 i c))

theorem y_col (i : Fin 128) (c : Fin 1024) : val_main_v46 (F := Ideal) x1 x2 x3 x4 x5 x6 x7 x8 x9 (ix3 i (hd c) (lane c))
    = (∑ n : Fin 128, cvR x1 x3 x5 x6 i (ccol c n) * nxR x1 x2 x3 x4 x5 x6 x7 x8 i c n) + cvR x1 x3 x5 x6 i (xcol c) * x9 (ix1 (hd c)) := by
  pointwise [val_main_v46, val_main_v45, val_main_v44, val_main_v43, val_main_v42, val_main_v41]
  rw [xs_ref]
  simp only [c_ref, next_ref]

theorem gated_ref (i : Fin 128) (c : Fin 1024) : val_main_v49 (F := Ideal) x0 x1 x2 x3 x4 x5 x6 x7 x8 x9 (ix2 i c)
    = gtR x0 x1 x2 x3 x4 x5 x6 x7 x8 x9 i c := by
  have e : val_main_v47 (F := Ideal) x1 x2 x3 x4 x5 x6 x7 x8 x9 (ix2 i c) = val_main_v46 (F := Ideal) x1 x2 x3 x4 x5 x6 x7 x8 x9 (ix3 i (hd c) (lane c)) := by
    pointwise [val_main_v47]
  pointwise [val_main_v49, val_main_v48, val_main_call2_v5, val_main_call2_v4, val_main_call2_v3, val_main_call2_v2, val_main_call2_v1, val_main_call2_v0,
    val_main_call2_cst, val_main_call2_cst_0]
  rw [e, y_col]
  unfold gtR gated Ideal.logistic
  rfl

/-- The reference's first result. -/
theorem y_ref (i : Fin 128) (z : Fin 1) (c : Fin 1024) : val_main_v65 (F := Ideal) x0 x1 x2 x3 x4 x5 x6 x7 x8 x9 x10 (ix3 i z c)
    = res (fun n => x1 (ix2 i n)) (fun k n => x3 (ix3 i k n)) (fun k n => x5 (ix2 k n)) (fun n => x6 (ix1 n))
      (fun h => x2 (ix2 i ⟨h.val, by omega⟩)) (fun h => x7 (ix1 h)) (fun h => x8 (ix1 h)) (fun h => x9 (ix1 h)) (fun c n => x4 (ix4 i (hd c) (lane c) n))
      (fun c => x0 (ix2 i c)) (fun c => x10 (ix1 c)) c := by
  have e (a : Fin 2) (q : Fin 512) : val_main_v50 (F := Ideal) x0 x1 x2 x3 x4 x5 x6 x7 x8 x9 (ix3 i a q)
      = gtR x0 x1 x2 x3 x4 x5 x6 x7 x8 x9 i ⟨a.val * 512 + q.val, by omega⟩ := by
    have e' : val_main_v50 (F := Ideal) x0 x1 x2 x3 x4 x5 x6 x7 x8 x9 (ix3 i a q)
        = val_main_v49 (F := Ideal) x0 x1 x2 x3 x4 x5 x6 x7 x8 x9 (ix2 i ⟨a.val * 512 + q.val, by omega⟩) := by
      pointwise [val_main_v50]
    exact e'.trans (gated_ref x0 x1 x2 x3 x4 x5 x6 x7 x8 x9 i _)
  have er : val_main_v65 (F := Ideal) x0 x1 x2 x3 x4 x5 x6 x7 x8 x9 x10 (ix3 i z c)
      = val_main_v64 (F := Ideal) x0 x1 x2 x3 x4 x5 x6 x7 x8 x9 x10 (ix3 i ⟨c.val / 512, by omega⟩ ⟨c.val % 512, Nat.mod_lt _ (by decide)⟩) := by
    pointwise [val_main_v65]
  have eg : val_main_v51 (F := Ideal) x10 (ix2 ⟨c.val / 512, by omega⟩ ⟨c.val % 512, Nat.mod_lt _ (by decide)⟩) = x10 (ix1 c) := by
    pointwise [val_main_v51]
  have ec : (⟨c.val / 512 * 512 + c.val % 512, by omega⟩ : Fin 1024) = c := Fin.ext (by dsimp only; omega)
  rw [er]
  pointwise [val_main_v64, val_main_v63, val_main_v62, val_main_v61, val_main_v60, val_main_v59, val_main_v58, val_main_v57, val_main_v56, val_main_v55,
    val_main_v54, val_main_v53, val_main_v52, val_main_cst, val_main_cst_0, val_main_cst_1]
  simp only [e]
  rw [eg, ec]
  rfl

/-- The reference's second result. -/
theorem s_ref (i : Fin 128) (j : Fin 8) (r n : Fin 128) : val_main_v66 (F := Ideal) x1 x2 x3 x4 x5 x6 x7 x8 (ix4 i j r n)
    = nxR x1 x2 x3 x4 x5 x6 x7 x8 i ⟨j.val * 128 + r.val, by omega⟩ n := by
  refine Eq.trans ?_ (next_ref x1 x2 x3 x4 x5 x6 x7 x8 i ⟨j.val * 128 + r.val, by omega⟩ n)
  pointwise [val_main_v66]
  exact congrArg₂ (fun a b => val_main_v37 (F := Ideal) x1 x2 x3 x4 x5 x6 x7 x8 (ix4 i a b n)) (Fin.ext (by dsimp only; omega)) (Fin.ext (by dsimp only; omega))

/-- The reference's third result: the window without its first row. -/
theorem w_ref (i : Fin 128) (k : Fin 3) (n : Fin 1536) : val_main_v67 (F := Ideal) x1 x3 (ix3 i k n)
    = if h : k.val < 2 then x3 (ix3 i ⟨k.val + 1, by omega⟩ n) else x1 (ix2 i n) := by
  have e : val_main_v67 (F := Ideal) x1 x3 (ix3 i k n) = val_main_v1 (F := Ideal) x1 x3 (ix3 i ⟨k.val + 1, by omega⟩ n) := by
    pointwise [val_main_v67]
    refine congrArg (val_main_v1 (F := Ideal) x1 x3) (funext fun a => Fin.ext ?_)
    match a with
    | ⟨0, _⟩ => rfl
    | ⟨1, _⟩ => show 1 + k.val = k.val + 1; omega
    | ⟨2, _⟩ => rfl
  rw [e]
  by_cases h : k.val < 2
  · rw [dif_pos h]
    exact win_old x1 x3 i _ ⟨k.val + 1, by omega⟩ rfl n
  · rw [dif_neg h]
    have ek : (⟨k.val + 1, by omega⟩ : Fin 4) = 3 := Fin.ext (by show k.val + 1 = 3; omega)
    rw [ek]
    exact win_new x1 x3 i n

end Ref

end Cert.Reference10Ideal.SsdStep

end
-- ==== Proof.SsdStep.lean ====
module

public import proofs.«01_k».proof.Proof.Gen.Kernel10Ideal.Frame
public import proofs.«01_k».proof.Proof.Cols
public import proofs.«01_k».proof.Proof.SsdStepRef

@[expose] public section

set_option maxRecDepth 16384

noncomputable section

open Idealize.ShloMosaic Idealize.ShloMosaic.TcCoe Idealize.SL.Sem
open Idealize.ShloMosaic.Pipeline (Dat)

namespace Cert.Kernel10Ideal.SsdStep

open Cert.Kernel10Ideal Cert.Kernel10Ideal.Gen Cert.Work Cert.Reference10Ideal.SsdStep

/-- Where one pair of heads of the state stands in the state's block. -/
theorem emb_pair (j : Fin 8) (b : ∀ a, (![0, j.val, 0, 0] : Fin 4 → ℕ) a + S1x1x128x128.size a ≤ S1x8x128x128.size a)
    (p0 p1 : Fin 1) (r n : Fin 128) :
    (Rect.unit (s := S1x8x128x128) ![0, j.val, 0, 0] S1x1x128x128.size b).emb (ix4 p0 p1 r n) = ix4 0 j r n := by
  refine funext fun a => Fin.ext ?_
  match a with
  | ⟨0, _⟩ => show 0 + 1 * p0.val = 0; omega
  | ⟨1, _⟩ => show j.val + 1 * p1.val = j.val; omega
  | ⟨2, _⟩ => show 0 + 1 * r.val = r.val; omega
  | ⟨3, _⟩ => show 0 + 1 * n.val = n.val; omega

/-- The new state of one pair of heads as the kernel computes it. -/
def pairS (d x b : FVec Ideal S1x128 .f32) (st : Vec Ideal S1x1x128x128 .f32) : FVec Ideal S128x128 .f32 :=
  addf (mulf (transpose S128x128 [1, 0] (broadcastTo S128x128 (shapeCast S1x128 d shapeCasts_S1x128_S1x128) broadcasts_S1x128_S128x128)
      transposes_S128x128_p1_0_S128x128) (shapeCast S128x128 st shapeCasts_S1x1x128x128_S128x128))
    (mulf (transpose S128x128 [1, 0] (broadcastTo S128x128 (shapeCast S1x128 x shapeCasts_S1x128_S1x128) broadcasts_S1x128_S128x128)
      transposes_S128x128_p1_0_S128x128) (broadcastTo S128x128 b broadcasts_S1x128_S128x128))

theorem pairS_apply (d x b : FVec Ideal S1x128 .f32) (st : Vec Ideal S1x1x128x128 .f32) (r n : Fin 128) :
    pairS d x b st (ix2 r n) = d (ix2 0 r) * st (ix4 0 0 r n) + x (ix2 0 r) * b (ix2 0 n) := by
  pointwise [pairS]

/-- What a pair's new state holds for the query, as the kernel computes it. -/
def pairY (cg : FVec Ideal S1x128 .f32) (s : FVec Ideal S128x128 .f32) : FVec Ideal S1x128 .f32 :=
  extractStridedSlice S1x128 ![0, 0] (matmul dot_S8x128_S128x128_S8x128_1_1_0_0_n_n none
    (truncf .bf16 (broadcastTo S8x128 (shapeCast S1x128 cg shapeCasts_S1x128_S1x128) broadcasts_S1x128_S8x128) bitsLt_bf16_f32)
    (truncf .bf16 s bitsLt_bf16_f32) (constant S8x128 .f32 0x00000000#32)) slices_S8x128_o0_0_S1x128

theorem pairY_apply (cg : FVec Ideal S1x128 .f32) (s : FVec Ideal S128x128 .f32) (r : Fin 128) :
    pairY cg s (ix2 0 r) = ∑ n : Fin 128, cg (ix2 0 n) * s (ix2 r n) := by
  pointwise [pairY]

/-- A pair's column. -/
abbrev pcol (j : Fin 8) (r : Fin 128) : Fin 1024 := ⟨j.val * 128 + r.val, by omega⟩

/-- A group's lane for a column of values. -/
abbrev glane (c : Fin 1024) (n : Fin 128) : Fin 256 := ⟨c.val / 512 * 128 + n.val, by omega⟩

section Pair

variable (D X : FVec Ideal S1x1024 .f32) (B C : FVec Ideal S1x256 .f32) (x4 : Vec Ideal S1x8x128x128 .f32)

/-- The new state, by column: from the decays, the values with their steps, and the keys. -/
def newS (c : Fin 1024) (n : Fin 128) : EReal :=
  D (ix2 0 c) * x4 (ix4 0 ⟨c.val / 128, by omega⟩ ⟨c.val % 128, Nat.mod_lt _ (by decide)⟩ n) + X (ix2 0 c) * B (ix2 0 (glane c n))

theorem pair_s (j : Fin 8) (o o' : ℕ) (ho : o = j.val * 128) (ho' : o' = j.val / 4 * 128) (hs : S1x1024.Slices ![0, o] S1x128)
    (hs' : S1x256.Slices ![0, o'] S1x128)
    (bs : ∀ a, (![0, j.val, 0, 0] : Fin 4 → ℕ) a + S1x1x128x128.size a ≤ S1x8x128x128.size a) (r n : Fin 128) :
    pairS (extractStridedSlice S1x128 ![0, o] D hs) (extractStridedSlice S1x128 ![0, o] X hs) (extractStridedSlice S1x128 ![0, o'] B hs')
        (View.ld x4 (Rect.unit (s := S1x8x128x128) ![0, j.val, 0, 0] S1x1x128x128.size bs)) (ix2 r n) = newS D X B x4 (pcol j r) n := by
  refine (pairS_apply _ _ _ _ r n).trans ?_
  unfold newS
  refine congrArg₂ (fun a b : EReal => a + b)
    (congrArg₂ (fun a b : EReal => a * b) (slice_cols D o hs 0 r (pcol j r) (by dsimp only; omega)) ?_)
    (congrArg₂ (fun a b : EReal => a * b) (slice_cols X o hs 0 r (pcol j r) (by dsimp only; omega))
      (slice_cols B o' hs' 0 n (glane (pcol j r) n) (by dsimp only; omega)))
  refine (congrArg x4 (emb_pair j bs 0 0 r n)).trans ?_
  exact congrArg₂ (fun a b => x4 (ix4 0 a b n)) (Fin.ext (by dsimp only; omega)) (Fin.ext (by dsimp only; omega))

/-- A pair's part of the state's block. -/
theorem pair_piece (j : Fin 8) (o o' : ℕ) (ho : o = j.val * 128) (ho' : o' = j.val / 4 * 128) (hs : S1x1024.Slices ![0, o] S1x128)
    (hs' : S1x256.Slices ![0, o'] S1x128)
    (bs : ∀ a, (![0, j.val, 0, 0] : Fin 4 → ℕ) a + S1x1x128x128.size a ≤ S1x8x128x128.size a) (x : S1x1x128x128.Idx) :
    shapeCast S1x1x128x128 (pairS (extractStridedSlice S1x128 ![0, o] D hs) (extractStridedSlice S1x128 ![0, o] X hs) (extractStridedSlice S1x128 ![0, o'] B hs')
        (View.ld x4 (Rect.unit (s := S1x8x128x128) ![0, j.val, 0, 0] S1x1x128x128.size bs))) shapeCasts_S128x128_S1x1x128x128 x
      = (fun y : S1x8x128x128.Idx => newS D X B x4 (pcol (y 1) (y 2)) (y 3))
          ((Rect.unit (s := S1x8x128x128) ![0, j.val, 0, 0] S1x1x128x128.size bs).emb x) := by
  obtain ⟨p0, p1, r, n, rfl⟩ : ∃ p0 p1 r n, x = ix4 p0 p1 r n := ⟨x 0, x 1, x 2, x 3, eq_ix4 x⟩
  rw [emb_pair j bs p0 p1 r n]
  refine Eq.trans ?_ (pair_s D X B x4 j o o' ho ho' hs hs' bs r n)
  generalize pairS _ _ _ _ = s
  pointwise []

theorem pair_y (j : Fin 8) (o o' : ℕ) (ho : o = j.val * 128) (ho' : o' = j.val / 4 * 128) (hs : S1x1024.Slices ![0, o] S1x128)
    (hs' : S1x256.Slices ![0, o'] S1x128)
    (bs : ∀ a, (![0, j.val, 0, 0] : Fin 4 → ℕ) a + S1x1x128x128.size a ≤ S1x8x128x128.size a) (r : Fin 128) :
    pairY (extractStridedSlice S1x128 ![0, o'] C hs') (pairS (extractStridedSlice S1x128 ![0, o] D hs) (extractStridedSlice S1x128 ![0, o] X hs)
        (extractStridedSlice S1x128 ![0, o'] B hs') (View.ld x4 (Rect.unit (s := S1x8x128x128) ![0, j.val, 0, 0] S1x1x128x128.size bs))) (ix2 0 r)
      = ∑ n : Fin 128, C (ix2 0 (glane (pcol j r) n)) * newS D X B x4 (pcol j r) n := by
  refine (pairY_apply _ _ r).trans (Finset.sum_congr rfl fun n _ => ?_)
  exact congrArg₂ (fun a b : EReal => a * b) (slice_cols C o' hs' 0 n (glane (pcol j r) n) (by dsimp only; omega))
    (pair_s D X B x4 j o o' ho ho' hs hs' bs r n)

end Pair

/-- The pairs' outputs side by side with the values' own part, gated, as the kernel computes it. -/
def gateK (o : Fin 8 → FVec Ideal S1x128 .f32) (xs : FVec Ideal S1x1024 .f32) (d : Vec Ideal S1x1024 .f32) (z : Vec Ideal S1x1x1024 .f32) :
    FVec Ideal S1x1024 .f32 :=
  mulf (addf (concatenate S1x1024 1 [⟨S1x128, o 0⟩, ⟨S1x128, o 1⟩, ⟨S1x128, o 2⟩, ⟨S1x128, o 3⟩, ⟨S1x128, o 4⟩, ⟨S1x128, o 5⟩, ⟨S1x128, o 6⟩, ⟨S1x128, o 7⟩]
      concatenates_S1x128_S1x128_S1x128_S1x128_S1x128_S1x128_S1x128_S1x128_S1x1024_d1) (mulf xs (shapeCast S1x1024 d shapeCasts_S1x1024_S1x1024)))
    (mulf (shapeCast S1x1024 z shapeCasts_S1x1x1024_S1x1024) (logistic (shapeCast S1x1024 z shapeCasts_S1x1x1024_S1x1024)))

theorem gateK_apply (o : Fin 8 → FVec Ideal S1x128 .f32) (xs : FVec Ideal S1x1024 .f32) (d : Vec Ideal S1x1024 .f32) (z : Vec Ideal S1x1x1024 .f32)
    (j : Fin 8) (r : Fin 128) : gateK o xs d z (ix2 0 (pcol j r))
      = (o j (ix2 0 r) + xs (ix2 0 (pcol j r)) * d (ix2 0 (pcol j r))) * (z (ix3 0 0 (pcol j r)) * Ideal.logistic (z (ix3 0 0 (pcol j r)))) := by
  unfold gateK
  have hc : concatenate S1x1024 1 [⟨S1x128, o 0⟩, ⟨S1x128, o 1⟩, ⟨S1x128, o 2⟩, ⟨S1x128, o 3⟩, ⟨S1x128, o 4⟩, ⟨S1x128, o 5⟩, ⟨S1x128, o 6⟩, ⟨S1x128, o 7⟩]
      concatenates_S1x128_S1x128_S1x128_S1x128_S1x128_S1x128_S1x128_S1x128_S1x1024_d1 (ix2 0 (pcol j r)) = o j (ix2 0 r) := by
    match j with
    | ⟨0, _⟩ => exact cat_cols _ _ 0 _ 0 (by simp) _ rfl 0 rfl r (by simp)
    | ⟨1, _⟩ => exact cat_cols _ _ 0 _ 1 (by simp) _ rfl 128 rfl r (by simp)
    | ⟨2, _⟩ => exact cat_cols _ _ 0 _ 2 (by simp) _ rfl 256 rfl r (by simp)
    | ⟨3, _⟩ => exact cat_cols _ _ 0 _ 3 (by simp) _ rfl 384 rfl r (by simp)
    | ⟨4, _⟩ => exact cat_cols _ _ 0 _ 4 (by simp) _ rfl 512 rfl r (by simp)
    | ⟨5, _⟩ => exact cat_cols _ _ 0 _ 5 (by simp) _ rfl 640 rfl r (by simp)
    | ⟨6, _⟩ => exact cat_cols _ _ 0 _ 6 (by simp) _ rfl 768 rfl r (by simp)
    | ⟨7, _⟩ => exact cat_cols _ _ 0 _ 7 (by simp) _ rfl 896 rfl r (by simp)
  generalize concatenate S1x1024 1 [⟨S1x128, o 0⟩, ⟨S1x128, o 1⟩, ⟨S1x128, o 2⟩, ⟨S1x128, o 3⟩, ⟨S1x128, o 4⟩, ⟨S1x128, o 5⟩, ⟨S1x128, o 6⟩, ⟨S1x128, o 7⟩]
      concatenates_S1x128_S1x128_S1x128_S1x128_S1x128_S1x128_S1x128_S1x128_S1x1024_d1 = K at hc ⊢
  rw [← hc]
  pointwise []

/-- A group's columns divided by their root mean square, as the kernel computes it. -/
def normK (u : FVec Ideal S1x512 .f32) : FVec Ideal S1x512 .f32 :=
  mulf u (broadcastTo S1x512 (rsqrt (addf (divf (shapeCast S1x1 (multiReduction (F := Ideal) .add [1] S1 (mulf u u) 0x00000000#32 reduces_S1x512_S1 (.inl rfl) rfl)
    shapeCasts_S1_S1x1) (broadcast S1x1 (Scalar.ofBits .f32 0x44000000#32))) (broadcast S1x1 (Scalar.ofBits .f32 0x358637BD#32)))) broadcasts_S1x1_S1x512)

theorem normK_apply (u : FVec Ideal S1x512 .f32) (q : Fin 512) : normK u (ix2 0 q)
    = u (ix2 0 q) * Ideal.rsqrt (Ideal.div (∑ q : Fin 512, u (ix2 0 q) * u (ix2 0 q)) (Ideal.ofBits .f32 0x44000000#32) + Ideal.ofBits .f32 0x358637BD#32) := by
  pointwise [normK]

theorem normS_apply (u : FVec Ideal S1x1024 .f32) (o : ℕ) (hs : S1x1024.Slices ![0, o] S1x512) (c : Fin 1024) (q : Fin 512) (ho : o = c.val / 512 * 512)
    (hq : q.val = c.val % 512) : normK (extractStridedSlice S1x512 ![0, o] u hs) (ix2 0 q)
    = u (ix2 0 c) * Ideal.rsqrt (Ideal.div (∑ q : Fin 512, u (ix2 0 (gcol c q)) * u (ix2 0 (gcol c q))) (Ideal.ofBits .f32 0x44000000#32)
        + Ideal.ofBits .f32 0x358637BD#32) := by
  have e (q : Fin 512) := slice_cols u o hs 0 q (gcol c q) (by dsimp only; omega)
  refine (normK_apply _ q).trans (congrArg₂ (fun a b : EReal => a * b) (slice_cols u o hs 0 q c (by omega)) ?_)
  refine congrArg (fun a : EReal => Ideal.rsqrt (Ideal.div a (Ideal.ofBits .f32 0x44000000#32) + Ideal.ofBits .f32 0x358637BD#32)) ?_
  exact Finset.sum_congr rfl fun q _ => congrArg₂ (fun a b : EReal => a * b) (e q) (e q)

/-- The two groups, each normed, side by side with the gain. -/
theorem tail_eq (u : FVec Ideal S1x1024 .f32) (g : Vec Ideal S1x1024 .f32) (c : Fin 1024) :
    k0_pay1 (F := Ideal) u (k0_pay51 g) (normK (extractStridedSlice S1x512 ![0, 0] u slices_S1x1024_o0_0_S1x512)) (ix3 0 0 c)
      = u (ix2 0 c) * Ideal.rsqrt (Ideal.div (∑ q : Fin 512, u (ix2 0 (gcol c q)) * u (ix2 0 (gcol c q))) (Ideal.ofBits .f32 0x44000000#32)
        + Ideal.ofBits .f32 0x358637BD#32) * g (ix2 0 c) := by
  have e : k0_pay1 (F := Ideal) u (k0_pay51 g) (normK (extractStridedSlice S1x512 ![0, 0] u slices_S1x1024_o0_0_S1x512))
      = shapeCast S1x1x1024 (mulf (concatenate S1x1024 1 [⟨S1x512, normK (extractStridedSlice S1x512 ![0, 0] u slices_S1x1024_o0_0_S1x512)⟩,
          ⟨S1x512, normK (extractStridedSlice S1x512 ![0, 512] u slices_S1x1024_o0_512_S1x512)⟩] concatenates_S1x512_S1x512_S1x1024_d1)
          (shapeCast S1x1024 g shapeCasts_S1x1024_S1x1024)) shapeCasts_S1x1024_S1x1x1024 := rfl
  rw [e]
  have hc : concatenate S1x1024 1 [⟨S1x512, normK (extractStridedSlice S1x512 ![0, 0] u slices_S1x1024_o0_0_S1x512)⟩,
          ⟨S1x512, normK (extractStridedSlice S1x512 ![0, 512] u slices_S1x1024_o0_512_S1x512)⟩] concatenates_S1x512_S1x512_S1x1024_d1 (ix2 0 c)
      = u (ix2 0 c) * Ideal.rsqrt (Ideal.div (∑ q : Fin 512, u (ix2 0 (gcol c q)) * u (ix2 0 (gcol c q))) (Ideal.ofBits .f32 0x44000000#32)
        + Ideal.ofBits .f32 0x358637BD#32) := by
    by_cases h : c.val < 512
    · exact (cat_cols _ _ 0 c 0 (by simp) _ rfl 0 rfl ⟨c.val % 512, Nat.mod_lt _ (by decide)⟩ (by dsimp only; omega)).trans
        (normS_apply u 0 _ c _ (by omega) rfl)
    · exact (cat_cols _ _ 0 c 1 (by simp) _ rfl 512 rfl ⟨c.val % 512, Nat.mod_lt _ (by decide)⟩ (by dsimp only; omega)).trans
        (normS_apply u 512 _ c _ (by omega) rfl)
  generalize concatenate S1x1024 1 [⟨S1x512, normK (extractStridedSlice S1x512 ![0, 0] u slices_S1x1024_o0_0_S1x512)⟩,
          ⟨S1x512, normK (extractStridedSlice S1x512 ![0, 512] u slices_S1x1024_o0_512_S1x512)⟩] concatenates_S1x512_S1x512_S1x1024_d1 = K at hc ⊢
  rw [← hc]
  pointwise []

theorem pay5_eq (v0 : Vec Ideal S1x1x1536 .f32) (v2 : Vec Ideal S1x3x1536 .f32) (v4 v6 v9 v13 v17 : Vec Ideal S1x1536 .f32) (n : Fin 1536) :
    k0_pay5 (F := Ideal) v0 v2 v4 v6 v9 v13 v17 (ix2 0 n)
      = (fun a : EReal => a * Ideal.logistic a) (v4 (ix2 0 n) + v6 (ix2 0 n) * v0 (ix3 0 0 n) + v9 (ix2 0 n) * v2 (ix3 0 0 n) + v13 (ix2 0 n) * v2 (ix3 0 1 n)
        + v17 (ix2 0 n) * v2 (ix3 0 2 n)) := by
  pointwise [k0_pay5, k0_pay2, k0_pay3]

theorem pay10_eq (v32 : FVec Ideal S1x128 .f32) (v33 : Vec Ideal S1x128 .f32) (a : Fin 8) (k : Fin 128) :
    k0_pay10 (F := Ideal) v32 v33 (ix2 a k) = softplus (v32 (ix2 0 k) + v33 (ix2 0 k)) := by
  rw [← softplus_eq]
  pointwise [k0_pay10]
  simp only [Ideal.absf_def, zero_sub]

/-- A product with the table that spreads the heads keeps the column's head. -/
theorem spread (f : Fin 128 → EReal) (ex : Fin 128 → EReal) (c : Fin 1024) (h : ∀ k, ex k = if c.val / 64 = k.val then 1 else 0) :
    ∑ k : Fin 128, f k * ex k = f ⟨c.val / 64, by omega⟩ := by
  refine (Finset.sum_eq_single (⟨c.val / 64, by omega⟩ : Fin 128) (fun k _ hk => ?_) (fun hk => absurd (Finset.mem_univ _) hk)).trans ?_
  · rw [h, if_neg fun e => hk (Fin.ext e.symm), mul_zero]
  · rw [h, if_pos rfl, mul_one]

section Out

variable (x0 : Vec Ideal S1x1x1024 .f32) (x1 : Vec Ideal S1x1x1536 .f32) (x2 : Vec Ideal S1x1x128 .f32) (x3 : Vec Ideal S1x3x1536 .f32)
  (x4 : Vec Ideal S1x8x128x128 .f32) (x5 : Vec Ideal S4x1536 .f32) (x6 : Vec Ideal S1x1536 .f32) (x7 : Vec Ideal S1x128 .f32)
  (x8 : Vec Ideal S1x128 .f32) (x9 : Vec Ideal S1x1024 .f32) (x10 : Vec Ideal S1x1024 .f32) (x11 : Vec Ideal S128x1024 .f32)

/-- The block's convolved row. -/
abbrev cvK : Fin 1536 → EReal := xc (fun n => x1 (ix3 0 0 n)) (fun k n => x3 (ix3 0 k n)) (fun k n => x5 (ix2 k n)) (fun n => x6 (ix2 0 n))

theorem ld_w (k : Fin 4) (b : ∀ a, (![k.val, 0] : Fin 2 → ℕ) a + S1x1536.size a ≤ S4x1536.size a) (n : Fin 1536) :
    View.ld x5 (Rect.unit (s := S4x1536) ![k.val, 0] S1x1536.size b) (ix2 0 n) = x5 (ix2 k n) := by
  refine congrArg x5 (funext fun a => Fin.ext ?_)
  match a with
  | ⟨0, _⟩ => rfl
  | ⟨1, _⟩ => show 0 + 1 * n.val = n.val; omega

theorem cv_eq (n : Fin 1536) : k0_pay5 (F := Ideal) (View.ld x1 r0_0) (View.ld x3 r0_1) (View.ld x6 r0_2) (View.ld x5 r0_3) (View.ld x5 r0_4)
    (View.ld x5 r0_5) (View.ld x5 r0_6) (ix2 0 n) = cvK x1 x3 x5 x6 n := by
  have e1 : View.ld x1 r0_0 = x1 := View.ld_unit_lit _ _ (by decide)
  have e3 : View.ld x3 r0_1 = x3 := View.ld_unit_lit _ _ (by decide)
  have e6 : View.ld x6 r0_2 = x6 := View.ld_unit_lit _ _ (by decide)
  rw [e1, e3, e6, pay5_eq]
  refine congrArg (fun a : EReal => a * Ideal.logistic a) ?_
  unfold conv
  exact congrArg₂ (fun a b : EReal => a + b) (congrArg₂ (fun a b : EReal => a + b) (congrArg₂ (fun a b : EReal => a + b)
    (congrArg (fun b : EReal => x6 (ix2 0 n) + b * x1 (ix3 0 0 n)) (ld_w x5 3 _ n))
    (congrArg (fun b : EReal => b * x3 (ix3 0 0 n)) (ld_w x5 0 _ n)))
    (congrArg (fun b : EReal => b * x3 (ix3 0 1 n)) (ld_w x5 1 _ n)))
    (congrArg (fun b : EReal => b * x3 (ix3 0 2 n)) (ld_w x5 2 _ n))

theorem xs_eq (c : Fin 1024) : k0_pay53 (F := Ideal) x0 x1 x2 x3 x4 x5 x6 x7 x8 x9 x10 x11 (ix2 0 c) = cvK x1 x3 x5 x6 (xcol c) :=
  (slice_cols _ 0 slices_S1x1536_o0_0_S1x1024 0 c (xcol c) (by dsimp only; omega)).trans (cv_eq x1 x3 x5 x6 _)

theorem bm_eq (c : Fin 1024) (n : Fin 128) : k0_pay54 (F := Ideal) x0 x1 x2 x3 x4 x5 x6 x7 x8 x9 x10 x11 (ix2 0 (glane c n)) = cvK x1 x3 x5 x6 (bcol c n) :=
  (slice_cols _ 1024 slices_S1x1536_o0_1024_S1x256 0 (glane c n) (bcol c n) (by dsimp only; omega)).trans (cv_eq x1 x3 x5 x6 _)

theorem cm_eq (c : Fin 1024) (n : Fin 128) : k0_pay55 (F := Ideal) x0 x1 x2 x3 x4 x5 x6 x7 x8 x9 x10 x11 (ix2 0 (glane c n)) = cvK x1 x3 x5 x6 (ccol c n) :=
  (slice_cols _ 1280 slices_S1x1536_o0_1280_S1x256 0 (glane c n) (ccol c n) (by dsimp only; omega)).trans (cv_eq x1 x3 x5 x6 _)

/-- The first sixteen lanes of a block's row. -/
abbrev lanes (x : Vec Ideal S1x128 .f32) (h : Fin 16) : EReal := x (ix2 0 ⟨h.val, by omega⟩)

theorem pay11_eq (v28 : FVec Ideal S1x1024 .f32) (v32 : FVec Ideal S1x128 .f32) (v33 : Vec Ideal S1x128 .f32) (v62 : Vec Ideal S128x1024 .f32) (c : Fin 1024) :
    k0_pay11 (F := Ideal) v28 v32 v33 v62 (ix2 0 c) = v28 (ix2 0 c) * ∑ k : Fin 128, k0_pay10 (F := Ideal) v32 v33 (ix2 0 k) * v62 (ix2 k c) := by
  unfold k0_pay11
  generalize k0_pay10 (F := Ideal) v32 v33 = p
  pointwise []

theorem pay12_eq (v32 : FVec Ideal S1x128 .f32) (v33 v55 : Vec Ideal S1x128 .f32) (v62 : Vec Ideal S128x1024 .f32) (c : Fin 1024) :
    k0_pay12 (F := Ideal) v32 v33 v55 v62 (ix2 0 c)
      = Ideal.exp (∑ k : Fin 128, k0_pay10 (F := Ideal) v32 v33 (ix2 0 k) * -(Ideal.exp (v55 (ix2 0 k))) * v62 (ix2 k c)) := by
  unfold k0_pay12
  generalize k0_pay10 (F := Ideal) v32 v33 = p
  pointwise []
  simp only [zero_sub]

variable (hex : ∀ (k : Fin 128) (c : Fin 1024), x11 (ix2 k c) = if c.val / 64 = k.val then 1 else 0)

include hex

theorem xd_eq (c : Fin 1024) : k0_pay57 (F := Ideal) x0 x1 x2 x3 x4 x5 x6 x7 x8 x9 x10 x11 (ix2 0 c)
    = cvK x1 x3 x5 x6 (xcol c) * dt (fun h => x2 (ix3 0 0 ⟨h.val, by omega⟩)) (lanes x7) (hd c) := by
  have e2 : View.ld x2 r0_7 = x2 := View.ld_unit_lit _ _ (by decide)
  have e7 : View.ld x7 r0_8 = x7 := View.ld_unit_lit _ _ (by decide)
  have e11 : View.ld x11 r0_9 = x11 := View.ld_unit_lit _ _ (by decide)
  have h9 (k : Fin 128) : k0_pay9 (F := Ideal) x2 (ix2 0 k) = x2 (ix3 0 0 k) := by pointwise [k0_pay9]
  unfold k0_pay57 k0_pay56
  rw [e2, e7, e11, pay11_eq, xs_eq, spread _ _ c fun k => hex k c, pay10_eq, h9]
  rfl

theorem dec_eq (c : Fin 1024) : k0_pay58 (F := Ideal) x0 x1 x2 x3 x4 x5 x6 x7 x8 x9 x10 x11 (ix2 0 c)
    = dec (fun h => x2 (ix3 0 0 ⟨h.val, by omega⟩)) (lanes x7) (lanes x8) (hd c) := by
  have e2 : View.ld x2 r0_7 = x2 := View.ld_unit_lit _ _ (by decide)
  have e7 : View.ld x7 r0_8 = x7 := View.ld_unit_lit _ _ (by decide)
  have e8 : View.ld x8 r0_8 = x8 := View.ld_unit_lit _ _ (by decide)
  have e11 : View.ld x11 r0_9 = x11 := View.ld_unit_lit _ _ (by decide)
  have h9 (k : Fin 128) : k0_pay9 (F := Ideal) x2 (ix2 0 k) = x2 (ix3 0 0 k) := by pointwise [k0_pay9]
  unfold k0_pay58 k0_pay56
  rw [e2, e7, e8, e11, pay12_eq, spread (fun k => k0_pay10 (F := Ideal) (k0_pay9 x2) x7 (ix2 0 k) * -(Ideal.exp (x8 (ix2 0 k)))) _ c fun k => hex k c, pay10_eq, h9]
  rfl

/-- The block's new state. -/
abbrev nxK : Fin 1024 → Fin 128 → EReal :=
  next (fun n => x1 (ix3 0 0 n)) (fun k n => x3 (ix3 0 k n)) (fun k n => x5 (ix2 k n)) (fun n => x6 (ix2 0 n))
    (fun h => x2 (ix3 0 0 ⟨h.val, by omega⟩)) (lanes x7) (lanes x8) (fun c n => x4 (ix4 0 ⟨c.val / 128, by omega⟩ ⟨c.val % 128, Nat.mod_lt _ (by decide)⟩ n))

theorem newS_eq (c : Fin 1024) (n : Fin 128) : newS (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 c n = nxK x1 x2 x3 x4 x5 x6 x7 x8 c n := by
  unfold newS
  rw [dec_eq x0 x1 x2 x3 x4 x5 x6 x7 x8 x9 x10 x11 hex, xd_eq x0 x1 x2 x3 x4 x5 x6 x7 x8 x9 x10 x11 hex, bm_eq]
  rfl

/-- The state's block after the grid point. -/
theorem out13 (y : S1x8x128x128.Idx) : out0_13 (F := Ideal) x0 x1 x2 x3 x4 x5 x6 x7 x8 x9 x10 x11 y = nxK x1 x2 x3 x4 x5 x6 x7 x8 (pcol (y 1) (y 2)) (y 3) := by
  refine Eq.trans ?_ (newS_eq x0 x1 x2 x3 x4 x5 x6 x7 x8 x9 x10 x11 hex (pcol (y 1) (y 2)) (y 3))
  refine View.canon_apply_of_pieces (Val := Elt Ideal)
    (fun y : S1x8x128x128.Idx => newS (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 (pcol (y 1) (y 2)) (y 3)) _ ?_ y (cover0_13 _ _ _ _ _ _ _ _ y)
  intro pc hpc x
  simp only [List.mem_cons, List.not_mem_nil, or_false] at hpc
  rcases hpc with rfl | rfl | rfl | rfl | rfl | rfl | rfl | rfl
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 7 896 128 rfl rfl slices_S1x1024_o0_896_S1x128 slices_S1x256_o0_128_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 6 768 128 rfl rfl slices_S1x1024_o0_768_S1x128 slices_S1x256_o0_128_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 5 640 128 rfl rfl slices_S1x1024_o0_640_S1x128 slices_S1x256_o0_128_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 4 512 128 rfl rfl slices_S1x1024_o0_512_S1x128 slices_S1x256_o0_128_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 3 384 0 rfl rfl slices_S1x1024_o0_384_S1x128 slices_S1x256_o0_0_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 2 256 0 rfl rfl slices_S1x1024_o0_256_S1x128 slices_S1x256_o0_0_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 1 128 0 rfl rfl slices_S1x1024_o0_128_S1x128 slices_S1x256_o0_0_S1x128 _ x
  · exact pair_piece (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 0 0 0 rfl rfl slices_S1x1024_o0_0_S1x128 slices_S1x256_o0_0_S1x128 _ x

omit hex

/-- The pairs' outputs as the kernel computes them, by pair. -/
def pairs : Fin 8 → FVec Ideal S1x128 .f32
  | 0 => pairY (extractStridedSlice S1x128 ![0, 0] (k0_pay55 (F := Ideal) x0 x1 x2 x3 x4 x5 x6 x7 x8 x9 x10 x11) slices_S1x256_o0_0_S1x128)
      (pairS (extractStridedSlice S1x128 ![0, 0] (k0_pay58 (F := Ideal) x0 x1 x2 x3 x4 x5 x6 x7 x8 x9 x10 x11) slices_S1x1024_o0_0_S1x128)
        (extractStridedSlice S1x128 ![0, 0] (k0_pay57 (F := Ideal) x0 x1 x2 x3 x4 x5 x6 x7 x8 x9 x10 x11) slices_S1x1024_o0_0_S1x128)
        (extractStridedSlice S1x128 ![0, 0] (k0_pay54 (F := Ideal) x0 x1 x2 x3 x4 x5 x6 x7 x8 x9 x10 x11) slices_S1x256_o0_0_S1x128) (View.ld x4 r0_10))
  | 1 => pairY (extractStridedSlice S1x128 ![0, 0] (k0_pay55 (F := Ideal) x0 x1 x2 x3 x4 x5 x6 x7 x8 x9 x10 x11) slices_S1x256_o0_0_S1x128)
      (pairS (extractStridedSlice S1x128 ![0, 128] (k0_pay58 (F := Ideal) x0 x1 x2 x3 x4 x5 x6 x7 x8 x9 x10 x11) slices_S1x1024_o0_128_S1x128)
        (extractStridedSlice S1x128 ![0, 128] (k0_pay57 (F := Ideal) x0 x1 x2 x3 x4 x5 x6 x7 x8 x9 x10 x11) slices_S1x1024_o0_128_S1x128)
        (extractStridedSlice S1x128 ![0, 0] (k0_pay54 (F := Ideal) x0 x1 x2 x3 x4 x5 x6 x7 x8 x9 x10 x11) slices_S1x256_o0_0_S1x128) (View.ld x4 r0_11))
  | 2 => pairY (extractStridedSlice S1x128 ![0, 0] (k0_pay55 (F := Ideal) x0 x1 x2 x3 x4 x5 x6 x7 x8 x9 x10 x11) slices_S1x256_o0_0_S1x128)
      (pairS (extractStridedSlice S1x128 ![0, 256] (k0_pay58 (F := Ideal) x0 x1 x2 x3 x4 x5 x6 x7 x8 x9 x10 x11) slices_S1x1024_o0_256_S1x128)
        (extractStridedSlice S1x128 ![0, 256] (k0_pay57 (F := Ideal) x0 x1 x2 x3 x4 x5 x6 x7 x8 x9 x10 x11) slices_S1x1024_o0_256_S1x128)
        (extractStridedSlice S1x128 ![0, 0] (k0_pay54 (F := Ideal) x0 x1 x2 x3 x4 x5 x6 x7 x8 x9 x10 x11) slices_S1x256_o0_0_S1x128) (View.ld x4 r0_12))
  | 3 => pairY (extractStridedSlice S1x128 ![0, 0] (k0_pay55 (F := Ideal) x0 x1 x2 x3 x4 x5 x6 x7 x8 x9 x10 x11) slices_S1x256_o0_0_S1x128)
      (pairS (extractStridedSlice S1x128 ![0, 384] (k0_pay58 (F := Ideal) x0 x1 x2 x3 x4 x5 x6 x7 x8 x9 x10 x11) slices_S1x1024_o0_384_S1x128)
        (extractStridedSlice S1x128 ![0, 384] (k0_pay57 (F := Ideal) x0 x1 x2 x3 x4 x5 x6 x7 x8 x9 x10 x11) slices_S1x1024_o0_384_S1x128)
        (extractStridedSlice S1x128 ![0, 0] (k0_pay54 (F := Ideal) x0 x1 x2 x3 x4 x5 x6 x7 x8 x9 x10 x11) slices_S1x256_o0_0_S1x128) (View.ld x4 r0_13))
  | 4 => pairY (extractStridedSlice S1x128 ![0, 128] (k0_pay55 (F := Ideal) x0 x1 x2 x3 x4 x5 x6 x7 x8 x9 x10 x11) slices_S1x256_o0_128_S1x128)
      (pairS (extractStridedSlice S1x128 ![0, 512] (k0_pay58 (F := Ideal) x0 x1 x2 x3 x4 x5 x6 x7 x8 x9 x10 x11) slices_S1x1024_o0_512_S1x128)
        (extractStridedSlice S1x128 ![0, 512] (k0_pay57 (F := Ideal) x0 x1 x2 x3 x4 x5 x6 x7 x8 x9 x10 x11) slices_S1x1024_o0_512_S1x128)
        (extractStridedSlice S1x128 ![0, 128] (k0_pay54 (F := Ideal) x0 x1 x2 x3 x4 x5 x6 x7 x8 x9 x10 x11) slices_S1x256_o0_128_S1x128) (View.ld x4 r0_14))
  | 5 => pairY (extractStridedSlice S1x128 ![0, 128] (k0_pay55 (F := Ideal) x0 x1 x2 x3 x4 x5 x6 x7 x8 x9 x10 x11) slices_S1x256_o0_128_S1x128)
      (pairS (extractStridedSlice S1x128 ![0, 640] (k0_pay58 (F := Ideal) x0 x1 x2 x3 x4 x5 x6 x7 x8 x9 x10 x11) slices_S1x1024_o0_640_S1x128)
        (extractStridedSlice S1x128 ![0, 640] (k0_pay57 (F := Ideal) x0 x1 x2 x3 x4 x5 x6 x7 x8 x9 x10 x11) slices_S1x1024_o0_640_S1x128)
        (extractStridedSlice S1x128 ![0, 128] (k0_pay54 (F := Ideal) x0 x1 x2 x3 x4 x5 x6 x7 x8 x9 x10 x11) slices_S1x256_o0_128_S1x128) (View.ld x4 r0_15))
  | 6 => pairY (extractStridedSlice S1x128 ![0, 128] (k0_pay55 (F := Ideal) x0 x1 x2 x3 x4 x5 x6 x7 x8 x9 x10 x11) slices_S1x256_o0_128_S1x128)
      (pairS (extractStridedSlice S1x128 ![0, 768] (k0_pay58 (F := Ideal) x0 x1 x2 x3 x4 x5 x6 x7 x8 x9 x10 x11) slices_S1x1024_o0_768_S1x128)
        (extractStridedSlice S1x128 ![0, 768] (k0_pay57 (F := Ideal) x0 x1 x2 x3 x4 x5 x6 x7 x8 x9 x10 x11) slices_S1x1024_o0_768_S1x128)
        (extractStridedSlice S1x128 ![0, 128] (k0_pay54 (F := Ideal) x0 x1 x2 x3 x4 x5 x6 x7 x8 x9 x10 x11) slices_S1x256_o0_128_S1x128) (View.ld x4 r0_16))
  | 7 => pairY (extractStridedSlice S1x128 ![0, 128] (k0_pay55 (F := Ideal) x0 x1 x2 x3 x4 x5 x6 x7 x8 x9 x10 x11) slices_S1x256_o0_128_S1x128)
      (pairS (extractStridedSlice S1x128 ![0, 896] (k0_pay58 (F := Ideal) x0 x1 x2 x3 x4 x5 x6 x7 x8 x9 x10 x11) slices_S1x1024_o0_896_S1x128)
        (extractStridedSlice S1x128 ![0, 896] (k0_pay57 (F := Ideal) x0 x1 x2 x3 x4 x5 x6 x7 x8 x9 x10 x11) slices_S1x1024_o0_896_S1x128)
        (extractStridedSlice S1x128 ![0, 128] (k0_pay54 (F := Ideal) x0 x1 x2 x3 x4 x5 x6 x7 x8 x9 x10 x11) slices_S1x256_o0_128_S1x128) (View.ld x4 r0_17))

theorem pairs_eq (j : Fin 8) (r : Fin 128) : pairs x0 x1 x2 x3 x4 x5 x6 x7 x8 x9 x10 x11 j (ix2 0 r)
    = ∑ n : Fin 128, (k0_pay55 (F := Ideal) x0 x1 x2 x3 x4 x5 x6 x7 x8 x9 x10 x11) (ix2 0 (glane (pcol j r) n)) * newS (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) x4 (pcol j r) n := by
  match j with
  | ⟨0, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 0 0 0 rfl rfl slices_S1x1024_o0_0_S1x128 slices_S1x256_o0_0_S1x128 _ r
  | ⟨1, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 1 128 0 rfl rfl slices_S1x1024_o0_128_S1x128 slices_S1x256_o0_0_S1x128 _ r
  | ⟨2, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 2 256 0 rfl rfl slices_S1x1024_o0_256_S1x128 slices_S1x256_o0_0_S1x128 _ r
  | ⟨3, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 3 384 0 rfl rfl slices_S1x1024_o0_384_S1x128 slices_S1x256_o0_0_S1x128 _ r
  | ⟨4, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 4 512 128 rfl rfl slices_S1x1024_o0_512_S1x128 slices_S1x256_o0_128_S1x128 _ r
  | ⟨5, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 5 640 128 rfl rfl slices_S1x1024_o0_640_S1x128 slices_S1x256_o0_128_S1x128 _ r
  | ⟨6, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 6 768 128 rfl rfl slices_S1x1024_o0_768_S1x128 slices_S1x256_o0_128_S1x128 _ r
  | ⟨7, _⟩ => exact pair_y (k0_pay58 (F := Ideal) x0 x1 x2 x3 x4 x5 x6 x7 x8 x9 x10 x11) (k0_pay57 (F := Ideal) x0 x1 x2 x3 x4 x5 x6 x7 x8 x9 x10 x11) (k0_pay54 (F := Ideal) x0 x1 x2 x3 x4 x5 x6 x7 x8 x9 x10 x11) (k0_pay55 (F := Ideal) x0 x1 x2 x3 x4 x5 x6 x7 x8 x9 x10 x11) x4 7 896 128 rfl rfl slices_S1x1024_o0_896_S1x128 slices_S1x256_o0_128_S1x128 _ r

/-- The block's gated outputs, from its windows. -/
abbrev gtK (dk : Fin 16 → EReal) : Fin 1024 → EReal :=
  gated (fun n => x1 (ix3 0 0 n)) (fun k n => x3 (ix3 0 k n)) (fun k n => x5 (ix2 k n)) (fun n => x6 (ix2 0 n))
    (fun h => x2 (ix3 0 0 ⟨h.val, by omega⟩)) (lanes x7) (lanes x8) dk
    (fun c n => x4 (ix4 0 ⟨c.val / 128, by omega⟩ ⟨c.val % 128, Nat.mod_lt _ (by decide)⟩ n)) (fun c => x0 (ix3 0 0 c))

include hex

/-- The block's gated outputs. -/
theorem gate_eq (dk : Fin 16 → EReal) (hdk : ∀ c : Fin 1024, x9 (ix2 0 c) = dk (hd c)) (c : Fin 1024) :
    gateK (pairs x0 x1 x2 x3 x4 x5 x6 x7 x8 x9 x10 x11) (k0_pay53 (F := Ideal) x0 x1 x2 x3 x4 x5 x6 x7 x8 x9 x10 x11) x9 x0 (ix2 0 c) = gtK x0 x1 x2 x3 x4 x5 x6 x7 x8 dk c := by
  obtain ⟨j, r, rfl⟩ : ∃ j r, c = pcol j r := ⟨⟨c.val / 128, by omega⟩, ⟨c.val % 128, Nat.mod_lt _ (by decide)⟩, Fin.ext (by dsimp only; omega)⟩
  rw [gateK_apply, pairs_eq, xs_eq, hdk]
  unfold gtK gated
  refine congrArg (fun a : EReal => (a + cvK x1 x3 x5 x6 (xcol (pcol j r)) * dk (hd (pcol j r))) * (x0 (ix3 0 0 (pcol j r)) * Ideal.logistic (x0 (ix3 0 0 (pcol j r))))) ?_
  exact Finset.sum_congr rfl fun n _ => congrArg₂ (fun a b : EReal => a * b) (cm_eq x0 x1 x2 x3 x4 x5 x6 x7 x8 x9 x10 x11 _ n) (newS_eq x0 x1 x2 x3 x4 x5 x6 x7 x8 x9 x10 x11 hex _ n)

/-- The first result's block after the grid point. -/
theorem out12 (dk : Fin 16 → EReal) (hdk : ∀ c : Fin 1024, x9 (ix2 0 c) = dk (hd c)) (c : Fin 1024) :
    out0_12 (F := Ideal) x0 x1 x2 x3 x4 x5 x6 x7 x8 x9 x10 x11 (ix3 0 0 c)
    = res (fun n => x1 (ix3 0 0 n)) (fun k n => x3 (ix3 0 k n)) (fun k n => x5 (ix2 k n)) (fun n => x6 (ix2 0 n))
      (fun h => x2 (ix3 0 0 ⟨h.val, by omega⟩)) (lanes x7) (lanes x8) dk
      (fun c n => x4 (ix4 0 ⟨c.val / 128, by omega⟩ ⟨c.val % 128, Nat.mod_lt _ (by decide)⟩ n)) (fun c => x0 (ix3 0 0 c)) (fun c => x10 (ix2 0 c)) c := by
  have e0 : View.ld x0 r0_19 = x0 := View.ld_unit_lit _ _ (by decide)
  have e9 : View.ld x9 r0_18 = x9 := View.ld_unit_lit _ _ (by decide)
  have e10 : View.ld x10 r0_18 = x10 := View.ld_unit_lit _ _ (by decide)
  have e : out0_12 (F := Ideal) x0 x1 x2 x3 x4 x5 x6 x7 x8 x9 x10 x11 = View.canon (Val := Elt Ideal) [⟨r0_19, k0_pay1
      (gateK (pairs x0 x1 x2 x3 x4 x5 x6 x7 x8 x9 x10 x11) (k0_pay53 (F := Ideal) x0 x1 x2 x3 x4 x5 x6 x7 x8 x9 x10 x11) (View.ld x9 r0_18) (View.ld x0 r0_19)) (k0_pay51 (View.ld x10 r0_18))
      (normK (extractStridedSlice S1x512 ![0, 0] (gateK (pairs x0 x1 x2 x3 x4 x5 x6 x7 x8 x9 x10 x11) (k0_pay53 (F := Ideal) x0 x1 x2 x3 x4 x5 x6 x7 x8 x9 x10 x11) (View.ld x9 r0_18) (View.ld x0 r0_19)) slices_S1x1024_o0_0_S1x512))⟩] := rfl
  rw [e, e0, e9, e10, View.canon_unit_zero (by decide)]
  refine (tail_eq _ x10 c).trans ?_
  simp only [gate_eq x0 x1 x2 x3 x4 x5 x6 x7 x8 x9 x10 x11 hex dk hdk]
  rfl

omit hex

/-- The third result's block after the grid point: the old rows without the first, then the new one. -/
theorem out14 (k : Fin 3) (n : Fin 1536) : out0_14 (F := Ideal) x0 x1 x2 x3 x4 x5 x6 x7 x8 x9 x10 x11 (ix3 0 k n)
    = if h : k.val < 2 then x3 (ix3 0 ⟨k.val + 1, by omega⟩ n) else x1 (ix3 0 0 n) := by
  have e1 : View.ld x1 r0_0 = x1 := View.ld_unit_lit _ _ (by decide)
  have e3 : View.ld x3 r0_1 = x3 := View.ld_unit_lit _ _ (by decide)
  have e : out0_14 (F := Ideal) x0 x1 x2 x3 x4 x5 x6 x7 x8 x9 x10 x11 = View.canon (Val := Elt Ideal) [⟨r0_1, k0_pay4 (View.ld x1 r0_0) (View.ld x3 r0_1)⟩] := rfl
  rw [e, e1, e3, View.canon_unit_zero (by decide)]
  have hc : concatenate S3x1536 0 [⟨S2x1536, extractStridedSlice S2x1536 ![1, 0] (k0_pay3 (F := Ideal) x3) slices_S3x1536_o1_0_S2x1536⟩,
      ⟨S1x1536, k0_pay2 (F := Ideal) x1⟩] concatenates_S2x1536_S1x1536_S3x1536_d0 (ix2 k n)
      = if h : k.val < 2 then x3 (ix3 0 ⟨k.val + 1, by omega⟩ n) else x1 (ix3 0 0 n) := by
    by_cases h : k.val < 2
    · rw [dif_pos h]
      refine (concatenate_apply_piece (t := S3x1536) 0 _ _ (ix2 k n) 0 (by simp) S2x1536 _ rfl rfl 0 rfl (ix2 ⟨k.val, h⟩ n) (fun b hb => ?_) (Nat.zero_add _)).trans ?_
      · match b with
        | ⟨0, _⟩ => exact absurd rfl hb
        | ⟨1, _⟩ => rfl
      · pointwise [k0_pay3]
        exact congrArg (fun a => x3 (ix3 0 a n)) (Fin.ext (by dsimp only; omega))
    · rw [dif_neg h]
      refine (concatenate_apply_piece (t := S3x1536) 0 _ _ (ix2 k n) 1 (by simp) S1x1536 _ rfl rfl 2 rfl (ix2 0 n) (fun b hb => ?_) (by show 2 + 0 = k.val; omega)).trans ?_
      · match b with
        | ⟨0, _⟩ => exact absurd rfl hb
        | ⟨1, _⟩ => rfl
      · pointwise [k0_pay2]
  unfold k0_pay4
  generalize concatenate S3x1536 0 [⟨S2x1536, extractStridedSlice S2x1536 ![1, 0] (k0_pay3 (F := Ideal) x3) slices_S3x1536_o1_0_S2x1536⟩,
      ⟨S1x1536, k0_pay2 (F := Ideal) x1⟩] concatenates_S2x1536_S1x1536_S3x1536_d0 = K at hc ⊢
  rw [← hc]
  pointwise []

end Out

end Cert.Kernel10Ideal.SsdStep

end
-- ==== Proof.SsdRun.lean ====
module

public import proofs.«01_k».proof.Proof.Gen.Kernel10Ideal.Frame
public import Idealize.ShloMosaic.Lib.Pipeline.Value

@[expose] public section

noncomputable section

namespace Cert.Kernel10Ideal.SsdStep

open Cert.Kernel10Ideal Cert.Kernel10Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v13_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v13_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v13_2) = (dats m 0 c).arrAt 14 cfg0.N :=
  (h c).1 14

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 12 cfg0.N
      ∧ r.2.mem ((c : Thread nD τ).loc main_v13_1) = (dats m 0 c).arrAt 13 cfg0.N
      ∧ r.2.mem ((c : Thread nD τ).loc main_v13_2) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel10Ideal.SsdStep

end
-- ==== Proof.SsdLit.lean ====
module

public import proofs.«01_k».proof.Kernel10Ideal

@[expose] public section

set_option maxRecDepth 65536

open Idealize.ShloMosaic

namespace Cert.Kernel10Ideal.SsdLit

open Cert.Kernel10Ideal

/-- A part of the table past the heads' own rows holds zeros. -/
theorem zero_part (i : Nat) : lit0t0_128 i = 0#32 := by
  unfold lit0t0_128
  split <;> rfl

/-- Sixteen rows past the heads' own hold zeros. -/
theorem zero_rows (i : Nat) : lit0t1_1 i = 0#32 := by
  unfold lit0t1_1
  split <;> first | rfl | exact zero_part i

/-- All rows past the heads' own hold zeros. -/
theorem zero_tail (i : Nat) (h : 16384 ≤ i) : lit0t i = 0#32 := by
  unfold lit0t
  split <;> first | rfl | exact zero_rows i | omega

/-- The first eight heads' rows, by evaluation. -/
theorem head_rows0 : ∀ a : Fin 8, ∀ t : Fin 8, ∀ b : Fin 128, lit0t (a.val * 1024 + t.val * 128 + b.val)
    = if (t.val * 128 + b.val) / 64 = a.val then 0x3F800000#32 else 0x00000000#32 := by decide +kernel

/-- The other eight heads' rows, by evaluation. -/
theorem head_rows1 : ∀ a : Fin 8, ∀ t : Fin 8, ∀ b : Fin 128, lit0t ((8 + a.val) * 1024 + t.val * 128 + b.val)
    = if (t.val * 128 + b.val) / 64 = 8 + a.val then 0x3F800000#32 else 0x00000000#32 := by decide +kernel

/-- The table that spreads each head over its sixty-four columns: one where the column's head is the row, zero elsewhere. -/
theorem lit (k : Fin 128) (q : Fin 1024) : lit0t (k.val * 1024 + q.val) = if q.val / 64 = k.val then 0x3F800000#32 else 0x00000000#32 := by
  have hq : q.val / 128 * 128 + q.val % 128 = q.val := by omega
  by_cases h0 : k.val < 8
  · have h := head_rows0 ⟨k.val, h0⟩ ⟨q.val / 128, by omega⟩ ⟨q.val % 128, Nat.mod_lt _ (by decide)⟩
    dsimp only at h
    rwa [Nat.add_assoc, hq] at h
  · by_cases h1 : k.val < 16
    · have h := head_rows1 ⟨k.val - 8, by omega⟩ ⟨q.val / 128, by omega⟩ ⟨q.val % 128, Nat.mod_lt _ (by decide)⟩
      dsimp only at h
      rwa [Nat.add_assoc, hq, show 8 + (k.val - 8) = k.val by omega] at h
    · rw [zero_tail _ (by omega), if_neg (by omega)]

end Cert.Kernel10Ideal.SsdLit
-- ==== Proof.SsdStepFinal.lean ====
module

public import proofs.«01_k».proof.Proof.SsdStep
public import proofs.«01_k».proof.Proof.SsdRun
public import proofs.«01_k».proof.Proof.SsdLit

@[expose] public section

set_option maxRecDepth 16384

noncomputable section

open Idealize.ShloMosaic Idealize.ShloMosaic.TcCoe Idealize.SL.Sem
open Idealize.ShloMosaic.Pipeline (Dat)

namespace Cert.Kernel10Ideal.SsdStep

open Cert.Kernel10Ideal Cert.Kernel10Ideal.Gen Cert.Work Cert.Reference10Ideal.SsdStep

variable (m : (ℓ : Loc nD τ sig) → Buf (Elt Ideal) ℓ) (c : Dev nD)

/-- The windows' block indices: the rows follow the grid point, the weights stay. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0, 0] ∧ win0_13.index t = ![t.val, 0, 0, 0] ∧ win0_14.index t = ![t.val, 0, 0] :=
  (by decide +kernel : ∀ t : Fin grid0.N, _)

theorem t_lt (t : Fin cfg0.N) : t.val < 128 := lt_of_lt_of_eq t.isLt (by decide +kernel)

/-- The row of a grid point. -/
abbrev pt (t : Fin cfg0.N) : Fin 128 := ⟨t.val, t_lt t⟩

/-- The call's arguments. -/
abbrev a0 : FVec Ideal S128x1024 .f32 := m ((c : Thread nD τ).loc main_arg0)
abbrev a1 : FVec Ideal S128x1536 .f32 := m ((c : Thread nD τ).loc main_arg1)
abbrev a2 : FVec Ideal S128x128 .f32 := m ((c : Thread nD τ).loc main_arg2)
abbrev a3 : FVec Ideal S128x3x1536 .f32 := m ((c : Thread nD τ).loc main_arg3)
abbrev a4 : FVec Ideal S128x16x64x128 .f32 := m ((c : Thread nD τ).loc main_arg4)
abbrev a5 : FVec Ideal S4x1536 .f32 := m ((c : Thread nD τ).loc main_arg5)
abbrev a6 : FVec Ideal S1536 .f32 := m ((c : Thread nD τ).loc main_arg6)
abbrev a7 : FVec Ideal S16 .f32 := m ((c : Thread nD τ).loc main_arg7)
abbrev a8 : FVec Ideal S16 .f32 := m ((c : Thread nD τ).loc main_arg8)
abbrev a9 : FVec Ideal S16 .f32 := m ((c : Thread nD τ).loc main_arg9)
abbrev a10 : FVec Ideal S1024 .f32 := m ((c : Thread nD τ).loc main_arg10)

theorem V_z : (V m c main_v9 : FVec Ideal S128x1x1024 .f32)
    = shapeCast S128x1x1024 (a0 m c) shapeCasts_S128x1024_S128x1x1024 := by
  dsimp only [V]
  simp only [hostOps0, hostOps0_1, hostOps0_2, hostOps0_3, hostOps0_4, List.flatten_cons, List.flatten_nil, List.append_nil, List.cons_append, List.nil_append]
  after_results
  rfl

theorem V_x : (V m c main_v10 : FVec Ideal S128x1x1536 .f32)
    = shapeCast S128x1x1536 (a1 m c) shapeCasts_S128x1536_S128x1x1536 := by
  dsimp only [V]
  simp only [hostOps0, hostOps0_1, hostOps0_2, hostOps0_3, hostOps0_4, List.flatten_cons, List.flatten_nil, List.append_nil, List.cons_append, List.nil_append]
  after_results
  rfl

theorem V_s : (V m c main_v11 : FVec Ideal S128x1x128 .f32)
    = shapeCast S128x1x128 (a2 m c) shapeCasts_S128x128_S128x1x128 := by
  dsimp only [V]
  simp only [hostOps0, hostOps0_1, hostOps0_2, hostOps0_3, hostOps0_4, List.flatten_cons, List.flatten_nil, List.append_nil, List.cons_append, List.nil_append]
  after_results
  rfl

theorem V_st : (V m c main_v12 : FVec Ideal S128x8x128x128 .f32)
    = shapeCast S128x8x128x128 (a4 m c) shapeCasts_S128x16x64x128_S128x8x128x128 := by
  dsimp only [V]
  simp only [hostOps0, hostOps0_1, hostOps0_2, hostOps0_3, hostOps0_4, List.flatten_cons, List.flatten_nil, List.append_nil, List.cons_append, List.nil_append]
  after_results
  rfl

theorem V_cb : (V m c main_v0 : FVec Ideal S1x1536 .f32)
    = shapeCast S1x1536 (a6 m c) shapeCasts_S1536_S1x1536 := by
  dsimp only [V]
  simp only [hostOps0, hostOps0_1, hostOps0_2, hostOps0_3, hostOps0_4, List.flatten_cons, List.flatten_nil, List.append_nil, List.cons_append, List.nil_append]
  after_results
  rfl

theorem V_db : (V m c main_v2 : FVec Ideal S1x128 .f32)
    = shapeCast S1x128 (pad S128 ![0] ![112] ![0] (a7 m c) (sitofp (F := Ideal) .f32 (constantI S_ 32 0#32)) pads_S16_S128_01120 h_S_) shapeCasts_S128_S1x128 := by
  dsimp only [V]
  simp only [hostOps0, hostOps0_1, hostOps0_2, hostOps0_3, hostOps0_4, List.flatten_cons, List.flatten_nil, List.append_nil, List.cons_append, List.nil_append]
  after_results
  rfl

theorem V_al : (V m c main_v4 : FVec Ideal S1x128 .f32)
    = shapeCast S1x128 (pad S128 ![0] ![112] ![0] (a8 m c) (sitofp (F := Ideal) .f32 (constantI S_ 32 0#32)) pads_S16_S128_01120 h_S_) shapeCasts_S128_S1x128 := by
  dsimp only [V]
  simp only [hostOps0, hostOps0_1, hostOps0_2, hostOps0_3, hostOps0_4, List.flatten_cons, List.flatten_nil, List.append_nil, List.cons_append, List.nil_append]
  after_results
  rfl

theorem V_dk : (V m c main_v7 : FVec Ideal S1x1024 .f32)
    = shapeCast S1x1024 (shapeCast S1024 (broadcastInDim S16x64 ![0] bcast_S16_S16x64_0 (a9 m c)) shapeCasts_S16x64_S1024) shapeCasts_S1024_S1x1024 := by
  dsimp only [V]
  simp only [hostOps0, hostOps0_1, hostOps0_2, hostOps0_3, hostOps0_4, List.flatten_cons, List.flatten_nil, List.append_nil, List.cons_append, List.nil_append]
  after_results
  rfl

theorem V_g : (V m c main_v8 : FVec Ideal S1x1024 .f32)
    = shapeCast S1x1024 (a10 m c) shapeCasts_S1024_S1x1024 := by
  dsimp only [V]
  simp only [hostOps0, hostOps0_1, hostOps0_2, hostOps0_3, hostOps0_4, List.flatten_cons, List.flatten_nil, List.append_nil, List.cons_append, List.nil_append]
  after_results
  rfl

theorem V_ex : (V m c main_cst : FVec Ideal S128x1024 .f32)
    = fun i => Ideal.ofBits .f32 (lit0 (S128x1024.rowMajor i)) := by
  dsimp only [V]
  simp only [hostOps0, hostOps0_1, hostOps0_2, hostOps0_3, hostOps0_4, List.flatten_cons, List.flatten_nil, List.append_nil, List.cons_append, List.nil_append]
  after_results
  rfl

theorem x0_eq (t : Fin cfg0.N) (n : Fin 1024) : iblk m c 0 t (ix3 0 0 n) = a0 m c (ix2 (pt t) n) := by
  have e : iblk m c 0 t (ix3 0 0 n) = (V m c main_v9 : FVec Ideal S128x1x1024 .f32) (ix3 (pt t) 0 n) := by
    blk_ext [iblk, idx t]
  refine e.trans ?_
  rw [V_z]
  pointwise []

theorem x1_eq (t : Fin cfg0.N) (n : Fin 1536) : iblk m c 1 t (ix3 0 0 n) = a1 m c (ix2 (pt t) n) := by
  have e : iblk m c 1 t (ix3 0 0 n) = (V m c main_v10 : FVec Ideal S128x1x1536 .f32) (ix3 (pt t) 0 n) := by
    blk_ext [iblk, idx t]
  refine e.trans ?_
  rw [V_x]
  pointwise []

theorem x2_eq (t : Fin cfg0.N) (n : Fin 128) : iblk m c 2 t (ix3 0 0 n) = a2 m c (ix2 (pt t) n) := by
  have e : iblk m c 2 t (ix3 0 0 n) = (V m c main_v11 : FVec Ideal S128x1x128 .f32) (ix3 (pt t) 0 n) := by
    blk_ext [iblk, idx t]
  refine e.trans ?_
  rw [V_s]
  pointwise []

theorem x3_eq (t : Fin cfg0.N) (k : Fin 3) (n : Fin 1536) : iblk m c 3 t (ix3 0 k n) = a3 m c (ix3 (pt t) k n) := by
  have e : iblk m c 3 t (ix3 0 k n) = (V m c main_arg3 : FVec Ideal S128x3x1536 .f32) (ix3 (pt t) k n) := by
    blk_ext [iblk, idx t]
  exact e.trans (congrFun (V_main_arg3 m c) _)

theorem x4_eq (t : Fin cfg0.N) (q : Fin 1024) (n : Fin 128) : iblk m c 4 t (ix4 0 ⟨q.val / 128, by omega⟩ ⟨q.val % 128, Nat.mod_lt _ (by decide)⟩ n)
    = a4 m c (ix4 (pt t) (hd q) (lane q) n) := by
  have e : iblk m c 4 t (ix4 0 ⟨q.val / 128, by omega⟩ ⟨q.val % 128, Nat.mod_lt _ (by decide)⟩ n)
      = (V m c main_v12 : FVec Ideal S128x8x128x128 .f32) (ix4 (pt t) ⟨q.val / 128, by omega⟩ ⟨q.val % 128, Nat.mod_lt _ (by decide)⟩ n) := by
    blk_ext [iblk, idx t]
  refine e.trans ?_
  rw [V_st]
  pointwise []
  exact congrArg₂ (fun a b => a4 m c (ix4 (pt t) a b n)) (Fin.ext (by dsimp only; omega)) (Fin.ext (by dsimp only; omega))

theorem x5_eq (t : Fin cfg0.N) (k : Fin 4) (n : Fin 1536) : iblk m c 5 t (ix2 k n) = a5 m c (ix2 k n) := by
  have e : iblk m c 5 t (ix2 k n) = (V m c main_arg5 : FVec Ideal S4x1536 .f32) (ix2 k n) := by
    blk_ext [iblk, idx t]
  exact e.trans (congrFun (V_main_arg5 m c) _)

theorem x6_eq (t : Fin cfg0.N) (n : Fin 1536) : iblk m c 6 t (ix2 0 n) = a6 m c (ix1 n) := by
  have e : iblk m c 6 t (ix2 0 n) = (V m c main_v0 : FVec Ideal S1x1536 .f32) (ix2 0 n) := by
    blk_ext [iblk, idx t]
  refine e.trans ?_
  rw [V_cb]
  pointwise []

theorem x7_eq (t : Fin cfg0.N) (h : Fin 16) : iblk m c 7 t (ix2 0 ⟨h.val, by omega⟩) = a7 m c (ix1 h) := by
  have e : iblk m c 7 t (ix2 0 ⟨h.val, by omega⟩) = (V m c main_v2 : FVec Ideal S1x128 .f32) (ix2 0 ⟨h.val, by omega⟩) := by
    blk_ext [iblk, idx t]
  refine e.trans ?_
  rw [V_db]
  pointwise []

theorem x8_eq (t : Fin cfg0.N) (h : Fin 16) : iblk m c 8 t (ix2 0 ⟨h.val, by omega⟩) = a8 m c (ix1 h) := by
  have e : iblk m c 8 t (ix2 0 ⟨h.val, by omega⟩) = (V m c main_v4 : FVec Ideal S1x128 .f32) (ix2 0 ⟨h.val, by omega⟩) := by
    blk_ext [iblk, idx t]
  refine e.trans ?_
  rw [V_al]
  pointwise []

theorem x9_eq (t : Fin cfg0.N) (q : Fin 1024) : iblk m c 9 t (ix2 0 q) = a9 m c (ix1 (hd q)) := by
  have e : iblk m c 9 t (ix2 0 q) = (V m c main_v7 : FVec Ideal S1x1024 .f32) (ix2 0 q) := by
    blk_ext [iblk, idx t]
  refine e.trans ?_
  rw [V_dk]
  pointwise []

theorem x10_eq (t : Fin cfg0.N) (q : Fin 1024) : iblk m c 10 t (ix2 0 q) = a10 m c (ix1 q) := by
  have e : iblk m c 10 t (ix2 0 q) = (V m c main_v8 : FVec Ideal S1x1024 .f32) (ix2 0 q) := by
    blk_ext [iblk, idx t]
  refine e.trans ?_
  rw [V_g]
  pointwise []

/-- The table that spreads the heads, by its values. -/
theorem lit_eq (k : Fin 128) (q : Fin 1024) : Ideal.ofBits .f32 (lit0 (S128x1024.rowMajor (ix2 k q))) = if q.val / 64 = k.val then 1 else 0 := by
  have hr : (S128x1024.rowMajor (ix2 k q)).val = k.val * 1024 + q.val := rowMajor_val2 (d := ![128, 1024]) (ix2 k q) 1024 rfl
  have e : lit0 (S128x1024.rowMajor (ix2 k q)) = lit0t (k.val * 1024 + q.val) := congrArg lit0t hr
  rw [e, SsdLit.lit]
  by_cases h : q.val / 64 = k.val
  · rw [if_pos h, if_pos h]
    simp [Ideal.ofBits, Ideal.ieee, -EReal.coe_mul]; norm_num
  · rw [if_neg h, if_neg h]
    simp [Ideal.ofBits, Ideal.ieee]

theorem x11_eq (t : Fin cfg0.N) (k : Fin 128) (q : Fin 1024) : iblk m c 11 t (ix2 k q) = (if q.val / 64 = k.val then (1 : EReal) else 0) := by
  have e : iblk m c 11 t (ix2 k q) = (V m c main_cst : FVec Ideal S128x1024 .f32) (ix2 k q) := by
    blk_ext [iblk, idx t]
  refine e.trans ?_
  rw [V_ex]
  exact lit_eq k q

theorem l7_eq (t : Fin cfg0.N) : lanes (iblk m c 7 t) = fun h => a7 m c (ix1 h) := funext (x7_eq m c t)

theorem l8_eq (t : Fin cfg0.N) : lanes (iblk m c 8 t) = fun h => a8 m c (ix1 h) := funext (x8_eq m c t)

/-- A grid point's new state is the reference's row. -/
theorem nx_eq (t : Fin cfg0.N) : nxK (iblk m c 1 t) (iblk m c 2 t) (iblk m c 3 t) (iblk m c 4 t) (iblk m c 5 t) (iblk m c 6 t) (iblk m c 7 t) (iblk m c 8 t)
    = nxR (a1 m c) (a2 m c) (a3 m c) (a4 m c) (a5 m c) (a6 m c) (a7 m c) (a8 m c) (pt t) := by
  unfold nxK nxR
  simp only [l7_eq, l8_eq, x1_eq, x2_eq, x3_eq, x4_eq, x5_eq, x6_eq]

/-- The first result array after the run is the reference's. -/
theorem final12 : (dats m 0 c).arrAt 12 (cfgs 0).N = Cert.Reference10Ideal.Read.val_main_v65 (F := Ideal) (a0 m c) (a1 m c) (a2 m c) (a3 m c) (a4 m c) (a5 m c) (a6 m c) (a7 m c) (a8 m c) (a9 m c) (a10 m c) := by
  refine (dats m 0 c).arrAt_eq_of_covers 12 _ (by decide +kernel) fun t _ y => ?_
  blk_simp
  rw [after0_12]
  idx_vars y
  have he : ((View.whole main_v13_0).slice (win0_12.rect t)).emb (ix3 y0 y1 y2) = (ix3 (pt t) 0 y2 : S128x1x1024.Idx) := by
    blk_ext [idx t]
  rw [he, y_ref]
  obtain rfl : y0 = 0 := Subsingleton.elim _ _
  obtain rfl : y1 = 0 := Subsingleton.elim _ _
  refine (out12 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (x11_eq m c t) (fun h => a9 m c (ix1 h)) (x9_eq m c t) y2).trans ?_
  simp only [l7_eq, l8_eq, x0_eq, x1_eq, x2_eq, x3_eq, x4_eq, x5_eq, x6_eq, x10_eq]

/-- The second result array after the run is the reference's. -/
theorem final13 : (dats m 0 c).arrAt 13 (cfgs 0).N = Cert.Reference10Ideal.Read.val_main_v66 (F := Ideal) (a1 m c) (a2 m c) (a3 m c) (a4 m c) (a5 m c) (a6 m c) (a7 m c) (a8 m c) := by
  refine (dats m 0 c).arrAt_eq_of_covers 13 _ (by decide +kernel) fun t _ y => ?_
  blk_simp
  rw [after0_13]
  idx_vars y
  have he : ((View.whole main_v13_1).slice (win0_13.rect t)).emb (ix4 y0 y1 y2 y3) = (ix4 (pt t) y1 y2 y3 : S128x8x128x128.Idx) := by
    blk_ext [idx t]
  rw [he, s_ref]
  refine (out13 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (x11_eq m c t) (ix4 y0 y1 y2 y3)).trans ?_
  exact congrFun (congrFun (nx_eq m c t) (pcol y1 y2)) y3

/-- The third result array after the run is the reference's. -/
theorem final14 : (dats m 0 c).arrAt 14 (cfgs 0).N = Cert.Reference10Ideal.Read.val_main_v67 (F := Ideal) (a1 m c) (a3 m c) := by
  refine (dats m 0 c).arrAt_eq_of_covers 14 _ (by decide +kernel) fun t _ y => ?_
  blk_simp
  rw [after0_14]
  idx_vars y
  have he : ((View.whole main_v13_2).slice (win0_14.rect t)).emb (ix3 y0 y1 y2) = (ix3 (pt t) y1 y2 : S128x3x1536.Idx) := by
    blk_ext [idx t]
  rw [he, w_ref]
  obtain rfl : y0 = 0 := Subsingleton.elim _ _
  refine (out14 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) y1 y2).trans ?_
  simp only [x1_eq, x3_eq]

end Cert.Kernel10Ideal.SsdStep

end
-- ==== Proof.SsdStepClaim.lean ====
module

public import proofs.«01_k».proof.Defs
public import proofs.«01_k».proof.Proof.SsdStepFinal
public import proofs.«01_k».proof.Proof.Gen.Kernel10.Frame
public import proofs.«01_k».proof.Proof.Gen.Reference10Ideal.Run

@[expose] public section

set_option maxRecDepth 16384

noncomputable section

open Idealize.ShloMosaic Idealize.ShloMosaic.TcCoe Idealize.SL.Sem

namespace Cert.Proof.SsdStepClaims

/-- The printed kernel's frame: the samples' step of the state-space layer. -/
theorem frame_k : Cert.quiescent_Kernel10 := fun m ρ _ => Cert.Kernel10.Gen.frame m ρ

/-- The idealized kernel's frame: the samples' step of the state-space layer. -/
theorem frame_ki : Cert.quiescent_Kernel10Ideal := fun m ρ _ => Cert.Kernel10Ideal.Gen.frame m ρ

/-- The reference's frame: its run, read at the arguments; it declares no semaphore. -/
theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The idealizing pass renamed nothing here. -/
theorem preserves : Cert.preserves_Kernel10_Kernel10Ideal := trivial

/-- The samples' step of the state-space layer and its reference end with equal results over the extended reals. -/
theorem algebraic : Cert.algebraic_Kernel10Ideal_Reference10Ideal := by
  intro m ρ m' ρ' _ hag
  refine ⟨fun c => Cert.Reference10Ideal.Read.val_main_v65 (F := Ideal) (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4))
      (m ((c.tc : Thread Cert.Kernel10Ideal.nD Cert.Kernel10Ideal.τ).loc Cert.Kernel10Ideal.main_arg5))
      (m ((c.tc : Thread Cert.Kernel10Ideal.nD Cert.Kernel10Ideal.τ).loc Cert.Kernel10Ideal.main_arg6))
      (m ((c.tc : Thread Cert.Kernel10Ideal.nD Cert.Kernel10Ideal.τ).loc Cert.Kernel10Ideal.main_arg7))
      (m ((c.tc : Thread Cert.Kernel10Ideal.nD Cert.Kernel10Ideal.τ).loc Cert.Kernel10Ideal.main_arg8))
      (m ((c.tc : Thread Cert.Kernel10Ideal.nD Cert.Kernel10Ideal.τ).loc Cert.Kernel10Ideal.main_arg9))
      (m ((c.tc : Thread Cert.Kernel10Ideal.nD Cert.Kernel10Ideal.τ).loc Cert.Kernel10Ideal.main_arg10)),
    fun c => Cert.Reference10Ideal.Read.val_main_v66 (F := Ideal) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4))
      (m ((c.tc : Thread Cert.Kernel10Ideal.nD Cert.Kernel10Ideal.τ).loc Cert.Kernel10Ideal.main_arg5))
      (m ((c.tc : Thread Cert.Kernel10Ideal.nD Cert.Kernel10Ideal.τ).loc Cert.Kernel10Ideal.main_arg6))
      (m ((c.tc : Thread Cert.Kernel10Ideal.nD Cert.Kernel10Ideal.τ).loc Cert.Kernel10Ideal.main_arg7))
      (m ((c.tc : Thread Cert.Kernel10Ideal.nD Cert.Kernel10Ideal.τ).loc Cert.Kernel10Ideal.main_arg8)),
    fun c => Cert.Reference10Ideal.Read.val_main_v67 (F := Ideal) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg3)), ?_, ?_⟩
  · exact (θ_run Cert.Kernel10Ideal.defs _ _).mono
      (fun _ h c => ⟨(h c).1.trans (Cert.Kernel10Ideal.SsdStep.final12 m c), (h c).2.1.trans (Cert.Kernel10Ideal.SsdStep.final13 m c),
        (h c).2.2.1.trans (Cert.Kernel10Ideal.SsdStep.final14 m c), (h c).2.2.2⟩)
      (Cert.Kernel10Ideal.SsdStep.run_blocks (F := Ideal) m ρ)
  · refine (θ_run Cert.Reference10Ideal.defs _ _).mono (fun _ h c => ?_) (Cert.Reference10Ideal.Value.run (F := Ideal) m' ρ')
    obtain ⟨h0, h1, h2, h3, h4, h5, h6, h7, h8, h9, h10⟩ := hag c
    exact ⟨(h c).1.trans ((Cert.Reference10Ideal.Read.val_main_v65_eq m' c).trans (by rw [h0, h1, h2, h3, h4, h5, h6, h7, h8, h9, h10])),
      (h c).2.1.trans ((Cert.Reference10Ideal.Read.val_main_v66_eq m' c).trans (by rw [h1, h2, h3, h4, h5, h6, h7, h8])),
      (h c).2.2.1.trans ((Cert.Reference10Ideal.Read.val_main_v67_eq _ _).trans (by rw [h1, h3])), (h c).2.2.2⟩

end Cert.Proof.SsdStepClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.AttnClaim
public import proofs.«01_k».proof.Proof.FfnClaim
public import proofs.«01_k».proof.Proof.FfnLastClaim
public import proofs.«01_k».proof.Proof.InProjClaim
public import proofs.«01_k».proof.Proof.OutProjClaim
public import proofs.«01_k».proof.Proof.PrepClaim
public import proofs.«01_k».proof.Proof.GlaStepClaim
public import proofs.«01_k».proof.Proof.SsdStepClaim
public import Idealize.ShloMosaic.Adequacy
public import Idealize.ShloMosaic.Init

@[expose] public section

noncomputable section

namespace Cert.Proof

open Idealize.ShloMosaic Idealize.SL.Sem Cert.Kernel

/-- Every claim of the certificate, from the calls' modules. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite_qk.Gen.facts,
  Cert.Proof.AttnClaims.frame_k,
  Cert.Proof.AttnClaims.frame_ki,
  Cert.Proof.AttnClaims.frame_ki_pre,
  Cert.Proof.AttnClaims.frame_ri,
  Cert.Proof.AttnClaims.frame_ri_pre,
  Cert.Proof.FfnClaims.frame_k,
  Cert.Proof.FfnClaims.frame_ki,
  Cert.Proof.FfnClaims.frame_ri,
  Cert.Proof.FfnLastClaims.frame_k,
  Cert.Proof.FfnLastClaims.frame_ki,
  Cert.Proof.FfnLastClaims.frame_ri,
  Cert.Proof.InProjClaims.frame_k,
  Cert.Proof.InProjClaims.frame_ki,
  Cert.Proof.InProjClaims.frame_ri,
  Cert.Proof.OutProjClaims.frame_k,
  Cert.Proof.OutProjClaims.frame_ki,
  Cert.Proof.OutProjClaims.frame_ri,
  Cert.Proof.OutProjOddClaims.frame_k,
  Cert.Proof.OutProjOddClaims.frame_ki,
  Cert.Proof.OutProjOddClaims.frame_ri,
  Cert.Proof.InProjOddClaims.frame_k,
  Cert.Proof.InProjOddClaims.frame_ki,
  Cert.Proof.InProjOddClaims.frame_ri,
  Cert.Proof.PrepClaims.frame_k,
  Cert.Proof.PrepClaims.frame_ki,
  Cert.Proof.PrepClaims.frame_ri,
  Cert.Proof.GlaStepClaims.frame_k,
  Cert.Proof.GlaStepClaims.frame_ki,
  Cert.Proof.GlaStepClaims.frame_ri,
  Cert.Proof.SsdStepClaims.frame_k,
  Cert.Proof.SsdStepClaims.frame_ki,
  Cert.Proof.SsdStepClaims.frame_ri,
  Cert.Proof.AttnClaims.preserves,
  Cert.Proof.AttnClaims.algebraic,
  Cert.Proof.FfnClaims.preserves,
  Cert.Proof.FfnClaims.algebraic,
  Cert.Proof.FfnLastClaims.preserves,
  Cert.Proof.FfnLastClaims.algebraic,
  Cert.Proof.InProjClaims.preserves,
  Cert.Proof.InProjClaims.algebraic,
  Cert.Proof.OutProjClaims.preserves,
  Cert.Proof.OutProjClaims.algebraic,
  Cert.Proof.OutProjOddClaims.preserves,
  Cert.Proof.OutProjOddClaims.algebraic,
  Cert.Proof.InProjOddClaims.preserves,
  Cert.Proof.InProjOddClaims.algebraic,
  Cert.Proof.PrepClaims.preserves,
  Cert.Proof.PrepClaims.algebraic,
  Cert.Proof.GlaStepClaims.preserves,
  Cert.Proof.GlaStepClaims.algebraic,
  Cert.Proof.SsdStepClaims.preserves,
  Cert.Proof.SsdStepClaims.algebraic⟩

end Cert.Proof

end
